-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v16) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v36) = v1 c
          ∧ r.2.mem ((c.tc : Thread Cert.Reference21Ideal.nD Cert.Reference21Ideal.τ).loc Cert.Reference21Ideal.main_v17) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v12) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v9) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v6_0)) (v1 : (c : Dev Cert.Kernel28Ideal.nD) → Buf (Elt Ideal) ((c.tc : Thread Cert.Kernel28Ideal.nD Cert.Kernel28Ideal.τ).loc Cert.Kernel28Ideal.main_v6_1)) (v2 : (c : Dev Cert.Kernel28Ideal.nD) → Buf (Elt Ideal) ((c.tc : Thread Cert.Kernel28Ideal.nD Cert.Kernel28Ideal.τ).loc Cert.Kernel28Ideal.main_v6_2)) (v3 : (c : Dev Cert.Kernel28Ideal.nD) → Buf (Elt Ideal) ((c.tc : Thread Cert.Kernel28Ideal.nD Cert.Kernel28Ideal.τ).loc Cert.Kernel28Ideal.main_v6_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v6_0) = v0 c
          ∧ r.2.mem ((c.tc : Thread Cert.Kernel28Ideal.nD Cert.Kernel28Ideal.τ).loc Cert.Kernel28Ideal.main_v6_1) = v1 c
          ∧ r.2.mem ((c.tc : Thread Cert.Kernel28Ideal.nD Cert.Kernel28Ideal.τ).loc Cert.Kernel28Ideal.main_v6_2) = v2 c
          ∧ r.2.mem ((c.tc : Thread Cert.Kernel28Ideal.nD Cert.Kernel28Ideal.τ).loc Cert.Kernel28Ideal.main_v6_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_v26) = v1 c
          ∧ r.2.mem ((c.tc : Thread Cert.Reference28Ideal.nD Cert.Reference28Ideal.τ).loc Cert.Reference28Ideal.main_v7) = v2 c
          ∧ r.2.mem ((c.tc : Thread Cert.Reference28Ideal.nD Cert.Reference28Ideal.τ).loc Cert.Reference28Ideal.main_v13) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v6_0)) (v1 : (c : Dev Cert.Kernel29Ideal.nD) → Buf (Elt Ideal) ((c.tc : Thread Cert.Kernel29Ideal.nD Cert.Kernel29Ideal.τ).loc Cert.Kernel29Ideal.main_v6_1)) (v2 : (c : Dev Cert.Kernel29Ideal.nD) → Buf (Elt Ideal) ((c.tc : Thread Cert.Kernel29Ideal.nD Cert.Kernel29Ideal.τ).loc Cert.Kernel29Ideal.main_v6_2)) (v3 : (c : Dev Cert.Kernel29Ideal.nD) → Buf (Elt Ideal) ((c.tc : Thread Cert.Kernel29Ideal.nD Cert.Kernel29Ideal.τ).loc Cert.Kernel29Ideal.main_v6_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v6_0) = v0 c
          ∧ r.2.mem ((c.tc : Thread Cert.Kernel29Ideal.nD Cert.Kernel29Ideal.τ).loc Cert.Kernel29Ideal.main_v6_1) = v1 c
          ∧ r.2.mem ((c.tc : Thread Cert.Kernel29Ideal.nD Cert.Kernel29Ideal.τ).loc Cert.Kernel29Ideal.main_v6_2) = v2 c
          ∧ r.2.mem ((c.tc : Thread Cert.Kernel29Ideal.nD Cert.Kernel29Ideal.τ).loc Cert.Kernel29Ideal.main_v6_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_v26) = v1 c
          ∧ r.2.mem ((c.tc : Thread Cert.Reference29Ideal.nD Cert.Reference29Ideal.τ).loc Cert.Reference29Ideal.main_v7) = v2 c
          ∧ r.2.mem ((c.tc : Thread Cert.Reference29Ideal.nD Cert.Reference29Ideal.τ).loc Cert.Reference29Ideal.main_v13) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v6_0)) (v1 : (c : Dev Cert.Kernel30Ideal.nD) → Buf (Elt Ideal) ((c.tc : Thread Cert.Kernel30Ideal.nD Cert.Kernel30Ideal.τ).loc Cert.Kernel30Ideal.main_v6_1)) (v2 : (c : Dev Cert.Kernel30Ideal.nD) → Buf (Elt Ideal) ((c.tc : Thread Cert.Kernel30Ideal.nD Cert.Kernel30Ideal.τ).loc Cert.Kernel30Ideal.main_v6_2)) (v3 : (c : Dev Cert.Kernel30Ideal.nD) → Buf (Elt Ideal) ((c.tc : Thread Cert.Kernel30Ideal.nD Cert.Kernel30Ideal.τ).loc Cert.Kernel30Ideal.main_v6_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v6_0) = v0 c
          ∧ r.2.mem ((c.tc : Thread Cert.Kernel30Ideal.nD Cert.Kernel30Ideal.τ).loc Cert.Kernel30Ideal.main_v6_1) = v1 c
          ∧ r.2.mem ((c.tc : Thread Cert.Kernel30Ideal.nD Cert.Kernel30Ideal.τ).loc Cert.Kernel30Ideal.main_v6_2) = v2 c
          ∧ r.2.mem ((c.tc : Thread Cert.Kernel30Ideal.nD Cert.Kernel30Ideal.τ).loc Cert.Kernel30Ideal.main_v6_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_v26) = v1 c
          ∧ r.2.mem ((c.tc : Thread Cert.Reference30Ideal.nD Cert.Reference30Ideal.τ).loc Cert.Reference30Ideal.main_v7) = v2 c
          ∧ r.2.mem ((c.tc : Thread Cert.Reference30Ideal.nD Cert.Reference30Ideal.τ).loc Cert.Reference30Ideal.main_v13) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v6_0)) (v1 : (c : Dev Cert.Kernel31Ideal.nD) → Buf (Elt Ideal) ((c.tc : Thread Cert.Kernel31Ideal.nD Cert.Kernel31Ideal.τ).loc Cert.Kernel31Ideal.main_v6_1)) (v2 : (c : Dev Cert.Kernel31Ideal.nD) → Buf (Elt Ideal) ((c.tc : Thread Cert.Kernel31Ideal.nD Cert.Kernel31Ideal.τ).loc Cert.Kernel31Ideal.main_v6_2)) (v3 : (c : Dev Cert.Kernel31Ideal.nD) → Buf (Elt Ideal) ((c.tc : Thread Cert.Kernel31Ideal.nD Cert.Kernel31Ideal.τ).loc Cert.Kernel31Ideal.main_v6_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v6_0) = v0 c
          ∧ r.2.mem ((c.tc : Thread Cert.Kernel31Ideal.nD Cert.Kernel31Ideal.τ).loc Cert.Kernel31Ideal.main_v6_1) = v1 c
          ∧ r.2.mem ((c.tc : Thread Cert.Kernel31Ideal.nD Cert.Kernel31Ideal.τ).loc Cert.Kernel31Ideal.main_v6_2) = v2 c
          ∧ r.2.mem ((c.tc : Thread Cert.Kernel31Ideal.nD Cert.Kernel31Ideal.τ).loc Cert.Kernel31Ideal.main_v6_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v6) = v2 c
          ∧ r.2.mem ((c.tc : Thread Cert.Reference31Ideal.nD Cert.Reference31Ideal.τ).loc Cert.Reference31Ideal.main_v12) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_v24) = v1 c
          ∧ r.2.mem ((c.tc : Thread Cert.Reference32Ideal.nD Cert.Reference32Ideal.τ).loc Cert.Reference32Ideal.main_v5) = v2 c
          ∧ r.2.mem ((c.tc : Thread Cert.Reference32Ideal.nD Cert.Reference32Ideal.τ).loc Cert.Reference32Ideal.main_v11) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v2) = v0 c
          ∧ r.2.mem ((c.tc : Thread Cert.Reference33Ideal.nD Cert.Reference33Ideal.τ).loc Cert.Reference33Ideal.main_v3) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v2) = v0 c
          ∧ r.2.mem ((c.tc : Thread Cert.Reference34Ideal.nD Cert.Reference34Ideal.τ).loc Cert.Reference34Ideal.main_v3) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v2) = v0 c
          ∧ r.2.mem ((c.tc : Thread Cert.Reference35Ideal.nD Cert.Reference35Ideal.τ).loc Cert.Reference35Ideal.main_v3) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v0) = v0 c
          ∧ r.2.mem ((c.tc : Thread Cert.Reference36Ideal.nD Cert.Reference36Ideal.τ).loc Cert.Reference36Ideal.main_v0) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v48) = v0 c
          ∧ r.2.mem ((c.tc : Thread Cert.Reference24Ideal.nD Cert.Reference24Ideal.τ).loc Cert.Reference24Ideal.main_v49) = v1 c
          ∧ r.2.mem ((c.tc : Thread Cert.Reference24Ideal.nD Cert.Reference24Ideal.τ).loc Cert.Reference24Ideal.main_v32) = v2 c
          ∧ r.2.mem ((c.tc : Thread Cert.Reference24Ideal.nD Cert.Reference24Ideal.τ).loc Cert.Reference24Ideal.main_v50) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel24 : Cert.Kernel24.Facts) (hKernel24Ideal : Cert.Kernel24Ideal.Facts) (hReference24Ideal : Cert.Reference24Ideal.Facts) (hKernel27 : Cert.Kernel27.Facts) (hKernel27Ideal : Cert.Kernel27Ideal.Facts) (hReference27Ideal : Cert.Reference27Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel24_Kernel24Ideal
    ∧ algebraic_Kernel24Ideal_Reference24Ideal (hKernel24Ideal := hKernel24Ideal) (hReference24Ideal := hReference24Ideal)
    ∧ preserves_Kernel27_Kernel27Ideal
    ∧ algebraic_Kernel27Ideal_Reference27Ideal (hKernel27Ideal := hKernel27Ideal) (hReference27Ideal := hReference27Ideal)
-- ==== Pre_finite.lean ====
abbrev S4096x1024 : Shape := ⟨2, ![4096, 1024]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x1024 .f32) (main_arg1 : FVec F S4096x2048 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S4096x1024 : Shape := ⟨2, ![4096, 1024]⟩
abbrev S4096x2048 : Shape := ⟨2, ![4096, 2048]⟩
abbrev S4096x16x64 : Shape := ⟨3, ![4096, 16, 64]⟩
abbrev S16x4096x64 : Shape := ⟨3, ![16, 4096, 64]⟩
abbrev S_ : Shape := ⟨0, ![]⟩
abbrev S4096x16x2x64 : Shape := ⟨4, ![4096, 16, 2, 64]⟩
abbrev S4096x16x1x64 : Shape := ⟨4, ![4096, 16, 1, 64]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096x16 : Shape := ⟨3, ![16, 4096, 16]⟩
abbrev S16x32x128x16 : Shape := ⟨4, ![16, 32, 128, 16]⟩
abbrev S16x32x16x128 : Shape := ⟨4, ![16, 32, 16, 128]⟩
abbrev S16x32x16x1x128 : Shape := ⟨5, ![16, 32, 16, 1, 128]⟩
abbrev S128x512 : Shape := ⟨2, ![128, 512]⟩
abbrev S8x1x16x1x128 : Shape := ⟨5, ![8, 1, 16, 1, 128]⟩
abbrev S128x256 : Shape := ⟨2, ![128, 256]⟩
abbrev S256x256 : Shape := ⟨2, ![256, 256]⟩
abbrev S128x128 : Shape := ⟨2, ![128, 128]⟩
abbrev S128x1 : Shape := ⟨2, ![128, 1]⟩
abbrev S256x128 : Shape := ⟨2, ![256, 128]⟩
abbrev S1x1x1x1x128 : Shape := ⟨5, ![1, 1, 1, 1, 128]⟩
abbrev S1x128 : Shape := ⟨2, ![1, 128]⟩
abbrev S128 : Shape := ⟨1, ![128]⟩

abbrev nBuf : Space → Nat
  | .hbm => 58
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x16x64, .f32⟩
  | .hbm, ⟨4, _⟩ => ⟨S16x4096x64, .f32⟩
  | .hbm, ⟨5, _⟩ => ⟨S_, .f32⟩
  | .hbm, ⟨6, _⟩ => ⟨S16x4096x64, .f32⟩
  | .hbm, ⟨7, _⟩ => ⟨S16x4096x64, .f32⟩
  | .hbm, ⟨8, _⟩ => ⟨S4096x16x2x64, .f32⟩
  | .hbm, ⟨9, _⟩ => ⟨S4096x16x1x64, .f32⟩
  | .hbm, ⟨10, _⟩ => ⟨S4096x16x64, .f32⟩
  | .hbm, ⟨11, _⟩ => ⟨S16x4096x64, .f32⟩
  | .hbm, ⟨12, _⟩ => ⟨S16x4096x4096, .f32⟩
  | .hbm, ⟨13, _⟩ => ⟨S4096, .i32⟩
  | .hbm, ⟨14, _⟩ => ⟨S1x4096, .i32⟩
  | .hbm, ⟨15, _⟩ => ⟨S4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S16x4096x4096, .f32⟩
  | .hbm, ⟨21, _⟩ => ⟨S_, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .i1⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S_, .f32⟩
  | .hbm, ⟨39, _⟩ => ⟨S16x4096x4096, .i1⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S_, .f32⟩
  | .hbm, ⟨44, _⟩ => ⟨S16x4096x4096, .f32⟩
  | .hbm, ⟨45, _⟩ => ⟨S16x4096x4096, .f32⟩
  | .hbm, ⟨46, _⟩ => ⟨S16x4096x16, .f32⟩
  | .hbm, ⟨47, _⟩ => ⟨S16x32x128x16, .f32⟩
  | .hbm, ⟨48, _⟩ => ⟨S16x32x16x128, .f32⟩
  | .hbm, ⟨49, _⟩ => ⟨S16x32x16x1x128, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S4096x2048, .bf16⟩
  | .hbm, ⟨55, _⟩ => ⟨S4096x1024, .bf16⟩
  | .hbm, ⟨56, _⟩ => ⟨S4096x1024, .bf16⟩
  | .hbm, ⟨57, _⟩ => ⟨S4096x2048, .f32⟩
  | .local _ .vmem, ⟨0, _⟩ => ⟨S128x512, .bf16⟩
  | .local _ .vmem, ⟨1, _⟩ => ⟨S128x512, .bf16⟩
  | .local _ .vmem, ⟨2, _⟩ => ⟨S4096x1024, .bf16⟩
  | .local _ .vmem, ⟨3, _⟩ => ⟨S128x512, .bf16⟩
  | .local _ .vmem, ⟨4, _⟩ => ⟨S128x512, .bf16⟩
  | .local _ .vmem, ⟨5, _⟩ => ⟨S8x1x16x1x128, .f32⟩
  | .local _ .vmem, ⟨6, _⟩ => ⟨S8x1x16x1x128, .f32⟩
  | .local _ .vmem, ⟨7, _⟩ => ⟨S128x512, .bf16⟩
  | .local _ .vmem, ⟨8, _⟩ => ⟨S128x512, .bf16⟩
  | .local _ .vmem, ⟨9, _⟩ => ⟨S4096x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_1 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30_0 : Ref sig .tc := ⟨.hbm, 56, rfl⟩
abbrev main_v30_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![2, 32], ![false, false]⟩

@[reducible] def k0_t1_loop (i : grid0.Coords) : Scf.Loop 32 :=
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_90 : BitVec 32 := 1#32
  ⟨c0_i32_88, v206, c1_i32_90⟩
def k0_mult1 (i : grid0.Coords) (k0_t1 : Fin (k0_t1_loop i).trips) : BitVec 32 :=
  let c0_i32_88 : BitVec 32 := 0#32
  let c1_i32_90 : BitVec 32 := 1#32
  let arg8 : BitVec 32 := Scf.iv c0_i32_88 c1_i32_90 k0_t1
  let c256_i32_271 : BitVec 32 := 256#32
  let v779 : BitVec 32 := Scalar.muli arg8 c256_i32_271
  v779
def k0_off1 (i : grid0.Coords) (k0_t1 : Fin (k0_t1_loop i).trips) : Fin 2 → Nat :=
  let c0_i32_88 : BitVec 32 := 0#32
  let c1_i32_90 : BitVec 32 := 1#32
  let arg8 : BitVec 32 := Scf.iv c0_i32_88 c1_i32_90 k0_t1
  let c256_i32_271 : BitVec 32 := 256#32
  let v779 : BitVec 32 := Scalar.muli arg8 c256_i32_271
  let v780 : BitVec 32 := v779
  let v781 : Index := Scalar.indexCast v780
  let c0_272 : Index := 0#32
  ![v781.toNat, 0]
def k0_off2 (i : grid0.Coords) (k0_t1 : Fin (k0_t1_loop i).trips) : Fin 2 → Nat :=
  let c0_i32_88 : BitVec 32 := 0#32
  let c1_i32_90 : BitVec 32 := 1#32
  let arg8 : BitVec 32 := Scf.iv c0_i32_88 c1_i32_90 k0_t1
  let c256_i32_271 : BitVec 32 := 256#32
  let v779 : BitVec 32 := Scalar.muli arg8 c256_i32_271
  let v780 : BitVec 32 := v779
  let v784 : Index := Scalar.indexCast v780
  let c128_273 : Index := 128#32
  ![v784.toNat, 128]
def k0_off3 (i : grid0.Coords) (k0_t1 : Fin (k0_t1_loop i).trips) : Fin 2 → Nat :=
  let c0_i32_88 : BitVec 32 := 0#32
  let c1_i32_90 : BitVec 32 := 1#32
  let arg8 : BitVec 32 := Scf.iv c0_i32_88 c1_i32_90 k0_t1
  let c256_i32_271 : BitVec 32 := 256#32
  let v779 : BitVec 32 := Scalar.muli arg8 c256_i32_271
  let v780 : BitVec 32 := v779
  let v787 : Index := Scalar.indexCast v780
  let c256_274 : Index := 256#32
  ![v787.toNat, 256]
def k0_off4 (i : grid0.Coords) (k0_t1 : Fin (k0_t1_loop i).trips) : Fin 2 → Nat :=
  let c0_i32_88 : BitVec 32 := 0#32
  let c1_i32_90 : BitVec 32 := 1#32
  let arg8 : BitVec 32 := Scf.iv c0_i32_88 c1_i32_90 k0_t1
  let c256_i32_271 : BitVec 32 := 256#32
  let v779 : BitVec 32 := Scalar.muli arg8 c256_i32_271
  let v780 : BitVec 32 := v779
  let v790 : Index := Scalar.indexCast v780
  let c384_275 : Index := 384#32
  ![v790.toNat, 384]
def k0_off5 (i : grid0.Coords) (k0_t1 : Fin (k0_t1_loop i).trips) : Fin 2 → Nat :=
  let c0_i32_88 : BitVec 32 := 0#32
  let c1_i32_90 : BitVec 32 := 1#32
  let arg8 : BitVec 32 := Scf.iv c0_i32_88 c1_i32_90 k0_t1
  let c256_i32_271 : BitVec 32 := 256#32
  let v779 : BitVec 32 := Scalar.muli arg8 c256_i32_271
  let v780 : BitVec 32 := v779
  let v793 : Index := Scalar.indexCast v780
  let c512_276 : Index := 512#32
  ![v793.toNat, 512]
def k0_off6 (i : grid0.Coords) (k0_t1 : Fin (k0_t1_loop i).trips) : Fin 2 → Nat :=
  let c0_i32_88 : BitVec 32 := 0#32
  let c1_i32_90 : BitVec 32 := 1#32
  let arg8 : BitVec 32 := Scf.iv c0_i32_88 c1_i32_90 k0_t1
  let c256_i32_271 : BitVec 32 := 256#32
  let v779 : BitVec 32 := Scalar.muli arg8 c256_i32_271
  let v780 : BitVec 32 := v779
  let v796 : Index := Scalar.indexCast v780
  let c640_277 : Index := 640#32
  ![v796.toNat, 640]
def k0_off7 (i : grid0.Coords) (k0_t1 : Fin (k0_t1_loop i).trips) : Fin 2 → Nat :=
  let c0_i32_88 : BitVec 32 := 0#32
  let c1_i32_90 : BitVec 32 := 1#32
  let arg8 : BitVec 32 := Scf.iv c0_i32_88 c1_i32_90 k0_t1
  let c256_i32_271 : BitVec 32 := 256#32
  let v779 : BitVec 32 := Scalar.muli arg8 c256_i32_271
  let v780 : BitVec 32 := v779
  let v799 : Index := Scalar.indexCast v780
  let c768_278 : Index := 768#32
  ![v799.toNat, 768]
def k0_off8 (i : grid0.Coords) (k0_t1 : Fin (k0_t1_loop i).trips) : Fin 2 → Nat :=
  let c0_i32_88 : BitVec 32 := 0#32
  let c1_i32_90 : BitVec 32 := 1#32
  let arg8 : BitVec 32 := Scf.iv c0_i32_88 c1_i32_90 k0_t1
  let c256_i32_271 : BitVec 32 := 256#32
  let v779 : BitVec 32 := Scalar.muli arg8 c256_i32_271
  let v780 : BitVec 32 := v779
  let v802 : Index := Scalar.indexCast v780
  let c896_279 : Index := 896#32
  ![v802.toNat, 896]
def k0_off9 (i : grid0.Coords) (k0_t1 : Fin (k0_t1_loop i).trips) : Fin 5 → Nat :=
  let c0_328 : Index := 0#32
  let c0_329 : Index := 0#32
  let c0_i32_88 : BitVec 32 := 0#32
  let c1_i32_90 : BitVec 32 := 1#32
  let arg8 : BitVec 32 := Scf.iv c0_i32_88 c1_i32_90 k0_t1
  let v917 : Index := Scalar.indexCast arg8
  let c0_330 : Index := 0#32
  let c0_331 : Index := 0#32
  ![0, 0, v917.toNat, 0, 0]
def k0_off10 (i : grid0.Coords) (k0_t1 : Fin (k0_t1_loop i).trips) : Fin 5 → Nat :=
  let c1_334 : Index := 1#32
  let c0_335 : Index := 0#32
  let c0_i32_88 : BitVec 32 := 0#32
  let c1_i32_90 : BitVec 32 := 1#32
  let arg8 : BitVec 32 := Scf.iv c0_i32_88 c1_i32_90 k0_t1
  let v933 : Index := Scalar.indexCast arg8
  let c0_336 : Index := 0#32
  let c0_337 : Index := 0#32
  ![1, 0, v933.toNat, 0, 0]
def k0_off11 (i : grid0.Coords) (k0_t1 : Fin (k0_t1_loop i).trips) : Fin 5 → Nat :=
  let c2_340 : Index := 2#32
  let c0_341 : Index := 0#32
  let c0_i32_88 : BitVec 32 := 0#32
  let c1_i32_90 : BitVec 32 := 1#32
  let arg8 : BitVec 32 := Scf.iv c0_i32_88 c1_i32_90 k0_t1
  let v949 : Index := Scalar.indexCast arg8
  let c0_342 : Index := 0#32
  let c0_343 : Index := 0#32
  ![2, 0, v949.toNat, 0, 0]
def k0_off12 (i : grid0.Coords) (k0_t1 : Fin (k0_t1_loop i).trips) : Fin 5 → Nat :=
  let c3_346 : Index := 3#32
  let c0_347 : Index := 0#32
  let c0_i32_88 : BitVec 32 := 0#32
  let c1_i32_90 : BitVec 32 := 1#32
  let arg8 : BitVec 32 := Scf.iv c0_i32_88 c1_i32_90 k0_t1
  let v965 : Index := Scalar.indexCast arg8
  let c0_348 : Index := 0#32
  let c0_349 : Index := 0#32
  ![3, 0, v965.toNat, 0, 0]
def k0_off13 (i : grid0.Coords) (k0_t1 : Fin (k0_t1_loop i).trips) : Fin 5 → Nat :=
  let c4_352 : Index := 4#32
  let c0_353 : Index := 0#32
  let c0_i32_88 : BitVec 32 := 0#32
  let c1_i32_90 : BitVec 32 := 1#32
  let arg8 : BitVec 32 := Scf.iv c0_i32_88 c1_i32_90 k0_t1
  let v981 : Index := Scalar.indexCast arg8
  let c0_354 : Index := 0#32
  let c0_355 : Index := 0#32
  ![4, 0, v981.toNat, 0, 0]
def k0_off14 (i : grid0.Coords) (k0_t1 : Fin (k0_t1_loop i).trips) : Fin 5 → Nat :=
  let c5_358 : Index := 5#32
  let c0_359 : Index := 0#32
  let c0_i32_88 : BitVec 32 := 0#32
  let c1_i32_90 : BitVec 32 := 1#32
  let arg8 : BitVec 32 := Scf.iv c0_i32_88 c1_i32_90 k0_t1
  let v997 : Index := Scalar.indexCast arg8
  let c0_360 : Index := 0#32
  let c0_361 : Index := 0#32
  ![5, 0, v997.toNat, 0, 0]
def k0_off15 (i : grid0.Coords) (k0_t1 : Fin (k0_t1_loop i).trips) : Fin 5 → Nat :=
  let c6_364 : Index := 6#32
  let c0_365 : Index := 0#32
  let c0_i32_88 : BitVec 32 := 0#32
  let c1_i32_90 : BitVec 32 := 1#32
  let arg8 : BitVec 32 := Scf.iv c0_i32_88 c1_i32_90 k0_t1
  let v1013 : Index := Scalar.indexCast arg8
  let c0_366 : Index := 0#32
  let c0_367 : Index := 0#32
  ![6, 0, v1013.toNat, 0, 0]
def k0_off16 (i : grid0.Coords) (k0_t1 : Fin (k0_t1_loop i).trips) : Fin 5 → Nat :=
  let c7_370 : Index := 7#32
  let c0_371 : Index := 0#32
  let c0_i32_88 : BitVec 32 := 0#32
  let c1_i32_90 : BitVec 32 := 1#32
  let arg8 : BitVec 32 := Scf.iv c0_i32_88 c1_i32_90 k0_t1
  let v1029 : Index := Scalar.indexCast arg8
  let c0_372 : Index := 0#32
  let c0_373 : Index := 0#32
  ![7, 0, v1029.toNat, 0, 0]
@[reducible] def k0_t2_loop (i : grid0.Coords) : Scf.Loop 32 :=
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let v203 : BitVec 32 := Scalar.addi c0_i32_88 v202
  let c1_i32_91 : BitVec 32 := 1#32
  ⟨v206, v203, c1_i32_91⟩
def k0_mult2 (i : grid0.Coords) (k0_t2 : Fin (k0_t2_loop i).trips) : BitVec 32 :=
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let c256_i32_271 : BitVec 32 := 256#32
  let v779 : BitVec 32 := Scalar.muli arg8 c256_i32_271
  v779
def k0_off17 (i : grid0.Coords) (k0_t2 : Fin (k0_t2_loop i).trips) : Fin 2 → Nat :=
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let c256_i32_271 : BitVec 32 := 256#32
  let v779 : BitVec 32 := Scalar.muli arg8 c256_i32_271
  let v780 : BitVec 32 := v779
  let v781 : Index := Scalar.indexCast v780
  let c0_272 : Index := 0#32
  ![v781.toNat, 0]
def k0_off18 (i : grid0.Coords) (k0_t2 : Fin (k0_t2_loop i).trips) : Fin 2 → Nat :=
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let c256_i32_271 : BitVec 32 := 256#32
  let v779 : BitVec 32 := Scalar.muli arg8 c256_i32_271
  let v780 : BitVec 32 := v779
  let v784 : Index := Scalar.indexCast v780
  let c128_273 : Index := 128#32
  ![v784.toNat, 128]
def k0_off19 (i : grid0.Coords) (k0_t2 : Fin (k0_t2_loop i).trips) : Fin 2 → Nat :=
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let c256_i32_271 : BitVec 32 := 256#32
  let v779 : BitVec 32 := Scalar.muli arg8 c256_i32_271
  let v780 : BitVec 32 := v779
  let v787 : Index := Scalar.indexCast v780
  let c256_274 : Index := 256#32
  ![v787.toNat, 256]
def k0_off20 (i : grid0.Coords) (k0_t2 : Fin (k0_t2_loop i).trips) : Fin 2 → Nat :=
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let c256_i32_271 : BitVec 32 := 256#32
  let v779 : BitVec 32 := Scalar.muli arg8 c256_i32_271
  let v780 : BitVec 32 := v779
  let v790 : Index := Scalar.indexCast v780
  let c384_275 : Index := 384#32
  ![v790.toNat, 384]
def k0_off21 (i : grid0.Coords) (k0_t2 : Fin (k0_t2_loop i).trips) : Fin 2 → Nat :=
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let c256_i32_271 : BitVec 32 := 256#32
  let v779 : BitVec 32 := Scalar.muli arg8 c256_i32_271
  let v780 : BitVec 32 := v779
  let v793 : Index := Scalar.indexCast v780
  let c512_276 : Index := 512#32
  ![v793.toNat, 512]
def k0_off22 (i : grid0.Coords) (k0_t2 : Fin (k0_t2_loop i).trips) : Fin 2 → Nat :=
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let c256_i32_271 : BitVec 32 := 256#32
  let v779 : BitVec 32 := Scalar.muli arg8 c256_i32_271
  let v780 : BitVec 32 := v779
  let v796 : Index := Scalar.indexCast v780
  let c640_277 : Index := 640#32
  ![v796.toNat, 640]
def k0_off23 (i : grid0.Coords) (k0_t2 : Fin (k0_t2_loop i).trips) : Fin 2 → Nat :=
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let c256_i32_271 : BitVec 32 := 256#32
  let v779 : BitVec 32 := Scalar.muli arg8 c256_i32_271
  let v780 : BitVec 32 := v779
  let v799 : Index := Scalar.indexCast v780
  let c768_278 : Index := 768#32
  ![v799.toNat, 768]
def k0_off24 (i : grid0.Coords) (k0_t2 : Fin (k0_t2_loop i).trips) : Fin 2 → Nat :=
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let c256_i32_271 : BitVec 32 := 256#32
  let v779 : BitVec 32 := Scalar.muli arg8 c256_i32_271
  let v780 : BitVec 32 := v779
  let v802 : Index := Scalar.indexCast v780
  let c896_279 : Index := 896#32
  ![v802.toNat, 896]
def k0_off25 (i : grid0.Coords) (k0_t2 : Fin (k0_t2_loop i).trips) : Fin 5 → Nat :=
  let c0_328 : Index := 0#32
  let c0_329 : Index := 0#32
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let v917 : Index := Scalar.indexCast arg8
  let c0_330 : Index := 0#32
  let c0_331 : Index := 0#32
  ![0, 0, v917.toNat, 0, 0]
def k0_off26 (i : grid0.Coords) (k0_t2 : Fin (k0_t2_loop i).trips) : Fin 5 → Nat :=
  let c1_334 : Index := 1#32
  let c0_335 : Index := 0#32
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let v933 : Index := Scalar.indexCast arg8
  let c0_336 : Index := 0#32
  let c0_337 : Index := 0#32
  ![1, 0, v933.toNat, 0, 0]
def k0_off27 (i : grid0.Coords) (k0_t2 : Fin (k0_t2_loop i).trips) : Fin 5 → Nat :=
  let c2_340 : Index := 2#32
  let c0_341 : Index := 0#32
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let v949 : Index := Scalar.indexCast arg8
  let c0_342 : Index := 0#32
  let c0_343 : Index := 0#32
  ![2, 0, v949.toNat, 0, 0]
def k0_off28 (i : grid0.Coords) (k0_t2 : Fin (k0_t2_loop i).trips) : Fin 5 → Nat :=
  let c3_346 : Index := 3#32
  let c0_347 : Index := 0#32
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let v965 : Index := Scalar.indexCast arg8
  let c0_348 : Index := 0#32
  let c0_349 : Index := 0#32
  ![3, 0, v965.toNat, 0, 0]
def k0_off29 (i : grid0.Coords) (k0_t2 : Fin (k0_t2_loop i).trips) : Fin 5 → Nat :=
  let c4_352 : Index := 4#32
  let c0_353 : Index := 0#32
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let v981 : Index := Scalar.indexCast arg8
  let c0_354 : Index := 0#32
  let c0_355 : Index := 0#32
  ![4, 0, v981.toNat, 0, 0]
def k0_off30 (i : grid0.Coords) (k0_t2 : Fin (k0_t2_loop i).trips) : Fin 5 → Nat :=
  let c5_358 : Index := 5#32
  let c0_359 : Index := 0#32
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let v997 : Index := Scalar.indexCast arg8
  let c0_360 : Index := 0#32
  let c0_361 : Index := 0#32
  ![5, 0, v997.toNat, 0, 0]
def k0_off31 (i : grid0.Coords) (k0_t2 : Fin (k0_t2_loop i).trips) : Fin 5 → Nat :=
  let c6_364 : Index := 6#32
  let c0_365 : Index := 0#32
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let v1013 : Index := Scalar.indexCast arg8
  let c0_366 : Index := 0#32
  let c0_367 : Index := 0#32
  ![6, 0, v1013.toNat, 0, 0]
def k0_off32 (i : grid0.Coords) (k0_t2 : Fin (k0_t2_loop i).trips) : Fin 5 → Nat :=
  let c7_370 : Index := 7#32
  let c0_371 : Index := 0#32
  let c0_i32_88 : BitVec 32 := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v202 : BitVec 32 := Scalar.subi v33 c0_i32_88
  let c1_i32_89 : BitVec 32 := 1#32
  let v204 : BitVec 32 := Scalar.divsi v202 c1_i32_89
  let v205 : BitVec 32 := Scalar.muli v204 c1_i32_89
  let v206 : BitVec 32 := Scalar.addi c0_i32_88 v205
  let c1_i32_91 : BitVec 32 := 1#32
  let arg8 : BitVec 32 := Scf.iv v206 c1_i32_91 k0_t2
  let v1029 : Index := Scalar.indexCast arg8
  let c0_372 : Index := 0#32
  let c0_373 : Index := 0#32
  ![7, 0, v1029.toNat, 0, 0]
def k0_mult3 (i : grid0.Coords) : BitVec 32 :=
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_92 : BitVec 32 := 256#32
  let v209 : BitVec 32 := Scalar.muli v33 c256_i32_92
  v209
def k0_off33 (i : grid0.Coords) : Fin 2 → Nat :=
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_92 : BitVec 32 := 256#32
  let v209 : BitVec 32 := Scalar.muli v33 c256_i32_92
  let v210 : BitVec 32 := v209
  let v211 : Index := Scalar.indexCast v210
  let c0_93 : Index := 0#32
  ![v211.toNat, 0]
def k0_off34 (i : grid0.Coords) : Fin 2 → Nat :=
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_92 : BitVec 32 := 256#32
  let v209 : BitVec 32 := Scalar.muli v33 c256_i32_92
  let v210 : BitVec 32 := v209
  let v214 : Index := Scalar.indexCast v210
  let c128_94 : Index := 128#32
  ![v214.toNat, 128]
def k0_off35 (i : grid0.Coords) : Fin 2 → Nat :=
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_92 : BitVec 32 := 256#32
  let v209 : BitVec 32 := Scalar.muli v33 c256_i32_92
  let v210 : BitVec 32 := v209
  let v217 : Index := Scalar.indexCast v210
  let c256_95 : Index := 256#32
  ![v217.toNat, 256]
def k0_off36 (i : grid0.Coords) : Fin 2 → Nat :=
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_92 : BitVec 32 := 256#32
  let v209 : BitVec 32 := Scalar.muli v33 c256_i32_92
  let v210 : BitVec 32 := v209
  let v220 : Index := Scalar.indexCast v210
  let c384_96 : Index := 384#32
  ![v220.toNat, 384]
def k0_off37 (i : grid0.Coords) : Fin 2 → Nat :=
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_92 : BitVec 32 := 256#32
  let v209 : BitVec 32 := Scalar.muli v33 c256_i32_92
  let v210 : BitVec 32 := v209
  let v223 : Index := Scalar.indexCast v210
  let c512 : Index := 512#32
  ![v223.toNat, 512]
def k0_off38 (i : grid0.Coords) : Fin 2 → Nat :=
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_92 : BitVec 32 := 256#32
  let v209 : BitVec 32 := Scalar.muli v33 c256_i32_92
  let v210 : BitVec 32 := v209
  let v226 : Index := Scalar.indexCast v210
  let c640 : Index := 640#32
  ![v226.toNat, 640]
def k0_off39 (i : grid0.Coords) : Fin 2 → Nat :=
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_92 : BitVec 32 := 256#32
  let v209 : BitVec 32 := Scalar.muli v33 c256_i32_92
  let v210 : BitVec 32 := v209
  let v229 : Index := Scalar.indexCast v210
  let c768 : Index := 768#32
  ![v229.toNat, 768]
def k0_off40 (i : grid0.Coords) : Fin 2 → Nat :=
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let c256_i32_92 : BitVec 32 := 256#32
  let v209 : BitVec 32 := Scalar.muli v33 c256_i32_92
  let v210 : BitVec 32 := v209
  let v232 : Index := Scalar.indexCast v210
  let c896 : Index := 896#32
  ![v232.toNat, 896]
def k0_off41 (i : grid0.Coords) : Fin 5 → Nat :=
  let c0_154 : Index := 0#32
  let c0_155 : Index := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v367 : Index := Scalar.indexCast v33
  let c0_156 : Index := 0#32
  let c0_157 : Index := 0#32
  ![0, 0, v367.toNat, 0, 0]
def k0_off42 (i : grid0.Coords) : Fin 5 → Nat :=
  let c1 : Index := 1#32
  let c0_160 : Index := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v383 : Index := Scalar.indexCast v33
  let c0_161 : Index := 0#32
  let c0_162 : Index := 0#32
  ![1, 0, v383.toNat, 0, 0]
def k0_off43 (i : grid0.Coords) : Fin 5 → Nat :=
  let c2 : Index := 2#32
  let c0_165 : Index := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v399 : Index := Scalar.indexCast v33
  let c0_166 : Index := 0#32
  let c0_167 : Index := 0#32
  ![2, 0, v399.toNat, 0, 0]
def k0_off44 (i : grid0.Coords) : Fin 5 → Nat :=
  let c3 : Index := 3#32
  let c0_170 : Index := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v415 : Index := Scalar.indexCast v33
  let c0_171 : Index := 0#32
  let c0_172 : Index := 0#32
  ![3, 0, v415.toNat, 0, 0]
def k0_off45 (i : grid0.Coords) : Fin 5 → Nat :=
  let c4 : Index := 4#32
  let c0_175 : Index := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v431 : Index := Scalar.indexCast v33
  let c0_176 : Index := 0#32
  let c0_177 : Index := 0#32
  ![4, 0, v431.toNat, 0, 0]
def k0_off46 (i : grid0.Coords) : Fin 5 → Nat :=
  let c5 : Index := 5#32
  let c0_180 : Index := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v447 : Index := Scalar.indexCast v33
  let c0_181 : Index := 0#32
  let c0_182 : Index := 0#32
  ![5, 0, v447.toNat, 0, 0]
def k0_off47 (i : grid0.Coords) : Fin 5 → Nat :=
  let c6 : Index := 6#32
  let c0_185 : Index := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v463 : Index := Scalar.indexCast v33
  let c0_186 : Index := 0#32
  let c0_187 : Index := 0#32
  ![6, 0, v463.toNat, 0, 0]
def k0_off48 (i : grid0.Coords) : Fin 5 → Nat :=
  let c7 : Index := 7#32
  let c0_190 : Index := 0#32
  let arg1 : BitVec 32 := BitVec.ofNat 32 (i 1).val
  let c128_i32 : BitVec 32 := 128#32
  let v16 : BitVec 32 := Scalar.muli arg1 c128_i32
  let c0_i32_1 : BitVec 32 := 0#32
  let v18 : BitVec 1 := Scalar.cmpi .sgt v16 c0_i32_1
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32 : BitVec 32 := 1#32
  let v32 : BitVec 32 := Scalar.subi v17 c1_i32
  let v33 : BitVec 32 := Scalar.select v31 v32 v17
  let v479 : Index := Scalar.indexCast v33
  let c0_191 : Index := 0#32
  let c0_192 : Index := 0#32
  ![7, 0, v479.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x16x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4096x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== ReferenceIdeal.lean ====
abbrev S4096x1024 : Shape := ⟨2, ![4096, 1024]⟩
abbrev S4096x2048 : Shape := ⟨2, ![4096, 2048]⟩
abbrev S4096x16x64 : Shape := ⟨3, ![4096, 16, 64]⟩
abbrev S16x4096x64 : Shape := ⟨3, ![16, 4096, 64]⟩
abbrev S_ : Shape := ⟨0, ![]⟩
abbrev S4096x16x2x64 : Shape := ⟨4, ![4096, 16, 2, 64]⟩
abbrev S4096x16x1x64 : Shape := ⟨4, ![4096, 16, 1, 64]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩

abbrev nBuf : Space → Nat
  | .hbm => 138
  | .vmem => 0
  | .smem => 0
  | _ => 0

abbrev hbmTy0_0 (i : Nat) : BufTy := match i % 128 with
  | 0 => ⟨S4096x1024, .f32⟩
  | 1 => ⟨S4096x2048, .f32⟩
  | 2 => ⟨S4096x1024, .f32⟩
  | 3 => ⟨S4096x16x64, .f32⟩
  | 4 => ⟨S16x4096x64, .f32⟩
  | 5 => ⟨S_, .f32⟩
  | 6 => ⟨S16x4096x64, .f32⟩
  | 7 => ⟨S16x4096x64, .f32⟩
  | 8 => ⟨S4096x16x2x64, .f32⟩
  | 9 => ⟨S4096x16x1x64, .f32⟩
  | 10 => ⟨S4096x16x64, .f32⟩
  | 11 => ⟨S16x4096x64, .f32⟩
  | 12 => ⟨S16x4096x4096, .f32⟩
  | 13 => ⟨S4096, .i32⟩
  | 14 => ⟨S1x4096, .i32⟩
  | 15 => ⟨S4096, .i32⟩
  | 16 => ⟨S4096x1, .i32⟩
  | 17 => ⟨S4096x4096, .i32⟩
  | 18 => ⟨S4096x4096, .i32⟩
  | 19 => ⟨S4096x4096, .i1⟩
  | 20 => ⟨S16x4096x4096, .f32⟩
  | 21 => ⟨S_, .f32⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .i1⟩
  | 27 => ⟨S16x4096x4096, .f32⟩
  | 28 => ⟨S16x4096x4096, .f32⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S_, .f32⟩
  | 36 => ⟨S16x4096x4096, .f32⟩
  | 37 => ⟨S16x4096x4096, .i1⟩
  | 38 => ⟨S_, .f32⟩
  | 39 => ⟨S16x4096x4096, .f32⟩
  | 40 => ⟨S16x4096x4096, .f32⟩
  | 41 => ⟨S_, .f32⟩
  | 42 => ⟨S16x4096x4096, .f32⟩
  | 43 => ⟨S16x4096x4096, .i1⟩
  | 44 => ⟨S_, .f32⟩
  | 45 => ⟨S16x4096x4096, .f32⟩
  | 46 => ⟨S16x4096x4096, .f32⟩
  | 47 => ⟨S16x4096x4096, .f32⟩
  | 48 => ⟨S16x4096x4096, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S16x4096x4096, .f32⟩
  | 57 => ⟨S16x4096x4096, .i1⟩
  | 58 => ⟨S_, .f32⟩
  | 59 => ⟨S16x4096x4096, .f32⟩
  | 60 => ⟨S16x4096x4096, .f32⟩
  | 61 => ⟨S16x4096x4096, .f32⟩
  | 62 => ⟨S16x4096x4096, .f32⟩
  | 63 => ⟨S16x4096x4096, .f32⟩
  | 64 => ⟨S_, .f32⟩
  | 65 => ⟨S16x4096x4096, .f32⟩
  | 66 => ⟨S16x4096x4096, .f32⟩
  | 67 => ⟨S16x4096x4096, .f32⟩
  | 68 => ⟨S16x4096x4096, .f32⟩
  | 69 => ⟨S_, .f32⟩
  | 70 => ⟨S_, .f32⟩
  | 71 => ⟨S16x4096x4096, .i1⟩
  | 72 => ⟨S16x4096x4096, .f32⟩
  | 73 => ⟨S16x4096x4096, .f32⟩
  | 74 => ⟨S_, .f32⟩
  | 75 => ⟨S16x4096x4096, .f32⟩
  | 76 => ⟨S_, .f32⟩
  | 77 => ⟨S_, .f32⟩
  | 78 => ⟨S16x4096x4096, .f32⟩
  | 79 => ⟨S16x4096x4096, .f32⟩
  | 80 => ⟨S4096x16x2x64, .f32⟩
  | 81 => ⟨S4096x16x1x64, .f32⟩
  | 82 => ⟨S4096x16x64, .f32⟩
  | 83 => ⟨S16x4096x64, .f32⟩
  | 84 => ⟨S16x4096x4096, .f32⟩
  | 85 => ⟨S16x4096x4096, .f32⟩
  | 86 => ⟨S_, .f32⟩
  | 87 => ⟨S_, .f32⟩
  | 88 => ⟨S16x4096x4096, .i1⟩
  | 89 => ⟨S16x4096x4096, .f32⟩
  | 90 => ⟨S16x4096x4096, .f32⟩
  | 91 => ⟨S_, .f32⟩
  | 92 => ⟨S16x4096x4096, .f32⟩
  | 93 => ⟨S16x4096x64, .f32⟩
  | 94 => ⟨S4096x16x64, .f32⟩
  | 95 => ⟨S4096x1024, .f32⟩
  | 96 => ⟨S4096x16x64, .f32⟩
  | 97 => ⟨S16x4096x64, .f32⟩
  | 98 => ⟨S16x64x4096, .f32⟩
  | 99 => ⟨S16x4096x64, .f32⟩
  | 100 => ⟨S16x4096x4096, .f32⟩
  | 101 => ⟨S_, .f32⟩
  | 102 => ⟨S16x4096x4096, .f32⟩
  | 103 => ⟨S16x4096x4096, .f32⟩
  | 104 => ⟨S16x4096x4096, .f32⟩
  | 105 => ⟨S4096x16x64, .f32⟩
  | 106 => ⟨S4096x16x1x64, .f32⟩
  | 107 => ⟨S_, .f32⟩
  | 108 => ⟨S4096x16x2x64, .f32⟩
  | 109 => ⟨S4096x2048, .f32⟩
  | 110 => ⟨S16x4096x4096, .f32⟩
  | 111 => ⟨S_, .f32⟩
  | 112 => ⟨S_, .f32⟩
  | 113 => ⟨S16x4096x4096, .f32⟩
  | 114 => ⟨S16x4096x4096, .f32⟩
  | 115 => ⟨S_, .f32⟩
  | 116 => ⟨S16x4096x4096, .f32⟩
  | 117 => ⟨S16x4096x4096, .f32⟩
  | 118 => ⟨S16x4096x4096, .f32⟩
  | 119 => ⟨S16x4096x4096, .f32⟩
  | 120 => ⟨S16x4096x4096, .f32⟩
  | 121 => ⟨S16x4096x4096, .f32⟩
  | 122 => ⟨S16x4096x4096, .f32⟩
  | 123 => ⟨S16x4096x4096, .f32⟩
  | 124 => ⟨S16x4096x64, .f32⟩
  | 125 => ⟨S16x4096x64, .f32⟩
  | 126 => ⟨S4096x16x64, .f32⟩
  | 127 => ⟨S4096x16x1x64, .f32⟩
  | _ => ⟨S4096x1024, .f32⟩

abbrev hbmTy0_1 (i : Nat) : BufTy := match i % 128 with
  | 0 => ⟨S_, .f32⟩
  | 1 => ⟨S4096x16x2x64, .f32⟩
  | 2 => ⟨S4096x2048, .f32⟩
  | 3 => ⟨S4096x2048, .f32⟩
  | 4 => ⟨S_, .f32⟩
  | 5 => ⟨S16x4096x64, .f32⟩
  | 6 => ⟨S16x4096x64, .f32⟩
  | 7 => ⟨S4096x16x64, .f32⟩
  | 8 => ⟨S4096x1024, .f32⟩
  | 9 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v16_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v16_2 : Ref sig .tc := ⟨.hbm, 66, rfl⟩
abbrev main_v16_0 : Ref sig .tc := ⟨.hbm, 67, rfl⟩
abbrev main_v17 : Ref sig .tc := ⟨.hbm, 68, rfl⟩
abbrev main_cst_0 : Ref sig .tc := ⟨.hbm, 69, rfl⟩
abbrev main_call1_v0 : Ref sig .tc := ⟨.hbm, 70, rfl⟩
abbrev main_v18_1 : Ref sig .tc := ⟨.hbm, 71, rfl⟩
abbrev main_call1_v2 : Ref sig .tc := ⟨.hbm, 72, rfl⟩
abbrev main_v18_0 : Ref sig .tc := ⟨.hbm, 73, rfl⟩
abbrev main_call1_cst : Ref sig .tc := ⟨.hbm, 74, rfl⟩
abbrev main_v18_2 : Ref sig .tc := ⟨.hbm, 75, rfl⟩
abbrev main_call2_cst : Ref sig .tc := ⟨.hbm, 76, rfl⟩
abbrev main_call2_v0 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_cst_1 : Ref sig .tc := ⟨.hbm, 86, rfl⟩
abbrev main_call3_v0 : Ref sig .tc := ⟨.hbm, 87, rfl⟩
abbrev main_v27_1 : Ref sig .tc := ⟨.hbm, 88, rfl⟩
abbrev main_call3_v2 : Ref sig .tc := ⟨.hbm, 89, rfl⟩
abbrev main_v27_0 : Ref sig .tc := ⟨.hbm, 90, rfl⟩
abbrev main_call3_cst : Ref sig .tc := ⟨.hbm, 91, rfl⟩
abbrev main_v27_2 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_call4_cst : Ref sig .tc := ⟨.hbm, 101, rfl⟩
abbrev main_call4_v0 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_2 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_call5_cst : Ref sig .tc := ⟨.hbm, 111, rfl⟩
abbrev main_call5_v0 : Ref sig .tc := ⟨.hbm, 112, rfl⟩
abbrev main_v43 : Ref sig .tc := ⟨.hbm, 113, rfl⟩
abbrev main_v44 : Ref sig .tc := ⟨.hbm, 114, rfl⟩
abbrev main_call6_cst : Ref sig .tc := ⟨.hbm, 115, rfl⟩
abbrev main_call6_v0 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_call7_v0 : Ref sig .tc := ⟨.hbm, 120, rfl⟩
abbrev main_call7_v1 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_cst_3 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_cst_4 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩

abbrev nD : Nat := 1
abbrev τ : Topo := Topo.v7x

variable {F : FTy → Type} [FloatOps F]
-- ==== Kernel2.lean ====
abbrev S4096x5632 : Shape := ⟨2, ![4096, 5632]⟩
abbrev S1024x5632 : Shape := ⟨2, ![1024, 5632]⟩
abbrev S4096x1024 : Shape := ⟨2, ![4096, 1024]⟩
abbrev S512x5632 : Shape := ⟨2, ![512, 5632]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S512x5632, .bf16⟩
  | .local _ .vmem, ⟨1, _⟩ => ⟨S512x5632, .bf16⟩
  | .local _ .vmem, ⟨2, _⟩ => ⟨S512x5632, .bf16⟩
  | .local _ .vmem, ⟨3, _⟩ => ⟨S512x5632, .bf16⟩
  | .local _ .vmem, ⟨4, _⟩ => ⟨S512x512, .f32⟩
  | .local _ .vmem, ⟨5, _⟩ => ⟨S512x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S1024x5632 : Shape := ⟨2, ![1024, 5632]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S1024x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .f32⟩
  | .local _ .vmem, ⟨3, _⟩ => ⟨S4096x512, .f32⟩
  | .local _ .vmem, ⟨4, _⟩ => ⟨S512x512, .bf16⟩
  | .local _ .vmem, ⟨5, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1024x2048, .bf16⟩
  | .hbm, ⟨2, _⟩ => ⟨S4096x1024, .f32⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference19Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S4096x1024 : Shape := ⟨2, ![4096, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S4096x1024 : Shape := ⟨2, ![4096, 1024]⟩
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2048, .f32⟩
  | .hbm, ⟨21, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel21.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference21Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel25.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel26.lean ====
abbrev S4096x1024 : Shape := ⟨2, ![4096, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S4096x1024 : Shape := ⟨2, ![4096, 1024]⟩
abbrev S4096x2048 : Shape := ⟨2, ![4096, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel28.lean ====
abbrev S1088x1024 : Shape := ⟨2, ![1088, 1024]⟩
abbrev S3x1088x1024 : Shape := ⟨3, ![3, 1088, 1024]⟩
abbrev S1x1088x1024 : Shape := ⟨3, ![1, 1088, 1024]⟩
abbrev S272x1024 : Shape := ⟨2, ![272, 1024]⟩

abbrev nBuf : Space → Nat
  | .hbm => 15
  | .vmem => 22
  | .smem => 0
  | _ => 0

abbrev bufTy : (tb : Table) → Fin (tcTables nBuf tb) → BufTy
  | .hbm, ⟨0, _⟩ => ⟨S1088x1024, .f32⟩
  | .hbm, ⟨1, _⟩ => ⟨S1088x1024, .f32⟩
  | .hbm, ⟨2, _⟩ => ⟨S1088x1024, .f32⟩
  | .hbm, ⟨3, _⟩ => ⟨S1088x1024, .f32⟩
  | .hbm, ⟨4, _⟩ => ⟨S3x1088x1024, .bf16⟩
  | .hbm, ⟨5, _⟩ => ⟨S1x1088x1024, .bf16⟩
  | .hbm, ⟨6, _⟩ => ⟨S1088x1024, .bf16⟩
  | .hbm, ⟨7, _⟩ => ⟨S1x1088x1024, .bf16⟩
  | .hbm, ⟨8, _⟩ => ⟨S1088x1024, .bf16⟩
  | .hbm, ⟨9, _⟩ => ⟨S1x1088x1024, .bf16⟩
  | .hbm, ⟨10, _⟩ => ⟨S1088x1024, .bf16⟩
  | .hbm, ⟨11, _⟩ => ⟨S1088x1024, .f32⟩
  | .hbm, ⟨12, _⟩ => ⟨S1088x1024, .f32⟩
  | .hbm, ⟨13, _⟩ => ⟨S1088x1024, .f32⟩
  | .hbm, ⟨14, _⟩ => ⟨S1088x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S272x1024, .bf16⟩
  | .local _ .vmem, ⟨9, _⟩ => ⟨S272x1024, .bf16⟩
  | .local _ .vmem, ⟨10, _⟩ => ⟨S272x1024, .bf16⟩
  | .local _ .vmem, ⟨11, _⟩ => ⟨S272x1024, .bf16⟩
  | .local _ .vmem, ⟨12, _⟩ => ⟨S272x1024, .bf16⟩
  | .local _ .vmem, ⟨13, _⟩ => ⟨S272x1024, .bf16⟩
  | .local _ .vmem, ⟨14, _⟩ => ⟨S272x1024, .f32⟩
  | .local _ .vmem, ⟨15, _⟩ => ⟨S272x1024, .f32⟩
  | .local _ .vmem, ⟨16, _⟩ => ⟨S272x1024, .f32⟩
  | .local _ .vmem, ⟨17, _⟩ => ⟨S272x1024, .f32⟩
  | .local _ .vmem, ⟨18, _⟩ => ⟨S272x1024, .f32⟩
  | .local _ .vmem, ⟨19, _⟩ => ⟨S272x1024, .f32⟩
  | .local _ .vmem, ⟨20, _⟩ => ⟨S272x1024, .f32⟩
  | .local _ .vmem, ⟨21, _⟩ => ⟨S272x1024, .f32⟩
  | _, _ => ⟨S1088x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S272x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S272x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S272x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel28Ideal.lean ====
abbrev S1088x1024 : Shape := ⟨2, ![1088, 1024]⟩
abbrev S3x1088x1024 : Shape := ⟨3, ![3, 1088, 1024]⟩
abbrev S1x1088x1024 : Shape := ⟨3, ![1, 1088, 1024]⟩
abbrev S272x1024 : Shape := ⟨2, ![272, 1024]⟩

abbrev nBuf : Space → Nat
  | .hbm => 15
  | .vmem => 22
  | .smem => 0
  | _ => 0

abbrev bufTy : (tb : Table) → Fin (tcTables nBuf tb) → BufTy
  | .hbm, ⟨0, _⟩ => ⟨S1088x1024, .f32⟩
  | .hbm, ⟨1, _⟩ => ⟨S1088x1024, .f32⟩
  | .hbm, ⟨2, _⟩ => ⟨S1088x1024, .f32⟩
  | .hbm, ⟨3, _⟩ => ⟨S1088x1024, .f32⟩
  | .hbm, ⟨4, _⟩ => ⟨S3x1088x1024, .bf16⟩
  | .hbm, ⟨5, _⟩ => ⟨S1x1088x1024, .bf16⟩
  | .hbm, ⟨6, _⟩ => ⟨S1088x1024, .bf16⟩
  | .hbm, ⟨7, _⟩ => ⟨S1x1088x1024, .bf16⟩
  | .hbm, ⟨8, _⟩ => ⟨S1088x1024, .bf16⟩
  | .hbm, ⟨9, _⟩ => ⟨S1x1088x1024, .bf16⟩
  | .hbm, ⟨10, _⟩ => ⟨S1088x1024, .bf16⟩
  | .hbm, ⟨11, _⟩ => ⟨S1088x1024, .f32⟩
  | .hbm, ⟨12, _⟩ => ⟨S1088x1024, .f32⟩
  | .hbm, ⟨13, _⟩ => ⟨S1088x1024, .f32⟩
  | .hbm, ⟨14, _⟩ => ⟨S1088x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S272x1024, .bf16⟩
  | .local _ .vmem, ⟨9, _⟩ => ⟨S272x1024, .bf16⟩
  | .local _ .vmem, ⟨10, _⟩ => ⟨S272x1024, .bf16⟩
  | .local _ .vmem, ⟨11, _⟩ => ⟨S272x1024, .bf16⟩
  | .local _ .vmem, ⟨12, _⟩ => ⟨S272x1024, .bf16⟩
  | .local _ .vmem, ⟨13, _⟩ => ⟨S272x1024, .bf16⟩
  | .local _ .vmem, ⟨14, _⟩ => ⟨S272x1024, .f32⟩
  | .local _ .vmem, ⟨15, _⟩ => ⟨S272x1024, .f32⟩
  | .local _ .vmem, ⟨16, _⟩ => ⟨S272x1024, .f32⟩
  | .local _ .vmem, ⟨17, _⟩ => ⟨S272x1024, .f32⟩
  | .local _ .vmem, ⟨18, _⟩ => ⟨S272x1024, .f32⟩
  | .local _ .vmem, ⟨19, _⟩ => ⟨S272x1024, .f32⟩
  | .local _ .vmem, ⟨20, _⟩ => ⟨S272x1024, .f32⟩
  | .local _ .vmem, ⟨21, _⟩ => ⟨S272x1024, .f32⟩
  | _, _ => ⟨S1088x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S272x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S272x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S272x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference28Ideal.lean ====
abbrev S1088x1024 : Shape := ⟨2, ![1088, 1024]⟩
abbrev S3x1088x1024 : Shape := ⟨3, ![3, 1088, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1088x1024, .f32⟩
  | .hbm, ⟨1, _⟩ => ⟨S1088x1024, .f32⟩
  | .hbm, ⟨2, _⟩ => ⟨S1088x1024, .f32⟩
  | .hbm, ⟨3, _⟩ => ⟨S1088x1024, .f32⟩
  | .hbm, ⟨4, _⟩ => ⟨S3x1088x1024, .bf16⟩
  | .hbm, ⟨5, _⟩ => ⟨S3x1088x1024, .f32⟩
  | .hbm, ⟨6, _⟩ => ⟨S_, .f32⟩
  | .hbm, ⟨7, _⟩ => ⟨S1088x1024, .f32⟩
  | .hbm, ⟨8, _⟩ => ⟨S1088x1024, .f32⟩
  | .hbm, ⟨9, _⟩ => ⟨S_, .f32⟩
  | .hbm, ⟨10, _⟩ => ⟨S1088x1024, .f32⟩
  | .hbm, ⟨11, _⟩ => ⟨S1088x1024, .f32⟩
  | .hbm, ⟨12, _⟩ => ⟨S_, .f32⟩
  | .hbm, ⟨13, _⟩ => ⟨S1088x1024, .f32⟩
  | .hbm, ⟨14, _⟩ => ⟨S1088x1024, .f32⟩
  | .hbm, ⟨15, _⟩ => ⟨S1088x1024, .f32⟩
  | .hbm, ⟨16, _⟩ => ⟨S_, .f32⟩
  | .hbm, ⟨17, _⟩ => ⟨S1088x1024, .f32⟩
  | .hbm, ⟨18, _⟩ => ⟨S1088x1024, .f32⟩
  | .hbm, ⟨19, _⟩ => ⟨S1088x1024, .f32⟩
  | .hbm, ⟨20, _⟩ => ⟨S_, .f32⟩
  | .hbm, ⟨21, _⟩ => ⟨S1088x1024, .f32⟩
  | .hbm, ⟨22, _⟩ => ⟨S1088x1024, .f32⟩
  | .hbm, ⟨23, _⟩ => ⟨S1088x1024, .f32⟩
  | .hbm, ⟨24, _⟩ => ⟨S_, .f32⟩
  | .hbm, ⟨25, _⟩ => ⟨S1088x1024, .f32⟩
  | .hbm, ⟨26, _⟩ => ⟨S1088x1024, .f32⟩
  | .hbm, ⟨27, _⟩ => ⟨S_, .f32⟩
  | .hbm, ⟨28, _⟩ => ⟨S1088x1024, .f32⟩
  | .hbm, ⟨29, _⟩ => ⟨S1088x1024, .f32⟩
  | .hbm, ⟨30, _⟩ => ⟨S1088x1024, .f32⟩
  | .hbm, ⟨31, _⟩ => ⟨S_, .f32⟩
  | .hbm, ⟨32, _⟩ => ⟨S1088x1024, .f32⟩
  | .hbm, ⟨33, _⟩ => ⟨S1088x1024, .f32⟩
  | .hbm, ⟨34, _⟩ => ⟨S1088x1024, .f32⟩
  | .hbm, ⟨35, _⟩ => ⟨S_, .f32⟩
  | .hbm, ⟨36, _⟩ => ⟨S1088x1024, .f32⟩
  | .hbm, ⟨37, _⟩ => ⟨S1088x1024, .f32⟩
  | .hbm, ⟨38, _⟩ => ⟨S1088x1024, .f32⟩
  | .hbm, ⟨39, _⟩ => ⟨S_, .f32⟩
  | .hbm, ⟨40, _⟩ => ⟨S1088x1024, .f32⟩
  | .hbm, ⟨41, _⟩ => ⟨S1088x1024, .f32⟩
  | _, _ => ⟨S1088x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel29.lean ====
abbrev S2048x256 : Shape := ⟨2, ![2048, 256]⟩
abbrev S3x2048x256 : Shape := ⟨3, ![3, 2048, 256]⟩
abbrev S1x2048x256 : Shape := ⟨3, ![1, 2048, 256]⟩
abbrev S512x256 : Shape := ⟨2, ![512, 256]⟩

abbrev nBuf : Space → Nat
  | .hbm => 15
  | .vmem => 22
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S3x2048x256, .bf16⟩
  | .hbm, ⟨5, _⟩ => ⟨S1x2048x256, .bf16⟩
  | .hbm, ⟨6, _⟩ => ⟨S2048x256, .bf16⟩
  | .hbm, ⟨7, _⟩ => ⟨S1x2048x256, .bf16⟩
  | .hbm, ⟨8, _⟩ => ⟨S2048x256, .bf16⟩
  | .hbm, ⟨9, _⟩ => ⟨S1x2048x256, .bf16⟩
  | .hbm, ⟨10, _⟩ => ⟨S2048x256, .bf16⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel29Ideal.lean ====
abbrev S2048x256 : Shape := ⟨2, ![2048, 256]⟩
abbrev S3x2048x256 : Shape := ⟨3, ![3, 2048, 256]⟩
abbrev S1x2048x256 : Shape := ⟨3, ![1, 2048, 256]⟩
abbrev S512x256 : Shape := ⟨2, ![512, 256]⟩

abbrev nBuf : Space → Nat
  | .hbm => 15
  | .vmem => 22
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S3x2048x256, .bf16⟩
  | .hbm, ⟨5, _⟩ => ⟨S1x2048x256, .bf16⟩
  | .hbm, ⟨6, _⟩ => ⟨S2048x256, .bf16⟩
  | .hbm, ⟨7, _⟩ => ⟨S1x2048x256, .bf16⟩
  | .hbm, ⟨8, _⟩ => ⟨S2048x256, .bf16⟩
  | .hbm, ⟨9, _⟩ => ⟨S1x2048x256, .bf16⟩
  | .hbm, ⟨10, _⟩ => ⟨S2048x256, .bf16⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference29Ideal.lean ====
abbrev S2048x256 : Shape := ⟨2, ![2048, 256]⟩
abbrev S3x2048x256 : Shape := ⟨3, ![3, 2048, 256]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S3x2048x256, .bf16⟩
  | .hbm, ⟨5, _⟩ => ⟨S3x2048x256, .f32⟩
  | .hbm, ⟨6, _⟩ => ⟨S_, .f32⟩
  | .hbm, ⟨7, _⟩ => ⟨S2048x256, .f32⟩
  | .hbm, ⟨8, _⟩ => ⟨S2048x256, .f32⟩
  | .hbm, ⟨9, _⟩ => ⟨S_, .f32⟩
  | .hbm, ⟨10, _⟩ => ⟨S2048x256, .f32⟩
  | .hbm, ⟨11, _⟩ => ⟨S2048x256, .f32⟩
  | .hbm, ⟨12, _⟩ => ⟨S_, .f32⟩
  | .hbm, ⟨13, _⟩ => ⟨S2048x256, .f32⟩
  | .hbm, ⟨14, _⟩ => ⟨S2048x256, .f32⟩
  | .hbm, ⟨15, _⟩ => ⟨S2048x256, .f32⟩
  | .hbm, ⟨16, _⟩ => ⟨S_, .f32⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S_, .f32⟩
  | .hbm, ⟨21, _⟩ => ⟨S2048x256, .f32⟩
  | .hbm, ⟨22, _⟩ => ⟨S2048x256, .f32⟩
  | .hbm, ⟨23, _⟩ => ⟨S2048x256, .f32⟩
  | .hbm, ⟨24, _⟩ => ⟨S_, .f32⟩
  | .hbm, ⟨25, _⟩ => ⟨S2048x256, .f32⟩
  | .hbm, ⟨26, _⟩ => ⟨S2048x256, .f32⟩
  | .hbm, ⟨27, _⟩ => ⟨S_, .f32⟩
  | .hbm, ⟨28, _⟩ => ⟨S2048x256, .f32⟩
  | .hbm, ⟨29, _⟩ => ⟨S2048x256, .f32⟩
  | .hbm, ⟨30, _⟩ => ⟨S2048x256, .f32⟩
  | .hbm, ⟨31, _⟩ => ⟨S_, .f32⟩
  | .hbm, ⟨32, _⟩ => ⟨S2048x256, .f32⟩
  | .hbm, ⟨33, _⟩ => ⟨S2048x256, .f32⟩
  | .hbm, ⟨34, _⟩ => ⟨S2048x256, .f32⟩
  | .hbm, ⟨35, _⟩ => ⟨S_, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S_, .f32⟩
  | .hbm, ⟨40, _⟩ => ⟨S2048x256, .f32⟩
  | .hbm, ⟨41, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel30.lean ====
abbrev S2048x704 : Shape := ⟨2, ![2048, 704]⟩
abbrev S3x2048x704 : Shape := ⟨3, ![3, 2048, 704]⟩
abbrev S1x2048x704 : Shape := ⟨3, ![1, 2048, 704]⟩
abbrev S512x704 : Shape := ⟨2, ![512, 704]⟩

abbrev nBuf : Space → Nat
  | .hbm => 15
  | .vmem => 22
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S3x2048x704, .bf16⟩
  | .hbm, ⟨5, _⟩ => ⟨S1x2048x704, .bf16⟩
  | .hbm, ⟨6, _⟩ => ⟨S2048x704, .bf16⟩
  | .hbm, ⟨7, _⟩ => ⟨S1x2048x704, .bf16⟩
  | .hbm, ⟨8, _⟩ => ⟨S2048x704, .bf16⟩
  | .hbm, ⟨9, _⟩ => ⟨S1x2048x704, .bf16⟩
  | .hbm, ⟨10, _⟩ => ⟨S2048x704, .bf16⟩
  | .hbm, ⟨11, _⟩ => ⟨S2048x704, .f32⟩
  | .hbm, ⟨12, _⟩ => ⟨S2048x704, .f32⟩
  | .hbm, ⟨13, _⟩ => ⟨S2048x704, .f32⟩
  | .hbm, ⟨14, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .bf16⟩
  | .local _ .vmem, ⟨9, _⟩ => ⟨S512x704, .bf16⟩
  | .local _ .vmem, ⟨10, _⟩ => ⟨S512x704, .bf16⟩
  | .local _ .vmem, ⟨11, _⟩ => ⟨S512x704, .bf16⟩
  | .local _ .vmem, ⟨12, _⟩ => ⟨S512x704, .bf16⟩
  | .local _ .vmem, ⟨13, _⟩ => ⟨S512x704, .bf16⟩
  | .local _ .vmem, ⟨14, _⟩ => ⟨S512x704, .f32⟩
  | .local _ .vmem, ⟨15, _⟩ => ⟨S512x704, .f32⟩
  | .local _ .vmem, ⟨16, _⟩ => ⟨S512x704, .f32⟩
  | .local _ .vmem, ⟨17, _⟩ => ⟨S512x704, .f32⟩
  | .local _ .vmem, ⟨18, _⟩ => ⟨S512x704, .f32⟩
  | .local _ .vmem, ⟨19, _⟩ => ⟨S512x704, .f32⟩
  | .local _ .vmem, ⟨20, _⟩ => ⟨S512x704, .f32⟩
  | .local _ .vmem, ⟨21, _⟩ => ⟨S512x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel30Ideal.lean ====
abbrev S2048x704 : Shape := ⟨2, ![2048, 704]⟩
abbrev S3x2048x704 : Shape := ⟨3, ![3, 2048, 704]⟩
abbrev S1x2048x704 : Shape := ⟨3, ![1, 2048, 704]⟩
abbrev S512x704 : Shape := ⟨2, ![512, 704]⟩

abbrev nBuf : Space → Nat
  | .hbm => 15
  | .vmem => 22
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S3x2048x704, .bf16⟩
  | .hbm, ⟨5, _⟩ => ⟨S1x2048x704, .bf16⟩
  | .hbm, ⟨6, _⟩ => ⟨S2048x704, .bf16⟩
  | .hbm, ⟨7, _⟩ => ⟨S1x2048x704, .bf16⟩
  | .hbm, ⟨8, _⟩ => ⟨S2048x704, .bf16⟩
  | .hbm, ⟨9, _⟩ => ⟨S1x2048x704, .bf16⟩
  | .hbm, ⟨10, _⟩ => ⟨S2048x704, .bf16⟩
  | .hbm, ⟨11, _⟩ => ⟨S2048x704, .f32⟩
  | .hbm, ⟨12, _⟩ => ⟨S2048x704, .f32⟩
  | .hbm, ⟨13, _⟩ => ⟨S2048x704, .f32⟩
  | .hbm, ⟨14, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .bf16⟩
  | .local _ .vmem, ⟨9, _⟩ => ⟨S512x704, .bf16⟩
  | .local _ .vmem, ⟨10, _⟩ => ⟨S512x704, .bf16⟩
  | .local _ .vmem, ⟨11, _⟩ => ⟨S512x704, .bf16⟩
  | .local _ .vmem, ⟨12, _⟩ => ⟨S512x704, .bf16⟩
  | .local _ .vmem, ⟨13, _⟩ => ⟨S512x704, .bf16⟩
  | .local _ .vmem, ⟨14, _⟩ => ⟨S512x704, .f32⟩
  | .local _ .vmem, ⟨15, _⟩ => ⟨S512x704, .f32⟩
  | .local _ .vmem, ⟨16, _⟩ => ⟨S512x704, .f32⟩
  | .local _ .vmem, ⟨17, _⟩ => ⟨S512x704, .f32⟩
  | .local _ .vmem, ⟨18, _⟩ => ⟨S512x704, .f32⟩
  | .local _ .vmem, ⟨19, _⟩ => ⟨S512x704, .f32⟩
  | .local _ .vmem, ⟨20, _⟩ => ⟨S512x704, .f32⟩
  | .local _ .vmem, ⟨21, _⟩ => ⟨S512x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference30Ideal.lean ====
abbrev S2048x704 : Shape := ⟨2, ![2048, 704]⟩
abbrev S3x2048x704 : Shape := ⟨3, ![3, 2048, 704]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S3x2048x704, .bf16⟩
  | .hbm, ⟨5, _⟩ => ⟨S3x2048x704, .f32⟩
  | .hbm, ⟨6, _⟩ => ⟨S_, .f32⟩
  | .hbm, ⟨7, _⟩ => ⟨S2048x704, .f32⟩
  | .hbm, ⟨8, _⟩ => ⟨S2048x704, .f32⟩
  | .hbm, ⟨9, _⟩ => ⟨S_, .f32⟩
  | .hbm, ⟨10, _⟩ => ⟨S2048x704, .f32⟩
  | .hbm, ⟨11, _⟩ => ⟨S2048x704, .f32⟩
  | .hbm, ⟨12, _⟩ => ⟨S_, .f32⟩
  | .hbm, ⟨13, _⟩ => ⟨S2048x704, .f32⟩
  | .hbm, ⟨14, _⟩ => ⟨S2048x704, .f32⟩
  | .hbm, ⟨15, _⟩ => ⟨S2048x704, .f32⟩
  | .hbm, ⟨16, _⟩ => ⟨S_, .f32⟩
  | .hbm, ⟨17, _⟩ => ⟨S2048x704, .f32⟩
  | .hbm, ⟨18, _⟩ => ⟨S2048x704, .f32⟩
  | .hbm, ⟨19, _⟩ => ⟨S2048x704, .f32⟩
  | .hbm, ⟨20, _⟩ => ⟨S_, .f32⟩
  | .hbm, ⟨21, _⟩ => ⟨S2048x704, .f32⟩
  | .hbm, ⟨22, _⟩ => ⟨S2048x704, .f32⟩
  | .hbm, ⟨23, _⟩ => ⟨S2048x704, .f32⟩
  | .hbm, ⟨24, _⟩ => ⟨S_, .f32⟩
  | .hbm, ⟨25, _⟩ => ⟨S2048x704, .f32⟩
  | .hbm, ⟨26, _⟩ => ⟨S2048x704, .f32⟩
  | .hbm, ⟨27, _⟩ => ⟨S_, .f32⟩
  | .hbm, ⟨28, _⟩ => ⟨S2048x704, .f32⟩
  | .hbm, ⟨29, _⟩ => ⟨S2048x704, .f32⟩
  | .hbm, ⟨30, _⟩ => ⟨S2048x704, .f32⟩
  | .hbm, ⟨31, _⟩ => ⟨S_, .f32⟩
  | .hbm, ⟨32, _⟩ => ⟨S2048x704, .f32⟩
  | .hbm, ⟨33, _⟩ => ⟨S2048x704, .f32⟩
  | .hbm, ⟨34, _⟩ => ⟨S2048x704, .f32⟩
  | .hbm, ⟨35, _⟩ => ⟨S_, .f32⟩
  | .hbm, ⟨36, _⟩ => ⟨S2048x704, .f32⟩
  | .hbm, ⟨37, _⟩ => ⟨S2048x704, .f32⟩
  | .hbm, ⟨38, _⟩ => ⟨S2048x704, .f32⟩
  | .hbm, ⟨39, _⟩ => ⟨S_, .f32⟩
  | .hbm, ⟨40, _⟩ => ⟨S2048x704, .f32⟩
  | .hbm, ⟨41, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel31.lean ====
abbrev S6x352 : Shape := ⟨2, ![6, 352]⟩
abbrev S3x6x352 : Shape := ⟨3, ![3, 6, 352]⟩
abbrev S1x6x352 : Shape := ⟨3, ![1, 6, 352]⟩

abbrev nBuf : Space → Nat
  | .hbm => 15
  | .vmem => 11
  | .smem => 0
  | _ => 0

abbrev bufTy : (tb : Table) → Fin (tcTables nBuf tb) → BufTy
  | .hbm, ⟨0, _⟩ => ⟨S6x352, .f32⟩
  | .hbm, ⟨1, _⟩ => ⟨S6x352, .f32⟩
  | .hbm, ⟨2, _⟩ => ⟨S6x352, .f32⟩
  | .hbm, ⟨3, _⟩ => ⟨S6x352, .f32⟩
  | .hbm, ⟨4, _⟩ => ⟨S3x6x352, .f32⟩
  | .hbm, ⟨5, _⟩ => ⟨S1x6x352, .f32⟩
  | .hbm, ⟨6, _⟩ => ⟨S6x352, .f32⟩
  | .hbm, ⟨7, _⟩ => ⟨S1x6x352, .f32⟩
  | .hbm, ⟨8, _⟩ => ⟨S6x352, .f32⟩
  | .hbm, ⟨9, _⟩ => ⟨S1x6x352, .f32⟩
  | .hbm, ⟨10, _⟩ => ⟨S6x352, .f32⟩
  | .hbm, ⟨11, _⟩ => ⟨S6x352, .f32⟩
  | .hbm, ⟨12, _⟩ => ⟨S6x352, .f32⟩
  | .hbm, ⟨13, _⟩ => ⟨S6x352, .f32⟩
  | .hbm, ⟨14, _⟩ => ⟨S6x352, .f32⟩
  | .local _ .vmem, ⟨0, _⟩ => ⟨S6x352, .f32⟩
  | .local _ .vmem, ⟨1, _⟩ => ⟨S6x352, .f32⟩
  | .local _ .vmem, ⟨2, _⟩ => ⟨S6x352, .f32⟩
  | .local _ .vmem, ⟨3, _⟩ => ⟨S6x352, .f32⟩
  | .local _ .vmem, ⟨4, _⟩ => ⟨S6x352, .f32⟩
  | .local _ .vmem, ⟨5, _⟩ => ⟨S6x352, .f32⟩
  | .local _ .vmem, ⟨6, _⟩ => ⟨S6x352, .f32⟩
  | .local _ .vmem, ⟨7, _⟩ => ⟨S6x352, .f32⟩
  | .local _ .vmem, ⟨8, _⟩ => ⟨S6x352, .f32⟩
  | .local _ .vmem, ⟨9, _⟩ => ⟨S6x352, .f32⟩
  | .local _ .vmem, ⟨10, _⟩ => ⟨S6x352, .f32⟩
  | _, _ => ⟨S6x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S6x352 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S6x352 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S6x352 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S6x352 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference31Ideal.lean ====
abbrev S6x352 : Shape := ⟨2, ![6, 352]⟩
abbrev S3x6x352 : Shape := ⟨3, ![3, 6, 352]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S6x352, .f32⟩
  | .hbm, ⟨1, _⟩ => ⟨S6x352, .f32⟩
  | .hbm, ⟨2, _⟩ => ⟨S6x352, .f32⟩
  | .hbm, ⟨3, _⟩ => ⟨S6x352, .f32⟩
  | .hbm, ⟨4, _⟩ => ⟨S3x6x352, .f32⟩
  | .hbm, ⟨5, _⟩ => ⟨S_, .f32⟩
  | .hbm, ⟨6, _⟩ => ⟨S6x352, .f32⟩
  | .hbm, ⟨7, _⟩ => ⟨S6x352, .f32⟩
  | .hbm, ⟨8, _⟩ => ⟨S_, .f32⟩
  | .hbm, ⟨9, _⟩ => ⟨S6x352, .f32⟩
  | .hbm, ⟨10, _⟩ => ⟨S6x352, .f32⟩
  | .hbm, ⟨11, _⟩ => ⟨S_, .f32⟩
  | .hbm, ⟨12, _⟩ => ⟨S6x352, .f32⟩
  | .hbm, ⟨13, _⟩ => ⟨S6x352, .f32⟩
  | .hbm, ⟨14, _⟩ => ⟨S6x352, .f32⟩
  | .hbm, ⟨15, _⟩ => ⟨S_, .f32⟩
  | .hbm, ⟨16, _⟩ => ⟨S6x352, .f32⟩
  | .hbm, ⟨17, _⟩ => ⟨S6x352, .f32⟩
  | .hbm, ⟨18, _⟩ => ⟨S6x352, .f32⟩
  | .hbm, ⟨19, _⟩ => ⟨S_, .f32⟩
  | .hbm, ⟨20, _⟩ => ⟨S6x352, .f32⟩
  | .hbm, ⟨21, _⟩ => ⟨S6x352, .f32⟩
  | .hbm, ⟨22, _⟩ => ⟨S6x352, .f32⟩
  | .hbm, ⟨23, _⟩ => ⟨S_, .f32⟩
  | .hbm, ⟨24, _⟩ => ⟨S6x352, .f32⟩
  | .hbm, ⟨25, _⟩ => ⟨S6x352, .f32⟩
  | .hbm, ⟨26, _⟩ => ⟨S_, .f32⟩
  | .hbm, ⟨27, _⟩ => ⟨S6x352, .f32⟩
  | .hbm, ⟨28, _⟩ => ⟨S6x352, .f32⟩
  | .hbm, ⟨29, _⟩ => ⟨S6x352, .f32⟩
  | .hbm, ⟨30, _⟩ => ⟨S_, .f32⟩
  | .hbm, ⟨31, _⟩ => ⟨S6x352, .f32⟩
  | .hbm, ⟨32, _⟩ => ⟨S6x352, .f32⟩
  | .hbm, ⟨33, _⟩ => ⟨S6x352, .f32⟩
  | .hbm, ⟨34, _⟩ => ⟨S_, .f32⟩
  | .hbm, ⟨35, _⟩ => ⟨S6x352, .f32⟩
  | .hbm, ⟨36, _⟩ => ⟨S6x352, .f32⟩
  | .hbm, ⟨37, _⟩ => ⟨S6x352, .f32⟩
  | .hbm, ⟨38, _⟩ => ⟨S_, .f32⟩
  | .hbm, ⟨39, _⟩ => ⟨S6x352, .f32⟩
  | .hbm, ⟨40, _⟩ => ⟨S6x352, .f32⟩
  | _, _ => ⟨S6x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel32.lean ====
abbrev S280x1024 : Shape := ⟨2, ![280, 1024]⟩
abbrev S8x280x1024 : Shape := ⟨3, ![8, 280, 1024]⟩
abbrev S1x280x1024 : Shape := ⟨3, ![1, 280, 1024]⟩

abbrev nBuf : Space → Nat
  | .hbm => 8
  | .vmem => 8
  | .smem => 0
  | _ => 0

abbrev bufTy : (tb : Table) → Fin (tcTables nBuf tb) → BufTy
  | .hbm, ⟨0, _⟩ => ⟨S280x1024, .f32⟩
  | .hbm, ⟨1, _⟩ => ⟨S280x1024, .f32⟩
  | .hbm, ⟨2, _⟩ => ⟨S280x1024, .f32⟩
  | .hbm, ⟨3, _⟩ => ⟨S8x280x1024, .f32⟩
  | .hbm, ⟨4, _⟩ => ⟨S280x1024, .f32⟩
  | .hbm, ⟨5, _⟩ => ⟨S280x1024, .f32⟩
  | .hbm, ⟨6, _⟩ => ⟨S280x1024, .f32⟩
  | .hbm, ⟨7, _⟩ => ⟨S280x1024, .f32⟩
  | .local _ .vmem, ⟨0, _⟩ => ⟨S280x1024, .f32⟩
  | .local _ .vmem, ⟨1, _⟩ => ⟨S280x1024, .f32⟩
  | .local _ .vmem, ⟨2, _⟩ => ⟨S280x1024, .f32⟩
  | .local _ .vmem, ⟨3, _⟩ => ⟨S8x280x1024, .f32⟩
  | .local _ .vmem, ⟨4, _⟩ => ⟨S280x1024, .f32⟩
  | .local _ .vmem, ⟨5, _⟩ => ⟨S280x1024, .f32⟩
  | .local _ .vmem, ⟨6, _⟩ => ⟨S280x1024, .f32⟩
  | .local _ .vmem, ⟨7, _⟩ => ⟨S280x1024, .f32⟩
  | _, _ => ⟨S280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S280x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S280x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S280x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x280x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S280x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S280x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S280x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S280x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference32Ideal.lean ====
abbrev S280x1024 : Shape := ⟨2, ![280, 1024]⟩
abbrev S8x280x1024 : Shape := ⟨3, ![8, 280, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S280x1024, .f32⟩
  | .hbm, ⟨1, _⟩ => ⟨S280x1024, .f32⟩
  | .hbm, ⟨2, _⟩ => ⟨S280x1024, .f32⟩
  | .hbm, ⟨3, _⟩ => ⟨S8x280x1024, .f32⟩
  | .hbm, ⟨4, _⟩ => ⟨S_, .f32⟩
  | .hbm, ⟨5, _⟩ => ⟨S280x1024, .f32⟩
  | .hbm, ⟨6, _⟩ => ⟨S_, .f32⟩
  | .hbm, ⟨7, _⟩ => ⟨S280x1024, .f32⟩
  | .hbm, ⟨8, _⟩ => ⟨S280x1024, .f32⟩
  | .hbm, ⟨9, _⟩ => ⟨S_, .f32⟩
  | .hbm, ⟨10, _⟩ => ⟨S280x1024, .f32⟩
  | .hbm, ⟨11, _⟩ => ⟨S280x1024, .f32⟩
  | .hbm, ⟨12, _⟩ => ⟨S280x1024, .f32⟩
  | .hbm, ⟨13, _⟩ => ⟨S_, .f32⟩
  | .hbm, ⟨14, _⟩ => ⟨S280x1024, .f32⟩
  | .hbm, ⟨15, _⟩ => ⟨S280x1024, .f32⟩
  | .hbm, ⟨16, _⟩ => ⟨S280x1024, .f32⟩
  | .hbm, ⟨17, _⟩ => ⟨S_, .f32⟩
  | .hbm, ⟨18, _⟩ => ⟨S280x1024, .f32⟩
  | .hbm, ⟨19, _⟩ => ⟨S280x1024, .f32⟩
  | .hbm, ⟨20, _⟩ => ⟨S280x1024, .f32⟩
  | .hbm, ⟨21, _⟩ => ⟨S_, .f32⟩
  | .hbm, ⟨22, _⟩ => ⟨S280x1024, .f32⟩
  | .hbm, ⟨23, _⟩ => ⟨S280x1024, .f32⟩
  | .hbm, ⟨24, _⟩ => ⟨S_, .f32⟩
  | .hbm, ⟨25, _⟩ => ⟨S280x1024, .f32⟩
  | .hbm, ⟨26, _⟩ => ⟨S280x1024, .f32⟩
  | .hbm, ⟨27, _⟩ => ⟨S280x1024, .f32⟩
  | .hbm, ⟨28, _⟩ => ⟨S_, .f32⟩
  | .hbm, ⟨29, _⟩ => ⟨S280x1024, .f32⟩
  | .hbm, ⟨30, _⟩ => ⟨S280x1024, .f32⟩
  | .hbm, ⟨31, _⟩ => ⟨S280x1024, .f32⟩
  | .hbm, ⟨32, _⟩ => ⟨S_, .f32⟩
  | .hbm, ⟨33, _⟩ => ⟨S280x1024, .f32⟩
  | .hbm, ⟨34, _⟩ => ⟨S280x1024, .f32⟩
  | .hbm, ⟨35, _⟩ => ⟨S280x1024, .f32⟩
  | .hbm, ⟨36, _⟩ => ⟨S_, .f32⟩
  | .hbm, ⟨37, _⟩ => ⟨S280x1024, .f32⟩
  | .hbm, ⟨38, _⟩ => ⟨S280x1024, .f32⟩
  | _, _ => ⟨S280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel33.lean ====
abbrev S4x1088x1024 : Shape := ⟨3, ![4, 1088, 1024]⟩
abbrev S1x272x1024 : Shape := ⟨3, ![1, 272, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4x1088x1024, .bf16⟩
  | .hbm, ⟨1, _⟩ => ⟨S4x1088x1024, .bf16⟩
  | .hbm, ⟨2, _⟩ => ⟨S4x1088x1024, .f32⟩
  | .hbm, ⟨3, _⟩ => ⟨S4x1088x1024, .bf16⟩
  | .local _ .vmem, ⟨0, _⟩ => ⟨S1x272x1024, .bf16⟩
  | .local _ .vmem, ⟨1, _⟩ => ⟨S1x272x1024, .bf16⟩
  | .local _ .vmem, ⟨2, _⟩ => ⟨S1x272x1024, .bf16⟩
  | .local _ .vmem, ⟨3, _⟩ => ⟨S1x272x1024, .bf16⟩
  | .local _ .vmem, ⟨4, _⟩ => ⟨S1x272x1024, .f32⟩
  | .local _ .vmem, ⟨5, _⟩ => ⟨S1x272x1024, .f32⟩
  | .local _ .vmem, ⟨6, _⟩ => ⟨S1x272x1024, .bf16⟩
  | .local _ .vmem, ⟨7, _⟩ => ⟨S1x272x1024, .bf16⟩
  | _, _ => ⟨S4x1088x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x272x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x272x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel33Ideal.lean ====
abbrev S4x1088x1024 : Shape := ⟨3, ![4, 1088, 1024]⟩
abbrev S1x272x1024 : Shape := ⟨3, ![1, 272, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4x1088x1024, .bf16⟩
  | .hbm, ⟨1, _⟩ => ⟨S4x1088x1024, .bf16⟩
  | .hbm, ⟨2, _⟩ => ⟨S4x1088x1024, .f32⟩
  | .hbm, ⟨3, _⟩ => ⟨S4x1088x1024, .bf16⟩
  | .local _ .vmem, ⟨0, _⟩ => ⟨S1x272x1024, .bf16⟩
  | .local _ .vmem, ⟨1, _⟩ => ⟨S1x272x1024, .bf16⟩
  | .local _ .vmem, ⟨2, _⟩ => ⟨S1x272x1024, .bf16⟩
  | .local _ .vmem, ⟨3, _⟩ => ⟨S1x272x1024, .bf16⟩
  | .local _ .vmem, ⟨4, _⟩ => ⟨S1x272x1024, .f32⟩
  | .local _ .vmem, ⟨5, _⟩ => ⟨S1x272x1024, .f32⟩
  | .local _ .vmem, ⟨6, _⟩ => ⟨S1x272x1024, .bf16⟩
  | .local _ .vmem, ⟨7, _⟩ => ⟨S1x272x1024, .bf16⟩
  | _, _ => ⟨S4x1088x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x272x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x272x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference33Ideal.lean ====
abbrev S4x1088x1024 : Shape := ⟨3, ![4, 1088, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x1088x1024, .bf16⟩
  | .hbm, ⟨1, _⟩ => ⟨S4x1088x1024, .bf16⟩
  | .hbm, ⟨2, _⟩ => ⟨S4x1088x1024, .f32⟩
  | .hbm, ⟨3, _⟩ => ⟨S4x1088x1024, .f32⟩
  | .hbm, ⟨4, _⟩ => ⟨S4x1088x1024, .f32⟩
  | .hbm, ⟨5, _⟩ => ⟨S4x1088x1024, .bf16⟩
  | _, _ => ⟨S4x1088x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel34.lean ====
abbrev S4x2048x256 : Shape := ⟨3, ![4, 2048, 256]⟩
abbrev S1x512x256 : Shape := ⟨3, ![1, 512, 256]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x256, .bf16⟩
  | .hbm, ⟨1, _⟩ => ⟨S4x2048x256, .bf16⟩
  | .hbm, ⟨2, _⟩ => ⟨S4x2048x256, .f32⟩
  | .hbm, ⟨3, _⟩ => ⟨S4x2048x256, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .f32⟩
  | .local _ .vmem, ⟨5, _⟩ => ⟨S1x512x256, .f32⟩
  | .local _ .vmem, ⟨6, _⟩ => ⟨S1x512x256, .bf16⟩
  | .local _ .vmem, ⟨7, _⟩ => ⟨S1x512x256, .bf16⟩
  | _, _ => ⟨S4x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel34Ideal.lean ====
abbrev S4x2048x256 : Shape := ⟨3, ![4, 2048, 256]⟩
abbrev S1x512x256 : Shape := ⟨3, ![1, 512, 256]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x256, .bf16⟩
  | .hbm, ⟨1, _⟩ => ⟨S4x2048x256, .bf16⟩
  | .hbm, ⟨2, _⟩ => ⟨S4x2048x256, .f32⟩
  | .hbm, ⟨3, _⟩ => ⟨S4x2048x256, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .f32⟩
  | .local _ .vmem, ⟨5, _⟩ => ⟨S1x512x256, .f32⟩
  | .local _ .vmem, ⟨6, _⟩ => ⟨S1x512x256, .bf16⟩
  | .local _ .vmem, ⟨7, _⟩ => ⟨S1x512x256, .bf16⟩
  | _, _ => ⟨S4x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference34Ideal.lean ====
abbrev S4x2048x256 : Shape := ⟨3, ![4, 2048, 256]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x256, .bf16⟩
  | .hbm, ⟨1, _⟩ => ⟨S4x2048x256, .bf16⟩
  | .hbm, ⟨2, _⟩ => ⟨S4x2048x256, .f32⟩
  | .hbm, ⟨3, _⟩ => ⟨S4x2048x256, .f32⟩
  | .hbm, ⟨4, _⟩ => ⟨S4x2048x256, .f32⟩
  | .hbm, ⟨5, _⟩ => ⟨S4x2048x256, .bf16⟩
  | _, _ => ⟨S4x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel35.lean ====
abbrev S4x2048x704 : Shape := ⟨3, ![4, 2048, 704]⟩
abbrev S1x512x704 : Shape := ⟨3, ![1, 512, 704]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S4x2048x704, .f32⟩
  | .hbm, ⟨3, _⟩ => ⟨S4x2048x704, .bf16⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x512x704, .f32⟩
  | .local _ .vmem, ⟨5, _⟩ => ⟨S1x512x704, .f32⟩
  | .local _ .vmem, ⟨6, _⟩ => ⟨S1x512x704, .bf16⟩
  | .local _ .vmem, ⟨7, _⟩ => ⟨S1x512x704, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel35Ideal.lean ====
abbrev S4x2048x704 : Shape := ⟨3, ![4, 2048, 704]⟩
abbrev S1x512x704 : Shape := ⟨3, ![1, 512, 704]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S4x2048x704, .f32⟩
  | .hbm, ⟨3, _⟩ => ⟨S4x2048x704, .bf16⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x512x704, .f32⟩
  | .local _ .vmem, ⟨5, _⟩ => ⟨S1x512x704, .f32⟩
  | .local _ .vmem, ⟨6, _⟩ => ⟨S1x512x704, .bf16⟩
  | .local _ .vmem, ⟨7, _⟩ => ⟨S1x512x704, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference35Ideal.lean ====
abbrev S4x2048x704 : Shape := ⟨3, ![4, 2048, 704]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S4x2048x704, .f32⟩
  | .hbm, ⟨3, _⟩ => ⟨S4x2048x704, .f32⟩
  | .hbm, ⟨4, _⟩ => ⟨S4x2048x704, .f32⟩
  | .hbm, ⟨5, _⟩ => ⟨S4x2048x704, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel36.lean ====
abbrev S4x6x352 : Shape := ⟨3, ![4, 6, 352]⟩
abbrev S1x6x352 : Shape := ⟨3, ![1, 6, 352]⟩

abbrev nBuf : Space → Nat
  | .hbm => 4
  | .vmem => 8
  | .smem => 0
  | _ => 0

abbrev bufTy : (tb : Table) → Fin (tcTables nBuf tb) → BufTy
  | .hbm, ⟨0, _⟩ => ⟨S4x6x352, .f32⟩
  | .hbm, ⟨1, _⟩ => ⟨S4x6x352, .f32⟩
  | .hbm, ⟨2, _⟩ => ⟨S4x6x352, .f32⟩
  | .hbm, ⟨3, _⟩ => ⟨S4x6x352, .f32⟩
  | .local _ .vmem, ⟨0, _⟩ => ⟨S1x6x352, .f32⟩
  | .local _ .vmem, ⟨1, _⟩ => ⟨S1x6x352, .f32⟩
  | .local _ .vmem, ⟨2, _⟩ => ⟨S1x6x352, .f32⟩
  | .local _ .vmem, ⟨3, _⟩ => ⟨S1x6x352, .f32⟩
  | .local _ .vmem, ⟨4, _⟩ => ⟨S1x6x352, .f32⟩
  | .local _ .vmem, ⟨5, _⟩ => ⟨S1x6x352, .f32⟩
  | .local _ .vmem, ⟨6, _⟩ => ⟨S1x6x352, .f32⟩
  | .local _ .vmem, ⟨7, _⟩ => ⟨S1x6x352, .f32⟩
  | _, _ => ⟨S4x6x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage0_0 : Fin 2 → Memref sig .tc .vmem S1x6x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference36Ideal.lean ====
abbrev S4x6x352 : Shape := ⟨3, ![4, 6, 352]⟩

abbrev nBuf : Space → Nat
  | .hbm => 3
  | .vmem => 0
  | .smem => 0
  | _ => 0

abbrev bufTy : (tb : Table) → Fin (tcTables nBuf tb) → BufTy
  | .hbm, ⟨0, _⟩ => ⟨S4x6x352, .f32⟩
  | .hbm, ⟨1, _⟩ => ⟨S4x6x352, .f32⟩
  | .hbm, ⟨2, _⟩ => ⟨S4x6x352, .f32⟩
  | _, _ => ⟨S4x6x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_19 : BitVec 32 := 0#32
  let v49 : BitVec 1 := Scalar.cmpi .ne v48 c0_i32_19
  v49

def k0_cond2 (i : grid0.Coords) : BitVec 1 :=
  let arg0 : BitVec 32 := BitVec.ofNat 32 (i 0).val
  let c0_i32_20 : BitVec 32 := 0#32
  let v50 : BitVec 1 := Scalar.cmpi .sgt arg0 c0_i32_20
  let v51 : BitVec 32 := Scalar.extui v50
  let c0_i32_21 : BitVec 32 := 0#32
  let v52 : BitVec 1 := Scalar.cmpi .ne v51 c0_i32_21
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference24Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .bf16⟩
  | .hbm, ⟨69, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel27.lean ====
abbrev S4096x5632 : Shape := ⟨2, ![4096, 5632]⟩
abbrev S3x2816 : Shape := ⟨2, ![3, 2816]⟩
abbrev S1x2816 : Shape := ⟨2, ![1, 2816]⟩
abbrev S4096x2816 : Shape := ⟨2, ![4096, 2816]⟩
abbrev S256x5632 : Shape := ⟨2, ![256, 5632]⟩
abbrev S16x5632 : Shape := ⟨2, ![16, 5632]⟩
abbrev S256x2816 : Shape := ⟨2, ![256, 2816]⟩
abbrev S8x5632 : Shape := ⟨2, ![8, 5632]⟩
abbrev S8x2816 : Shape := ⟨2, ![8, 2816]⟩
abbrev S256x1 : Shape := ⟨2, ![256, 1]⟩
abbrev S248x2816 : Shape := ⟨2, ![248, 2816]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S3x2816, .f32⟩
  | .hbm, ⟨2, _⟩ => ⟨S1x2816, .f32⟩
  | .hbm, ⟨3, _⟩ => ⟨S4096x2816, .bf16⟩
  | .local _ .vmem, ⟨0, _⟩ => ⟨S256x5632, .bf16⟩
  | .local _ .vmem, ⟨1, _⟩ => ⟨S256x5632, .bf16⟩
  | .local _ .vmem, ⟨2, _⟩ => ⟨S16x5632, .bf16⟩
  | .local _ .vmem, ⟨3, _⟩ => ⟨S16x5632, .bf16⟩
  | .local _ .vmem, ⟨4, _⟩ => ⟨S3x2816, .f32⟩
  | .local _ .vmem, ⟨5, _⟩ => ⟨S1x2816, .f32⟩
  | .local _ .vmem, ⟨6, _⟩ => ⟨S256x2816, .bf16⟩
  | .local _ .vmem, ⟨7, _⟩ => ⟨S256x2816, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference27Ideal.lean ====
abbrev S4096x5632 : Shape := ⟨2, ![4096, 5632]⟩
abbrev S3x2816 : Shape := ⟨2, ![3, 2816]⟩
abbrev S1x2816 : Shape := ⟨2, ![1, 2816]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩

abbrev nBuf : Space → Nat
  | .hbm => 36
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S3x2816, .f32⟩
  | .hbm, ⟨2, _⟩ => ⟨S1x2816, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S2x2816, .f32⟩
  | .hbm, ⟨8, _⟩ => ⟨S4098x2816, .f32⟩
  | .hbm, ⟨9, _⟩ => ⟨S1x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S1x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S1x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.Offsets.lean ====
module

public import proofs.«01_k».proof.Proof.Gen.KernelIdeal.Loops

/-!
Where the kernel's memory accesses fall, and how often its two loops run.  The program computes the number of full
key blocks as a floored division of `128 * i` by `256` in 32-bit words; over the 64 grid points these chains are
decided once and for all.
-/

@[expose] public section

namespace Cert.Proof.KernelIdeal

open Idealize.ShloMosaic Idealize.ShloMosaic.TcCoe Idealize.ShloMosaic.Tactic Idealize.SL.Sem
open Cert.KernelIdeal

/-- The first loop runs once per key block that lies wholly before query block `i 1`. -/
theorem trips_eq : ∀ i, (k0_t1_loop i).trips = (i 1).val / 2 := by decide +kernel
/-- The second loop (the remainder of the first) never runs. -/
theorem trips2_eq : ∀ i, (k0_t2_loop i).trips = 0 := by decide +kernel

/-- Trip `t` reads and updates the rows of key block `t`, head 0 of the group at lane 0. -/
theorem off1_eq : ∀ i t, k0_off1 i t = ![256 * t.val, 0] := by decide +kernel
instance (i t) : ClosedOff (k0_off1 i t) := ⟨_, off1_eq i t⟩
/-- Trip `t` reads and updates the rows of key block `t`, head 1 of the group at lane 128. -/
theorem off2_eq : ∀ i t, k0_off2 i t = ![256 * t.val, 128] := fun i t =>
  (show k0_off2 i t = ![k0_off1 i t 0, 128] from rfl).trans (by rw [off1_eq]; rfl)
instance (i t) : ClosedOff (k0_off2 i t) := ⟨_, off2_eq i t⟩
/-- Trip `t` reads and updates the rows of key block `t`, head 2 of the group at lane 256. -/
theorem off3_eq : ∀ i t, k0_off3 i t = ![256 * t.val, 256] := fun i t =>
  (show k0_off3 i t = ![k0_off1 i t 0, 256] from rfl).trans (by rw [off1_eq]; rfl)
instance (i t) : ClosedOff (k0_off3 i t) := ⟨_, off3_eq i t⟩
/-- Trip `t` reads and updates the rows of key block `t`, head 3 of the group at lane 384. -/
theorem off4_eq : ∀ i t, k0_off4 i t = ![256 * t.val, 384] := fun i t =>
  (show k0_off4 i t = ![k0_off1 i t 0, 384] from rfl).trans (by rw [off1_eq]; rfl)
instance (i t) : ClosedOff (k0_off4 i t) := ⟨_, off4_eq i t⟩
/-- Trip `t` reads and updates the rows of key block `t`, head 4 of the group at lane 512. -/
theorem off5_eq : ∀ i t, k0_off5 i t = ![256 * t.val, 512] := fun i t =>
  (show k0_off5 i t = ![k0_off1 i t 0, 512] from rfl).trans (by rw [off1_eq]; rfl)
instance (i t) : ClosedOff (k0_off5 i t) := ⟨_, off5_eq i t⟩
/-- Trip `t` reads and updates the rows of key block `t`, head 5 of the group at lane 640. -/
theorem off6_eq : ∀ i t, k0_off6 i t = ![256 * t.val, 640] := fun i t =>
  (show k0_off6 i t = ![k0_off1 i t 0, 640] from rfl).trans (by rw [off1_eq]; rfl)
instance (i t) : ClosedOff (k0_off6 i t) := ⟨_, off6_eq i t⟩
/-- Trip `t` reads and updates the rows of key block `t`, head 6 of the group at lane 768. -/
theorem off7_eq : ∀ i t, k0_off7 i t = ![256 * t.val, 768] := fun i t =>
  (show k0_off7 i t = ![k0_off1 i t 0, 768] from rfl).trans (by rw [off1_eq]; rfl)
instance (i t) : ClosedOff (k0_off7 i t) := ⟨_, off7_eq i t⟩
/-- Trip `t` reads and updates the rows of key block `t`, head 7 of the group at lane 896. -/
theorem off8_eq : ∀ i t, k0_off8 i t = ![256 * t.val, 896] := fun i t =>
  (show k0_off8 i t = ![k0_off1 i t 0, 896] from rfl).trans (by rw [off1_eq]; rfl)
instance (i t) : ClosedOff (k0_off8 i t) := ⟨_, off8_eq i t⟩
/-- Trip `t` reads the row sums of head 0 for key block `t`. -/
theorem off9_eq : ∀ i t, k0_off9 i t = ![0, 0, t.val, 0, 0] := by decide +kernel
instance (i t) : ClosedOff (k0_off9 i t) := ⟨_, off9_eq i t⟩
/-- Trip `t` reads the row sums of head 1 for key block `t`. -/
theorem off10_eq : ∀ i t, k0_off10 i t = ![1, 0, t.val, 0, 0] := fun i t =>
  (show k0_off10 i t = ![1, 0, k0_off9 i t 2, 0, 0] from rfl).trans (by rw [off9_eq]; rfl)
instance (i t) : ClosedOff (k0_off10 i t) := ⟨_, off10_eq i t⟩
/-- Trip `t` reads the row sums of head 2 for key block `t`. -/
theorem off11_eq : ∀ i t, k0_off11 i t = ![2, 0, t.val, 0, 0] := fun i t =>
  (show k0_off11 i t = ![2, 0, k0_off9 i t 2, 0, 0] from rfl).trans (by rw [off9_eq]; rfl)
instance (i t) : ClosedOff (k0_off11 i t) := ⟨_, off11_eq i t⟩
/-- Trip `t` reads the row sums of head 3 for key block `t`. -/
theorem off12_eq : ∀ i t, k0_off12 i t = ![3, 0, t.val, 0, 0] := fun i t =>
  (show k0_off12 i t = ![3, 0, k0_off9 i t 2, 0, 0] from rfl).trans (by rw [off9_eq]; rfl)
instance (i t) : ClosedOff (k0_off12 i t) := ⟨_, off12_eq i t⟩
/-- Trip `t` reads the row sums of head 4 for key block `t`. -/
theorem off13_eq : ∀ i t, k0_off13 i t = ![4, 0, t.val, 0, 0] := fun i t =>
  (show k0_off13 i t = ![4, 0, k0_off9 i t 2, 0, 0] from rfl).trans (by rw [off9_eq]; rfl)
instance (i t) : ClosedOff (k0_off13 i t) := ⟨_, off13_eq i t⟩
/-- Trip `t` reads the row sums of head 5 for key block `t`. -/
theorem off14_eq : ∀ i t, k0_off14 i t = ![5, 0, t.val, 0, 0] := fun i t =>
  (show k0_off14 i t = ![5, 0, k0_off9 i t 2, 0, 0] from rfl).trans (by rw [off9_eq]; rfl)
instance (i t) : ClosedOff (k0_off14 i t) := ⟨_, off14_eq i t⟩
/-- Trip `t` reads the row sums of head 6 for key block `t`. -/
theorem off15_eq : ∀ i t, k0_off15 i t = ![6, 0, t.val, 0, 0] := fun i t =>
  (show k0_off15 i t = ![6, 0, k0_off9 i t 2, 0, 0] from rfl).trans (by rw [off9_eq]; rfl)
instance (i t) : ClosedOff (k0_off15 i t) := ⟨_, off15_eq i t⟩
/-- Trip `t` reads the row sums of head 7 for key block `t`. -/
theorem off16_eq : ∀ i t, k0_off16 i t = ![7, 0, t.val, 0, 0] := fun i t =>
  (show k0_off16 i t = ![7, 0, k0_off9 i t 2, 0, 0] from rfl).trans (by rw [off9_eq]; rfl)
instance (i t) : ClosedOff (k0_off16 i t) := ⟨_, off16_eq i t⟩
/-- The block on the diagonal, head 0 of the group at lane 0. -/
theorem off33_eq : ∀ i, k0_off33 i = ![256 * ((i 1).val / 2), 0] := by decide +kernel
instance (i) : ClosedOff (k0_off33 i) := ⟨_, off33_eq i⟩
/-- The block on the diagonal, head 1 of the group at lane 128. -/
theorem off34_eq : ∀ i, k0_off34 i = ![256 * ((i 1).val / 2), 128] := fun i =>
  (show k0_off34 i = ![k0_off33 i 0, 128] from rfl).trans (by rw [off33_eq]; rfl)
instance (i) : ClosedOff (k0_off34 i) := ⟨_, off34_eq i⟩
/-- The block on the diagonal, head 2 of the group at lane 256. -/
theorem off35_eq : ∀ i, k0_off35 i = ![256 * ((i 1).val / 2), 256] := fun i =>
  (show k0_off35 i = ![k0_off33 i 0, 256] from rfl).trans (by rw [off33_eq]; rfl)
instance (i) : ClosedOff (k0_off35 i) := ⟨_, off35_eq i⟩
/-- The block on the diagonal, head 3 of the group at lane 384. -/
theorem off36_eq : ∀ i, k0_off36 i = ![256 * ((i 1).val / 2), 384] := fun i =>
  (show k0_off36 i = ![k0_off33 i 0, 384] from rfl).trans (by rw [off33_eq]; rfl)
instance (i) : ClosedOff (k0_off36 i) := ⟨_, off36_eq i⟩
/-- The block on the diagonal, head 4 of the group at lane 512. -/
theorem off37_eq : ∀ i, k0_off37 i = ![256 * ((i 1).val / 2), 512] := fun i =>
  (show k0_off37 i = ![k0_off33 i 0, 512] from rfl).trans (by rw [off33_eq]; rfl)
instance (i) : ClosedOff (k0_off37 i) := ⟨_, off37_eq i⟩
/-- The block on the diagonal, head 5 of the group at lane 640. -/
theorem off38_eq : ∀ i, k0_off38 i = ![256 * ((i 1).val / 2), 640] := fun i =>
  (show k0_off38 i = ![k0_off33 i 0, 640] from rfl).trans (by rw [off33_eq]; rfl)
instance (i) : ClosedOff (k0_off38 i) := ⟨_, off38_eq i⟩
/-- The block on the diagonal, head 6 of the group at lane 768. -/
theorem off39_eq : ∀ i, k0_off39 i = ![256 * ((i 1).val / 2), 768] := fun i =>
  (show k0_off39 i = ![k0_off33 i 0, 768] from rfl).trans (by rw [off33_eq]; rfl)
instance (i) : ClosedOff (k0_off39 i) := ⟨_, off39_eq i⟩
/-- The block on the diagonal, head 7 of the group at lane 896. -/
theorem off40_eq : ∀ i, k0_off40 i = ![256 * ((i 1).val / 2), 896] := fun i =>
  (show k0_off40 i = ![k0_off33 i 0, 896] from rfl).trans (by rw [off33_eq]; rfl)
instance (i) : ClosedOff (k0_off40 i) := ⟨_, off40_eq i⟩
/-- The row sums of head 0 for the block on the diagonal. -/
theorem off41_eq : ∀ i, k0_off41 i = ![0, 0, (i 1).val / 2, 0, 0] := by decide +kernel
instance (i) : ClosedOff (k0_off41 i) := ⟨_, off41_eq i⟩
/-- The row sums of head 1 for the block on the diagonal. -/
theorem off42_eq : ∀ i, k0_off42 i = ![1, 0, (i 1).val / 2, 0, 0] := fun i =>
  (show k0_off42 i = ![1, 0, k0_off41 i 2, 0, 0] from rfl).trans (by rw [off41_eq]; rfl)
instance (i) : ClosedOff (k0_off42 i) := ⟨_, off42_eq i⟩
/-- The row sums of head 2 for the block on the diagonal. -/
theorem off43_eq : ∀ i, k0_off43 i = ![2, 0, (i 1).val / 2, 0, 0] := fun i =>
  (show k0_off43 i = ![2, 0, k0_off41 i 2, 0, 0] from rfl).trans (by rw [off41_eq]; rfl)
instance (i) : ClosedOff (k0_off43 i) := ⟨_, off43_eq i⟩
/-- The row sums of head 3 for the block on the diagonal. -/
theorem off44_eq : ∀ i, k0_off44 i = ![3, 0, (i 1).val / 2, 0, 0] := fun i =>
  (show k0_off44 i = ![3, 0, k0_off41 i 2, 0, 0] from rfl).trans (by rw [off41_eq]; rfl)
instance (i) : ClosedOff (k0_off44 i) := ⟨_, off44_eq i⟩
/-- The row sums of head 4 for the block on the diagonal. -/
theorem off45_eq : ∀ i, k0_off45 i = ![4, 0, (i 1).val / 2, 0, 0] := fun i =>
  (show k0_off45 i = ![4, 0, k0_off41 i 2, 0, 0] from rfl).trans (by rw [off41_eq]; rfl)
instance (i) : ClosedOff (k0_off45 i) := ⟨_, off45_eq i⟩
/-- The row sums of head 5 for the block on the diagonal. -/
theorem off46_eq : ∀ i, k0_off46 i = ![5, 0, (i 1).val / 2, 0, 0] := fun i =>
  (show k0_off46 i = ![5, 0, k0_off41 i 2, 0, 0] from rfl).trans (by rw [off41_eq]; rfl)
instance (i) : ClosedOff (k0_off46 i) := ⟨_, off46_eq i⟩
/-- The row sums of head 6 for the block on the diagonal. -/
theorem off47_eq : ∀ i, k0_off47 i = ![6, 0, (i 1).val / 2, 0, 0] := fun i =>
  (show k0_off47 i = ![6, 0, k0_off41 i 2, 0, 0] from rfl).trans (by rw [off41_eq]; rfl)
instance (i) : ClosedOff (k0_off47 i) := ⟨_, off47_eq i⟩
/-- The row sums of head 7 for the block on the diagonal. -/
theorem off48_eq : ∀ i, k0_off48 i = ![7, 0, (i 1).val / 2, 0, 0] := fun i =>
  (show k0_off48 i = ![7, 0, k0_off41 i 2, 0, 0] from rfl).trans (by rw [off41_eq]; rfl)
instance (i) : ClosedOff (k0_off48 i) := ⟨_, off48_eq i⟩

end Cert.Proof.KernelIdeal
-- ==== Proof.Loops.lean ====
module

public import proofs.«01_k».proof.Proof.Offsets
public import Idealize.ShloMosaic.Lib.Exec
public import Idealize.ShloMosaic.Lib.Tactic
public import Idealize.ShloMosaic.Lib.Pipeline.Kit

/-!
The kernel's two counted loops.  The first goes over the key blocks wholly before the query block: it carries the
sixteen running values (a prefix sum and a query gradient per head) and adds to the accumulated key/value gradient.
The second never runs.
-/

@[expose] public section

set_option maxRecDepth 8192
set_option maxHeartbeats 4000000

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- What the loop carries: eight prefix sums, then eight query gradients. -/
abbrev Carry (F : FTy → Type) : Type :=
  FVec F S128x1 .f32 × FVec F S128x1 .f32 × FVec F S128x1 .f32 × FVec F S128x1 .f32 × FVec F S128x1 .f32
    × FVec F S128x1 .f32 × FVec F S128x1 .f32 × FVec F S128x1 .f32 × FVec F S128x128 .f32 × FVec F S128x128 .f32
    × FVec F S128x128 .f32 × FVec F S128x128 .f32 × FVec F S128x128 .f32 × FVec F S128x128 .f32
    × FVec F S128x128 .f32 × FVec F S128x128 .f32

/-- A list of stores into the accumulated key/value gradient, last first. -/
abbrev Pieces (F : FTy → Type) : Type := List (View.Piece (Elt F) S4096x1024 .f32)

/-- What one trip needs: the keys/values and the row sums to read, the accumulated gradient to update. -/
abbrev Trip (c : Dev nD) (arg3 : Memref sig .tc .vmem S4096x1024 .bf16)
    (arg5 : Memref sig .tc .vmem S8x1x16x1x128 .f32) (arg7 : Memref sig .tc .vmem S4096x1024 .f32)
    (X3 : BufTy.Contents (Elt F) arg3.view.ty) (X5 : BufTy.Contents (Elt F) arg5.view.ty)
    (f : BufTy.Contents (Elt F) arg7.view.ty) : sProp 𝕄 :=
  iprop((arg3.view.loc (c : Thread nD τ) ↦[arg3.view.set]{fullShare} X3)
    ∗ (arg5.view.loc (c : Thread nD τ) ↦[arg5.view.set]{fullShare} X5)
    ∗ (arg7.view.loc (c : Thread nD τ) ↦[arg7.view.set]{fullShare} f))

section loops

variable (𝒱 : Variants) (c : Dev nD) (bd : Option 𝒱.V)
  (i : grid0.Coords) (arg2 : Memref sig .tc .vmem S128x512 .bf16) (harg2 : arg2.IsWhole) (arg3 : Memref sig .tc
  .vmem S4096x1024 .bf16) (harg3 : arg3.IsWhole) (arg4 : Memref sig .tc .vmem S128x512 .bf16) (harg4 :
  arg4.IsWhole) (arg5 : Memref sig .tc .vmem S8x1x16x1x128 .f32) (harg5 : arg5.IsWhole) (arg6 : Memref sig .tc
  .vmem S128x512 .bf16) (harg6 : arg6.IsWhole) (arg7 : Memref sig .tc .vmem S4096x1024 .f32) (harg7 :
  arg7.IsWhole) (v11 : FVec F S256x256 .bf16) (v15 : FVec F S256x256 .bf16) (v33 : BitVec 32) (v42 : FVec F
  S128x128 .bf16) (v52 : FVec F S128x128 .bf16) (v61 : FVec F S128x128 .bf16) (v71 : FVec F S128x128 .bf16) (v80
  : FVec F S128x128 .bf16) (v90 : FVec F S128x128 .bf16) (v99 : FVec F S128x128 .bf16) (v109 : FVec F S128x128
  .bf16) (v119 : FVec F S128x128 .bf16) (v128 : FVec F S128x128 .bf16) (v138 : FVec F S128x128 .bf16) (v147 :
  FVec F S128x128 .bf16) (v157 : FVec F S128x128 .bf16) (v166 : FVec F S128x128 .bf16) (v176 : FVec F S128x128
  .bf16) (v185 : FVec F S128x128 .bf16) (v186 : FVec F S128x1 .f32) (v187 : FVec F S128x1 .f32) (v188 : FVec F
  S128x1 .f32) (v189 : FVec F S128x1 .f32) (v190 : FVec F S128x1 .f32) (v191 : FVec F S128x1 .f32) (v192 : FVec
  F S128x1 .f32) (v193 : FVec F S128x1 .f32) (v194 : FVec F S128x128 .f32) (v195 : FVec F S128x128 .f32) (v196 :
  FVec F S128x128 .f32) (v197 : FVec F S128x128 .f32) (v198 : FVec F S128x128 .f32) (v199 : FVec F S128x128
  .f32) (cst_86 : F .f32)
  (X3 : BufTy.Contents (Elt F) arg3.view.ty) (X5 : BufTy.Contents (Elt F) arg5.view.ty)
  (G7 : BufTy.Contents (Elt F) arg7.view.ty) (init : Carry F)

/-- One trip of the first loop: from the carried values `acc` and the accumulated gradient `f` it yields `R acc f` and
    stores the pieces `L acc f`; both are what the run of the body finds. -/
@[irreducible] def trip (k : Fin (k0_t1_loop i).trips) :
    Σ' (R : Carry F → BufTy.Contents (Elt F) arg7.view.ty → Carry F),
      { L : Carry F → BufTy.Contents (Elt F) arg7.view.ty → Pieces F //
        ∀ (E : Set ℕ) (acc : Carry F) (f : BufTy.Contents (Elt F) arg7.view.ty),
          Trip (F := F) c arg3 arg5 arg7 X3 X5 f
          ⊢ wp Idealize.ShloMosaic.frame (wpE (defs₀ (F := F)) 𝒱 (c : Thread nD τ) bd) E
              (k0_t1_body (F := F) i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 k acc)
              (fun y => iprop(⌜y = R acc f⌝
                ∗ Trip (F := F) c arg3 arg5 arg7 X3 X5 (arg7.view.writes (Elt F) f (L acc f)))) } := by
  refine ⟨?_, ?_, fun E acc f => ?run⟩
  case run =>
    unfold k0_t1_body
    iintro ⟨H3, H5, H7⟩
    sl_exec
    sl_step
    sl_close

/-- Trip `k` in front of what the trips before it carried and stored. -/
@[irreducible] def step1 (k : ℕ) (s : Carry F × Pieces F) : Carry F × Pieces F :=
  if h : k < (k0_t1_loop i).trips then
    ((trip (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 ⟨k, h⟩).1 s.1 (arg7.view.writes (Elt F) G7 s.2),
      (trip (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 ⟨k, h⟩).2.1 s.1 (arg7.view.writes (Elt F) G7 s.2) ++ s.2)
  else s

/-- What is carried, and what has been stored, before trip `k`. -/
def state : ℕ → Carry F × Pieces F
  | 0 => (init, [])
  | k + 1 => step1 (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 G7 k (state k)

/-- `state` after one more trip. -/
theorem state_succ (k : Fin (k0_t1_loop i).trips) :
    state (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 G7 init (k.val + 1)
      = ((trip (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 k).1
          (state (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 G7 init k.val).1
          (arg7.view.writes (Elt F) G7 (state (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 G7 init k.val).2),
        (trip (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 k).2.1
          (state (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 G7 init k.val).1
          (arg7.view.writes (Elt F) G7 (state (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 G7 init k.val).2)
          ++ (state (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 G7 init k.val).2) := by
  rw [state.eq_2]; unfold step1; exact dif_pos k.isLt

set_option warn.classDefReducibility false in
/-- The first loop by its invariant: what it reads is kept, and the accumulated gradient and the carried values are
    those of `state`. -/
@[sl_loop] def loop1 (E : Set ℕ) :
    LoopInvTy_k0_t1 (F := F) Unit ℕ (UR sig nD τ) ℕ 𝒱 c bd E i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 init where
  inv k acc := iprop((arg3.view.loc (c : Thread nD τ) ↦[arg3.view.set]{fullShare} X3)
    ∗ (arg5.view.loc (c : Thread nD τ) ↦[arg5.view.set]{fullShare} X5)
    ∗ (∃ f, (arg7.view.loc (c : Thread nD τ) ↦[arg7.view.set]{fullShare} f)
        ∗ ⌜f = arg7.view.writes (Elt F) G7
              (state (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 G7 init k).2⌝)
    ∗ ⌜acc = (state (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 G7 init k).1⌝)
  step k acc := by
    iintro ⟨H3, H5, ⟨%f, H7, %hf⟩, %hacc⟩
    subst hacc
    iapply (wp_wand_r Idealize.ShloMosaic.frame (wpE (defs₀ (F := F)) 𝒱 (c : Thread nD τ) bd) E)
    isplitl [H3 H5 H7]
    · iapply ((trip (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 k).2.2 E _ f)
      isplitl [H3]; · iexact H3
      isplitl [H5]; · iexact H5
      iexact H7
    · iintro %y ⟨%hy, H3, H5, H7⟩
      isplitl [H3]; · iexact H3
      isplitl [H5]; · iexact H5
      simp only [state_succ]
      isplitl [H7]
      · iexists _; isplitl [H7]; · iexact H7
        ipureintro; rw [hf, ← View.writes_append]
      ipureintro; rw [hy, hf]

set_option warn.classDefReducibility false in
/-- The second loop never runs, so what it carries stays what it was. -/
@[sl_loop] def loop2 (v206 : BitVec 32) (E : Set ℕ) :
    LoopInvTy_k0_t2 (F := F) Unit ℕ (UR sig nD τ) ℕ 𝒱 c bd E i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 v206 init where
  inv _ acc := iprop(⌜acc = init⌝)
  step k _ := (Nat.not_lt_zero k.val (lt_of_lt_of_eq k.isLt (trips2_eq i))).elim

end loops

end Cert.Proof.KernelIdeal

end
-- ==== Proof.RunFirst.lean ====
module

public import proofs.«01_k».proof.Proof.Loops
public import proofs.«01_k».proof.Proof.Gen.KernelIdeal.Frame

/-!
The run of the kernel body at the first query block of a head group.
-/

@[expose] public section

set_option maxRecDepth 16384

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one condition: the query block is the first of its head group. -/
abbrev isFirst (i : grid0.Coords) : Prop :=
  (Scalar.cmpi .ne (Scalar.extui (Scalar.cmpi .eq (BitVec.ofNat 32 (i 1).val) 0#32)) 0#32) = 1#1

/-- It holds at the points that are multiples of 32. -/
theorem isFirst_iff (t : Fin cfg0.N) : isFirst (grid0.coords t) ↔ t.val % 32 = 0 :=
  (by decide +kernel : ∀ t : Fin grid0.N, isFirst (grid0.coords t) ↔ t.val % 32 = 0) t

set_option maxHeartbeats 1000000 in
/-- The body at the first query block of a head group: the accumulated gradient is cleared first, so its contents
    before do not matter.  `L6` and `L7` are the stores into the query gradient and the accumulated gradient, last
    first, as the run finds them. -/
def runFirst (c : Dev nD) (i : grid0.Coords)
  (arg2 : Memref sig .tc .vmem S128x512 .bf16) (harg2 : arg2.IsWhole)
  (arg3 : Memref sig .tc .vmem S4096x1024 .bf16) (harg3 : arg3.IsWhole)
  (arg4 : Memref sig .tc .vmem S128x512 .bf16) (harg4 : arg4.IsWhole)
  (arg5 : Memref sig .tc .vmem S8x1x16x1x128 .f32) (harg5 : arg5.IsWhole)
  (arg6 : Memref sig .tc .vmem S128x512 .bf16) (harg6 : arg6.IsWhole)
  (arg7 : Memref sig .tc .vmem S4096x1024 .f32) (harg7 : arg7.IsWhole) (hc : isFirst i)
    (x2 : Vec F S128x512 .bf16) (x3 : Vec F S4096x1024 .bf16) (x4 : Vec F S128x512 .bf16)
    (x5 : Vec F S8x1x16x1x128 .f32) :
    Σ' (L6 : List (View.Piece (Elt F) S128x512 .bf16)), { L7 : List (View.Piece (Elt F) S4096x1024 .f32) //
      ∀ (E : Set ℕ) (K : PUnit → sProp 𝕄),
        iprop(owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ (iprop(owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E (cc0_attn_bwd i arg2 harg2 arg3 harg3 arg4 harg4 arg5 harg5 arg6 harg6 arg7 harg7) K } := by
  refine ⟨?_, ?_, fun E K => ?run⟩
  case run =>
    simp only [cc0_attn_bwd_eq_skeleton]; unfold cc0_attn_bwd_skel
    simp only [k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f2, %h2, H2⟩, ⟨%f3, %h3, H3⟩, ⟨%f4, %h4, H4⟩, ⟨%f5, %h5, H5⟩, ⟨%d6, %f6, -, H6⟩, ⟨%d7, %f7, -, H7⟩, Hk⟩
    obtain rfl := harg2.eq_unread h2; obtain rfl := harg3.eq_unread h3
    obtain rfl := harg4.eq_unread h4; obtain rfl := harg5.eq_unread h5
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

end Cert.Proof.KernelIdeal

end
-- ==== Proof.RunLater.lean ====
module

public import proofs.«01_k».proof.Proof.RunFirst

/-!
The run of the kernel body at a query block that is not the first of its head group.
-/

@[expose] public section

set_option maxRecDepth 16384

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a later query block: the accumulated gradient is what the block before left, `x7`, and gets the stores
    `L7` (last first) over it. -/
def runLater (c : Dev nD) (i : grid0.Coords)
  (arg2 : Memref sig .tc .vmem S128x512 .bf16) (harg2 : arg2.IsWhole)
  (arg3 : Memref sig .tc .vmem S4096x1024 .bf16) (harg3 : arg3.IsWhole)
  (arg4 : Memref sig .tc .vmem S128x512 .bf16) (harg4 : arg4.IsWhole)
  (arg5 : Memref sig .tc .vmem S8x1x16x1x128 .f32) (harg5 : arg5.IsWhole)
  (arg6 : Memref sig .tc .vmem S128x512 .bf16) (harg6 : arg6.IsWhole)
  (arg7 : Memref sig .tc .vmem S4096x1024 .f32) (harg7 : arg7.IsWhole) (hc : ¬ isFirst i)
    (x2 : Vec F S128x512 .bf16) (x3 : Vec F S4096x1024 .bf16) (x4 : Vec F S128x512 .bf16)
    (x5 : Vec F S8x1x16x1x128 .f32)
    (x7 : Vec F S4096x1024 .f32) :
    Σ' (L6 : List (View.Piece (Elt F) S128x512 .bf16)), { L7 : List (View.Piece (Elt F) S4096x1024 .f32) //
      ∀ (E : Set ℕ) (K : PUnit → sProp 𝕄),
        iprop(owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ owns (c : Thread nD τ) arg7 fullShare x7
            ∗ (iprop(owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (arg7.view.loc (c : Thread nD τ) ↦[arg7.view.set]{fullShare} arg7.view.writes (Elt F) (harg7.unread x7) L7)) -∗ K ⟨⟩))
          ⊢ wp frame (wpE (defs₀ (F := F)) Variants.none c none) E (cc0_attn_bwd i arg2 harg2 arg3 harg3 arg4 harg4 arg5 harg5 arg6 harg6 arg7 harg7) K } := by
  refine ⟨?_, ?_, fun E K => ?run⟩
  case run =>
    simp only [cc0_attn_bwd_eq_skeleton]; unfold cc0_attn_bwd_skel
    simp only [k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f2, %h2, H2⟩, ⟨%f3, %h3, H3⟩, ⟨%f4, %h4, H4⟩, ⟨%f5, %h5, H5⟩, ⟨%d6, %f6, -, H6⟩, ⟨%f7, %h7, H7⟩, Hk⟩
    obtain rfl := harg2.eq_unread h2; obtain rfl := harg3.eq_unread h3
    obtain rfl := harg4.eq_unread h4; obtain rfl := harg5.eq_unread h5
    obtain rfl := harg7.eq_unread h7
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexact H7

end Cert.Proof.KernelIdeal

end
-- ==== Proof.Frame.lean ====
module

public import proofs.«01_k».proof.Proof.RunLater
public import Idealize.ShloMosaic.Lib.Claim

/-!
The frame of the kernel: what its two outputs hold after every grid point, the body's obligation at a generic
point, and the run of the whole program, which leaves its arguments unchanged and every semaphore at zero.
-/

@[expose] public section

set_option maxRecDepth 16384

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffer of window 0 at point `t`. -/
abbrev ms0 (t : Fin cfg0.N) : Memref sig .tc .vmem S128x512 .bf16 := win0_0.stage (cfg0.slots t 0)
/-- It is a whole buffer. -/
abbrev hs0 (t : Fin cfg0.N) : (ms0 t).IsWhole := hstage0_0 ((cfg0.slots t 0).cast nbuf0_0)
/-- The staging buffer of window 1 at point `t`. -/
abbrev ms1 (t : Fin cfg0.N) : Memref sig .tc .vmem S4096x1024 .bf16 := win0_1.stage (cfg0.slots t 1)
/-- It is a whole buffer. -/
abbrev hs1 (t : Fin cfg0.N) : (ms1 t).IsWhole := hstage0_1 ((cfg0.slots t 1).cast nbuf0_1)
/-- The staging buffer of window 2 at point `t`. -/
abbrev ms2 (t : Fin cfg0.N) : Memref sig .tc .vmem S128x512 .bf16 := win0_2.stage (cfg0.slots t 2)
/-- It is a whole buffer. -/
abbrev hs2 (t : Fin cfg0.N) : (ms2 t).IsWhole := hstage0_2 ((cfg0.slots t 2).cast nbuf0_2)
/-- The staging buffer of window 3 at point `t`. -/
abbrev ms3 (t : Fin cfg0.N) : Memref sig .tc .vmem S8x1x16x1x128 .f32 := win0_3.stage (cfg0.slots t 3)
/-- It is a whole buffer. -/
abbrev hs3 (t : Fin cfg0.N) : (ms3 t).IsWhole := hstage0_3 ((cfg0.slots t 3).cast nbuf0_3)
/-- The staging buffer of window 4 at point `t`. -/
abbrev ms4 (t : Fin cfg0.N) : Memref sig .tc .vmem S128x512 .bf16 := win0_4.stage (cfg0.slots t 4)
/-- It is a whole buffer. -/
abbrev hs4 (t : Fin cfg0.N) : (ms4 t).IsWhole := hstage0_4 ((cfg0.slots t 4).cast nbuf0_4)
/-- The staging buffer of window 5 at point `t`. -/
abbrev ms5 (t : Fin cfg0.N) : Memref sig .tc .vmem S4096x1024 .f32 := win0_5.stage (cfg0.slots t 5)
/-- It is a whole buffer. -/
abbrev hs5 (t : Fin cfg0.N) : (ms5 t).IsWhole := hstage0_5 ((cfg0.slots t 5).cast nbuf0_5)

/-- A buffer through which the query gradient's contents are stated; which one does not matter. -/
abbrev VO6 : View sig .tc .vmem S128x512 .bf16 := (Memref.whole cc0_stg4_0 : Memref sig .tc .vmem S128x512 .bf16).view
/-- The same for the key/value gradient. -/
abbrev VO7 : View sig .tc .vmem S4096x1024 .f32 :=
  (Memref.whole cc0_stg5_0 : Memref sig .tc .vmem S4096x1024 .f32).view

/-- The stores at point `t` when it is the first of its head group. -/
abbrev firstAt (c : Dev nD) (t : Fin cfg0.N) (h : t.val % 32 = 0) :=
  runFirst (F := F) c (grid0.coords t) (ms0 t) (hs0 t) (ms1 t) (hs1 t) (ms2 t) (hs2 t) (ms3 t) (hs3 t) (ms4 t) (hs4 t) (ms5 t) (hs5 t)
    ((isFirst_iff t).mpr h) (iblk m c 0 t) (iblk m c 1 t) (iblk m c 2 t) (iblk m c 3 t)

/-- The stores at a later point `t`, the key/value gradient being `x7` before. -/
abbrev laterAt (c : Dev nD) (t : Fin cfg0.N) (h : ¬ t.val % 32 = 0) (x7 : Vec F S4096x1024 .f32) :=
  runLater (F := F) c (grid0.coords t) (ms0 t) (hs0 t) (ms1 t) (hs1 t) (ms2 t) (hs2 t) (ms3 t) (hs3 t) (ms4 t) (hs4 t) (ms5 t) (hs5 t)
    (fun hf => h ((isFirst_iff t).mp hf)) (iblk m c 0 t) (iblk m c 1 t) (iblk m c 2 t) (iblk m c 3 t) x7

/-- The first point's four stores into the query gradient tile it. -/
theorem cover6_first (c : Dev nD) (t : Fin cfg0.N) (h : t.val % 32 = 0) (y : S128x512.Idx) :
    ∃ pc ∈ (firstAt m c t h).1, y ∈ pc.1.set :=
  View.cover_of_tiledL (firstAt m c t h).1 S128x128.size (by sl_kernel_rfl) y
/-- A later point's four stores into the query gradient tile it. -/
theorem cover6_later (c : Dev nD) (t : Fin cfg0.N) (h : ¬ t.val % 32 = 0) (x7 : Vec F S4096x1024 .f32)
    (y : S128x512.Idx) : ∃ pc ∈ (laterAt m c t h x7).1, y ∈ pc.1.set :=
  View.cover_of_tiledL (laterAt m c t h x7).1 S128x128.size (by sl_kernel_rfl) y
/-- The first point's stores into the key/value gradient include one of the whole of it. -/
theorem cover7_first (c : Dev nD) (t : Fin cfg0.N) (h : t.val % 32 = 0) (y : S4096x1024.Idx) :
    ∃ pc ∈ (firstAt m c t h).2.1, y ∈ pc.1.set :=
  View.cover_of_wholeMem (firstAt m c t h).2.1 (by sl_whole_mem) y

/-- Both outputs after a first point. -/
def outFirst (c : Dev nD) (t : Fin cfg0.N) (h : t.val % 32 = 0) : Vec F S128x512 .bf16 × Vec F S4096x1024 .f32 :=
  (VO6.read (Elt F) (VO6.writes (Elt F) VO6.junk (firstAt m c t h).1),
    VO7.read (Elt F) (VO7.writes (Elt F) VO7.junk (firstAt m c t h).2.1))
/-- Both outputs after a later point. -/
def outLater (c : Dev nD) (t : Fin cfg0.N) (h : ¬ t.val % 32 = 0) (x7 : Vec F S4096x1024 .f32) :
    Vec F S128x512 .bf16 × Vec F S4096x1024 .f32 :=
  (VO6.read (Elt F) (VO6.writes (Elt F) VO6.junk (laterAt m c t h x7).1),
    (ms5 t).view.read (Elt F) ((ms5 t).view.writes (Elt F) ((hs5 t).unread x7) (laterAt m c t h x7).2.1))

/-- Both outputs after point `n`. -/
def outs (c : Dev nD) : (n : ℕ) → n < cfg0.N → Vec F S128x512 .bf16 × Vec F S4096x1024 .f32
  | 0, hn => outFirst m c ⟨0, hn⟩ (Nat.zero_mod _)
  | n + 1, hn =>
    if h : (n + 1) % 32 = 0 then outFirst m c ⟨n + 1, hn⟩ h
    else outLater m c ⟨n + 1, hn⟩ h (outs c n (Nat.lt_of_succ_lt hn)).2

/-- At a first point they are what its run leaves. -/
theorem outs_first (c : Dev nD) (t : Fin cfg0.N) (h : t.val % 32 = 0) :
    outs m c t.val t.isLt = outFirst m c t h := by
  obtain ⟨n, hn⟩ := t
  cases n with
  | zero => exact rfl
  | succ n => exact (dif_pos h).trans rfl
/-- At a later point they are what its run leaves over the point before. -/
theorem outs_later (c : Dev nD) (t : Fin cfg0.N) (h : ¬ t.val % 32 = 0) :
    outs m c t.val t.isLt
      = outLater m c t h (outs m c (t.val - 1) (Nat.lt_of_le_of_lt (Nat.sub_le _ _) t.isLt)).2 := by
  obtain ⟨n, hn⟩ := t
  cases n with
  | zero => exact absurd (Nat.zero_mod _) h
  | succ n => exact (dif_neg h).trans rfl

/-- The pipeline's proof data: arrays as the region finds them, each input's block in place after the body, the outputs
    at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outs m c t.val t.isLt).1
    | ⟨5, _⟩ => (outs m c t.val t.isLt).2
  Φ _ := Pipeline.ΦA spec0 c
  q _ := fullShare
  owed _ := 0

/-- The data's arrays are those the region finds. -/
theorem dats_A (c : Dev nD) (w : Fin cfg0.W) : (dats m 0 c).A w = V m c (Pipeline.arrRef spec0 w) := by
  dsimp only [dats]
/-- Input 0's block is in place after the body. -/
theorem after0 (c : Dev nD) (t : Fin cfg0.N) : (dats m 0 c).after 0 t = iblk m c 0 t := by dsimp only [dats]
/-- Input 0's block is in place before the body. -/
theorem before0 (c : Dev nD) (t : Fin cfg0.N) (d) : (dats m 0 c).before 0 t d = iblk m c 0 t :=
  before0_0_of m (dats m 0 c) (dats_A m c 0) (after0 m c) t d
/-- Input 1's block is in place after the body. -/
theorem after1 (c : Dev nD) (t : Fin cfg0.N) : (dats m 0 c).after 1 t = iblk m c 1 t := by dsimp only [dats]
/-- Input 1's block is in place before the body. -/
theorem before1 (c : Dev nD) (t : Fin cfg0.N) (d) : (dats m 0 c).before 1 t d = iblk m c 1 t :=
  before0_1_of m (dats m 0 c) (dats_A m c 1) (after1 m c) t d
/-- Input 2's block is in place after the body. -/
theorem after2 (c : Dev nD) (t : Fin cfg0.N) : (dats m 0 c).after 2 t = iblk m c 2 t := by dsimp only [dats]
/-- Input 2's block is in place before the body. -/
theorem before2 (c : Dev nD) (t : Fin cfg0.N) (d) : (dats m 0 c).before 2 t d = iblk m c 2 t :=
  before0_2_of m (dats m 0 c) (dats_A m c 2) (after2 m c) t d
/-- Input 3's block is in place after the body. -/
theorem after3 (c : Dev nD) (t : Fin cfg0.N) : (dats m 0 c).after 3 t = iblk m c 3 t := by dsimp only [dats]
/-- Input 3's block is in place before the body. -/
theorem before3 (c : Dev nD) (t : Fin cfg0.N) (d) : (dats m 0 c).before 3 t d = iblk m c 3 t :=
  before0_3_of m (dats m 0 c) (dats_A m c 3) (after3 m c) t d
/-- The query gradient after the body. -/
theorem after4 (c : Dev nD) (t : Fin cfg0.N) : (dats m 0 c).after 4 t = (outs m c t.val t.isLt).1 := by
  dsimp only [dats]
/-- The key/value gradient after the body. -/
theorem after5 (c : Dev nD) (t : Fin cfg0.N) : (dats m 0 c).after 5 t = (outs m c t.val t.isLt).2 := by
  dsimp only [dats]
/-- Before a later point the key/value gradient is what the point before left: it is written back only after the last
    point of the head group. -/
theorem before5_later (c : Dev nD) (t : Fin cfg0.N) (h : ¬ t.val % 32 = 0) (d) :
    (dats m 0 c).before 5 t d = (outs m c (t.val - 1) (Nat.lt_of_le_of_lt (Nat.sub_le _ _) t.isLt)).2 := by
  have hN : t.val < 64 := lt_of_lt_of_eq t.isLt (show cfg0.N = 64 from N_0)
  rw [Dat.before_out_kept _ 5 rfl t (by omega)
    (Bool.eq_false_iff.mpr fun h => by have := (flush0_5 _).mp h; dsimp only at this; omega)
    (fun _ => rfl) (fun _ _ => rfl)]
  dsimp only [dats]

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What the body leaves at point `t`. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 800000 in
/-- The body at any point, first or later. -/
theorem sound_body (c : Dev nD) (t : Fin cfg0.N) :
    bodyPre m c t
      ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  by_cases h : t.val % 32 = 0
  · rw [outs_first m c t h]
    unfold outFirst; dsimp only
    iintro ⟨HΦ, Ho, ⟨%d0, H0⟩, ⟨%d1, H1⟩, ⟨%d2, H2⟩, ⟨%d3, H3⟩, ⟨%d4, H4⟩, ⟨%d5, H5⟩⟩
    iapply ((firstAt m c t h).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover6_first m c t h)
    unfold owns; iexists _; isplitr
    swap; · iexact H5
    ipureintro; exact View.read_writes_of_cover _ _ _ _ _ (cover7_first m c t h)
  · rw [outs_later m c t h]
    simp only [before5_later m c t h]
    unfold outLater; dsimp only
    iintro ⟨HΦ, Ho, ⟨%d0, H0⟩, ⟨%d1, H1⟩, ⟨%d2, H2⟩, ⟨%d3, H3⟩, ⟨%d4, H4⟩, ⟨%d5, H5⟩⟩
    iapply ((laterAt m c t h _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover6_later m c t h _)
    unfold owns; iexists _; isplitr
    swap; · iexact H5
    ipureintro; rfl

/-- The body table's row at point `t` is the body at that point. -/
theorem defs₀_row (t : Fin cfg0.N) : defs₀ (F := F) .tc cfg0.body (cfg0.bodyArgs t (cfg0.slots t)) = bodyAt0 t := by
  unfold defs₀; rw [Defs.onTc_tc]

/-- The pipeline's obligation on the body, at every point. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs to the arrays the pipeline leaves, with every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m) (hΦ := fun _ _ => rfl)

/-- The whole program runs to the arrays the pipeline leaves. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they began, and every semaphore is at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) (run_main m ρ)) ((θ_run defs _ _).mono (fun _ h => h.2) (run_quiescent m ρ))

end Cert.Proof.KernelIdeal

end
-- ==== Proof.SameText.lean ====
module

public import proofs.«01_k».proof.Defs
public import proofs.«01_k».proof.Proof.Gen.Kernel
public import proofs.«01_k».proof.Proof.Gen.KernelIdeal
public import proofs.«01_k».proof.Proof.Frame

/-! The kernel and its idealization have one text, so the run of the second over any float values is a run of the
first. -/

@[expose] public section

namespace Cert.Proof

open Idealize.ShloMosaic Idealize.ShloMosaic.TcCoe Idealize.SL.Sem

variable {F : FTy → Type} [FloatOps F]

set_option maxRecDepth 65536 in
/-- The two programs' kernel bodies are the same. -/
theorem bodies_same : (Cert.Kernel.defs₀ (F := F)) = Cert.KernelIdeal.defs₀ :=
  congrArg Defs.onTc (funext fun l => match l with
    | 0 => rfl)

set_option maxRecDepth 65536 in
/-- The two programs' bodies and pipelines are the same. -/
theorem defs_same : (Cert.Kernel.defs (F := F)) = Cert.KernelIdeal.defs := by
  unfold Cert.Kernel.defs Cert.KernelIdeal.defs
  rw [bodies_same]
  rfl

set_option maxRecDepth 65536 in
set_option maxHeartbeats 4000000 in
/-- The two programs' host parts are the same. -/
theorem main_same : (Cert.Kernel.main (F := F)) = Cert.KernelIdeal.main := rfl

set_option maxRecDepth 65536 in
set_option maxHeartbeats 4000000 in
/-- The kernel's frame at the machine's own formats. -/
theorem frame_kernel : Cert.quiescent_Kernel := by
  intro m ρ _
  rw [defs_same, main_same]
  exact Cert.Proof.KernelIdeal.frame_main (F := Bits) m ρ

end Cert.Proof
-- ==== Proof.RealMat.lean ====
module

public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Mathlib.Analysis.SpecialFunctions.Log.Basic

/-!
Matrices whose entries are real numbers, among the matrices of extended reals: every operation of the kernel's body
takes such matrices to such a matrix, entry by entry.
-/

@[expose] public section

noncomputable section

namespace Cert.Proof.RealMat

open Idealize.ShloMosaic Idealize.ShloMosaic.ValueIdx
open scoped BigOperators

/-- The matrix of the real numbers `f row column`. -/
def M2 {n m : ℕ} {φ : FTy} (f : ℕ → ℕ → ℝ) : FVec Ideal ⟨2, ![n, m]⟩ φ :=
  fun i => ((f (i 0).val (i 1).val : ℝ) : EReal)

variable {n m p : ℕ} {φ ψ : FTy}

/-- Its entries. -/
theorem M2_ix2 (f : ℕ → ℕ → ℝ) (r : Fin n) (c : Fin m) :
    (M2 f : FVec Ideal ⟨2, ![n, m]⟩ φ) (ix2 r c) = ((f r.val c.val : ℝ) : EReal) := rfl

/-- Two such matrices agree when the numbers do within the bounds. -/
theorem M2_congr {f g : ℕ → ℕ → ℝ} (h : ∀ r < n, ∀ c < m, f r c = g r c) :
    (M2 f : FVec Ideal ⟨2, ![n, m]⟩ φ) = M2 g :=
  funext fun i => congrArg _ (h _ (idx2_lt0 i) _ (idx2_lt1 i))

/-- A matrix is such a matrix when its entries are. -/
theorem eq_M2 {x : FVec Ideal ⟨2, ![n, m]⟩ φ} {f : ℕ → ℕ → ℝ}
    (h : ∀ (r : Fin n) (c : Fin m), x (ix2 r c) = ((f r.val c.val : ℝ) : EReal)) : x = M2 f :=
  funext fun i => by rw [eq_ix2 i]; exact h _ _

/-- Sums, entry by entry. -/
theorem addf_M2 (f g : ℕ → ℕ → ℝ) :
    addf (M2 f : FVec Ideal ⟨2, ![n, m]⟩ φ) (M2 g) = M2 (fun r c => f r c + g r c) :=
  funext fun _ => (EReal.coe_add _ _).symm
/-- Differences. -/
theorem subf_M2 (f g : ℕ → ℕ → ℝ) :
    subf (M2 f : FVec Ideal ⟨2, ![n, m]⟩ φ) (M2 g) = M2 (fun r c => f r c - g r c) :=
  funext fun _ => (EReal.coe_sub _ _).symm
/-- Products. -/
theorem mulf_M2 (f g : ℕ → ℕ → ℝ) :
    mulf (M2 f : FVec Ideal ⟨2, ![n, m]⟩ φ) (M2 g) = M2 (fun r c => f r c * g r c) :=
  funext fun _ => (EReal.coe_mul _ _).symm
/-- The larger of two. -/
theorem maximumf_M2 (f g : ℕ → ℕ → ℝ) :
    maximumf (M2 f : FVec Ideal ⟨2, ![n, m]⟩ φ) (M2 g) = M2 (fun r c => max (f r c) (g r c)) :=
  funext fun _ => (EReal.coe_strictMono.monotone.map_max).symm
/-- Absolute values. -/
theorem absf_M2 (f : ℕ → ℕ → ℝ) :
    absf (M2 f : FVec Ideal ⟨2, ![n, m]⟩ φ) = M2 (fun r c => |f r c|) :=
  funext fun _ => (congrArg _ (EReal.coe_neg _).symm).trans (EReal.coe_strictMono.monotone.map_max).symm
/-- Exponentials. -/
theorem exp_M2 (f : ℕ → ℕ → ℝ) :
    exp (M2 f : FVec Ideal ⟨2, ![n, m]⟩ φ) = M2 (fun r c => Real.exp (f r c)) := rfl
/-- Logarithms of positive numbers. -/
theorem log_M2 (f : ℕ → ℕ → ℝ) (h : ∀ r c, 0 < f r c) :
    log (M2 f : FVec Ideal ⟨2, ![n, m]⟩ φ) = M2 (fun r c => Real.log (f r c)) :=
  funext fun _ => if_neg (not_le.mpr (h _ _))
/-- Rounding is the identity. -/
theorem truncf_M2 (f : ℕ → ℕ → ℝ) (h : ψ.bits < φ.bits) :
    (truncf ψ (M2 f : FVec Ideal ⟨2, ![n, m]⟩ φ) h : FVec Ideal ⟨2, ![n, m]⟩ ψ) = M2 f := rfl
/-- So is widening. -/
theorem extf_M2 (f : ℕ → ℕ → ℝ) (h : φ.bits < ψ.bits) :
    (extf ψ (M2 f : FVec Ideal ⟨2, ![n, m]⟩ φ) h : FVec Ideal ⟨2, ![n, m]⟩ ψ) = M2 f := rfl
/-- The zero matrix. -/
theorem broadcast_zero_M2 :
    (broadcast ⟨2, ![n, m]⟩ (Scalar.ofBits (F := Ideal) .f32 0x00000000#32) : FVec Ideal ⟨2, ![n, m]⟩ .f32)
      = M2 (fun _ _ => 0) := funext fun _ => by
  show Ideal.ofBits .f32 0x00000000#32 = ((0 : ℝ) : EReal)
  simp [Ideal.ofBits, Ideal.ieee]
/-- The zero matrix as a constant. -/
theorem constant_zero_M2 :
    (constant ⟨2, ![n, m]⟩ .f32 0x00000000#32 : FVec Ideal ⟨2, ![n, m]⟩ .f32) = M2 (fun _ _ => 0) :=
  broadcast_zero_M2
/-- The matrix of ones. -/
theorem broadcast_one_M2 :
    (broadcast ⟨2, ![n, m]⟩ (Scalar.ofBits (F := Ideal) .f32 0x3F800000#32) : FVec Ideal ⟨2, ![n, m]⟩ .f32)
      = M2 (fun _ _ => 1) := funext fun _ => by
  show Ideal.ofBits .f32 0x3F800000#32 = ((1 : ℝ) : EReal)
  rw [Ideal.ofBits_one_f32]; rfl
/-- The matrix of eighths. -/
theorem broadcast_eighth_M2 :
    (broadcast ⟨2, ![n, m]⟩ (Scalar.ofBits (F := Ideal) .f32 0x3E000000#32) : FVec Ideal ⟨2, ![n, m]⟩ .f32)
      = M2 (fun _ _ => 0.125) := funext fun _ => by
  show Ideal.ofBits .f32 0x3E000000#32 = ((0.125 : ℝ) : EReal)
  simp [Ideal.ofBits, Ideal.ieee, -EReal.coe_mul]; norm_num

/-- A sum of real numbers over the positions below `m`, as an extended real. -/
theorem coe_sum_range (f : ℕ → ℝ) : ((∑ k ∈ Finset.range m, f k : ℝ) : EReal) = ∑ k : Fin m, ((f k.val : ℝ) : EReal) := by
  rw [Finset.sum_range]; exact map_sum (⟨⟨Real.toEReal, rfl⟩, EReal.coe_add⟩ : ℝ →+ EReal) _ _

/-- A plain matrix product. -/
theorem matmul_plain_M2 (f g : ℕ → ℕ → ℝ) :
    matmul (DotDims.plain n m p) none (M2 f : FVec Ideal ⟨2, ![n, m]⟩ φ) (M2 g : FVec Ideal ⟨2, ![m, p]⟩ φ)
        (constant ⟨2, ![n, p]⟩ .f32 0x00000000#32)
      = M2 (fun r c => ∑ k ∈ Finset.range m, f r k * g k c) := eq_M2 fun r c => by
  rw [constant_zero_M2]
  refine (Ideal.matmul_plain_apply none _ _ _ r c).trans ?_
  rw [M2_ix2, EReal.coe_zero, zero_add, coe_sum_range]
  exact Finset.sum_congr rfl fun k _ => (EReal.coe_mul _ _).symm
/-- A matrix product with the right factor transposed. -/
theorem matmul_transposedRhs_M2 (f g : ℕ → ℕ → ℝ) :
    matmul (DotDims.transposedRhs n m p) none (M2 f : FVec Ideal ⟨2, ![n, m]⟩ φ) (M2 g : FVec Ideal ⟨2, ![p, m]⟩ φ)
        (constant ⟨2, ![n, p]⟩ .f32 0x00000000#32)
      = M2 (fun r c => ∑ k ∈ Finset.range m, f r k * g c k) := eq_M2 fun r c => by
  rw [constant_zero_M2]
  refine (Ideal.matmul_transposedRhs_apply none _ _ _ r c).trans ?_
  rw [M2_ix2, EReal.coe_zero, zero_add, coe_sum_range]
  exact Finset.sum_congr rfl fun k _ => (EReal.coe_mul _ _).symm

/-- The transpose. -/
theorem transpose_M2 (f : ℕ → ℕ → ℝ) (h : (⟨2, ![n, m]⟩ : Shape).Transposes [1, 0] ⟨2, ![m, n]⟩) :
    (transpose ⟨2, ![m, n]⟩ [1, 0] (M2 f : FVec Ideal ⟨2, ![n, m]⟩ φ) h : FVec Ideal ⟨2, ![m, n]⟩ φ)
      = M2 (fun r c => f c r) :=
  eq_M2 fun r c => (transpose_ix2_apply (M2 f : FVec Ideal ⟨2, ![n, m]⟩ φ) h r c).trans rfl

/-- A cast to the same shape. -/
theorem shapeCast_same {α : Type} {s : Shape} (x : s.Idx → α) (h : s.ShapeCasts s) : shapeCast s x h = x :=
  funext fun j => congrArg x (s.rowMajor.injective (by simp [Shape.reshapeEquiv]))

/-- A column repeated along the rows. -/
theorem broadcastTo_col_M2 (f : ℕ → ℕ → ℝ) (h : (⟨2, ![n, 1]⟩ : Shape).Broadcasts ⟨2, ![n, m]⟩) :
    (broadcastTo ⟨2, ![n, m]⟩ (M2 f : FVec Ideal ⟨2, ![n, 1]⟩ φ) h : FVec Ideal ⟨2, ![n, m]⟩ φ)
      = M2 (fun r _ => f r 0) := eq_M2 fun r c => by
  show ((f _ _ : ℝ) : EReal) = ((f r.val 0 : ℝ) : EReal)
  congr 2
  by_cases h1 : n = 1
  · refine (congrArg Fin.val (dif_pos h1)).trans ?_
    have := r.isLt
    show 0 = r.val
    omega
  · exact congrArg Fin.val (dif_neg h1)

/-- A selection by a condition on the position. -/
theorem select_M2 (P : ℕ → ℕ → Prop) [∀ r c, Decidable (P r c)] (b : IVec ⟨2, ![n, m]⟩ 1)
    (hb : ∀ (r : Fin n) (c : Fin m), b (ix2 r c) = BitVec.ofBool (decide (P r.val c.val))) (f g : ℕ → ℕ → ℝ) :
    select b (M2 f : FVec Ideal ⟨2, ![n, m]⟩ φ) (M2 g) = M2 (fun r c => if P r c then f r c else g r c) :=
  eq_M2 fun r c => by
    rw [select_apply, hb, M2_ix2, M2_ix2]
    by_cases hp : P r.val c.val <;> simp [hp, Scalar.select]

/-- The sum of the rows' entries, as a column. -/
theorem rowSum_M2 (f : ℕ → ℕ → ℝ) (h : (⟨2, ![n, m]⟩ : Shape).Reduces [1] ⟨1, ![n]⟩) (hφ) (ha)
    (hc : (⟨1, ![n]⟩ : Shape).ShapeCasts ⟨2, ![n, 1]⟩) :
    (shapeCast ⟨2, ![n, 1]⟩ (multiReduction .add [1] ⟨1, ![n]⟩ (M2 f : FVec Ideal ⟨2, ![n, m]⟩ .f32) 0x00000000#32 h hφ ha) hc
        : FVec Ideal ⟨2, ![n, 1]⟩ .f32)
      = M2 (fun r _ => ∑ c ∈ Finset.range m, f r c) := eq_M2 fun r c => by
  obtain ⟨c, hc'⟩ := c
  obtain rfl : c = 0 := by omega
  rw [shapeCast_a_a1_apply, Ideal.multiReduction_add_single, coe_sum_range]
  rfl

end Cert.Proof.RealMat
-- ==== Proof.Block.lean ====
module

public import proofs.«01_k».proof.Proof.RealMat
public import proofs.«01_k».proof.Proof.Gen.KernelIdeal

/-!
One head's share of one key block, written once: the text every head of the kernel's body repeats.  `sel` is the
identity in the loop, and the causal selection in the last block.
-/

@[expose] public section

noncomputable section

namespace Cert.Proof.KernelIdeal

open Idealize.ShloMosaic
open Cert.KernelIdeal Cert.KernelIdeal.Gen

variable {F : FTy → Type} [FloatOps F]

/-- A block of zeros. -/
def zeros : FVec F S128x256 .f32 := broadcast S128x256 (Scalar.ofBits .f32 0x00000000#32)

/-- A product of a query (or output gradient) block with a key/value block. -/
def bZ (q : FVec F S128x128 .bf16) (kv : FVec F S256x128 .bf16) : FVec F S128x256 .f32 :=
  matmul dot_S128x128_S256x128_S128x256_1_1_0_0_n_n none q kv (constant S128x256 .f32 0x00000000#32)

/-- The softplus of the scores. -/
def bSp (z : FVec F S128x256 .f32) : FVec F S128x256 .f32 :=
  addf (maximumf z zeros) (log (addf (broadcast S128x256 (Scalar.ofBits .f32 0x3F800000#32)) (exp (subf zeros (absf z)))))

/-- The column of the sums over the later key blocks. -/
def bCol (rc : Vec F S1x1x1x1x128 .f32) : FVec F S128x1 .f32 :=
  extractStridedSlice S128x1 ![0, 0] (transpose S128x128 [1, 0] (broadcastTo S128x128
    (shapeCast S1x128 (shapeCast S1x128 rc shapeCasts_S1x1x1x1x128_S1x128) shapeCasts_S1x128_S1x128)
    broadcasts_S1x128_S128x128) transposes_S128x128_p1_0_S128x128) slices_S128x128_o0_0_S128x1

/-- The sums of `lom` over the later keys. -/
def bRem (v11 : FVec F S256x256 .bf16) (lom : FVec F S128x256 .f32) (rc : Vec F S1x1x1x1x128 .f32) :
    FVec F S128x256 .f32 :=
  addf (broadcastTo S128x256 (bCol rc) broadcasts_S128x1_S128x256)
    (addf (matmul dot_S128x256_S256x256_S128x256_1_0_0_1_n_n none (truncf .bf16 lom bitsLt_bf16_f32) v11
        (constant S128x256 .f32 0x00000000#32))
      (matmul dot_S128x256_S256x256_S128x256_1_0_0_1_n_n none
        (truncf .bf16 (subf lom (extf .f32 (truncf .bf16 lom bitsLt_bf16_f32) bitsLt_bf16_f32)) bitsLt_bf16_f32) v11
        (constant S128x256 .f32 0x00000000#32)))

/-- The lanes of a pair of heads. -/
def lanes : IVec S128x128 32 := iota .tc S128x128 32 [1] iota_S128x128_d1_w32

/-- The matrix that sums over the later positions of a block. -/
def uSuf : FVec F S256x256 .bf16 :=
  truncf .bf16 (sitofp .f32 (extui 32 (cmpi .sgt (iota .tc S256x256 32 [0] iota_S256x256_d0_w32)
    (iota .tc S256x256 32 [1] iota_S256x256_d1_w32)) natLt_1_32)) bitsLt_bf16_f32

/-- The matrix that sums over the earlier positions of a block. -/
def uPre : FVec F S256x256 .bf16 :=
  truncf .bf16 (sitofp .f32 (extui 32 (cmpi .slt (iota .tc S256x256 32 [0] iota_S256x256_d0_w32)
    (iota .tc S256x256 32 [1] iota_S256x256_d1_w32)) natLt_1_32)) bitsLt_bf16_f32

/-- A pair of heads as it is. -/
def plainPair (x : Vec F S128x128 .bf16) : FVec F S128x128 .f32 :=
  extf .f32 (shapeCast S128x128 x shapeCasts_S128x128_S128x128) bitsLt_bf16_f32

/-- A pair of heads, the two exchanged. -/
def turnedPair (x : Vec F S128x128 .bf16) : FVec F S128x128 .f32 :=
  dynamicRotate 1 64#32 none (plainPair x) rotates_S128x128_d1

/-- The lower half of the lanes of `x`, the rest zero. -/
def lowHalf (x : FVec F S128x128 .f32) : FVec F S128x128 .bf16 :=
  truncf .bf16 (select (cmpi .slt lanes (broadcast S128x128 64#32)) x
    (broadcast S128x128 (Scalar.ofBits .f32 0x00000000#32))) bitsLt_bf16_f32

/-- The upper half of the lanes of `x`, the rest zero. -/
def highHalf (x : FVec F S128x128 .f32) : FVec F S128x128 .bf16 :=
  truncf .bf16 (select (cmpi .sge lanes (broadcast S128x128 64#32)) x
    (broadcast S128x128 (Scalar.ofBits .f32 0x00000000#32))) bitsLt_bf16_f32

/-- The query gradients of an even and an odd head side by side, scaled. -/
def pairOut (a b : FVec F S128x128 .f32) : FVec F S128x128 .bf16 :=
  truncf .bf16 (mulf (select (cmpi .slt lanes (broadcast S128x128 64#32)) a
    (dynamicRotate 1 64#32 none b rotates_S128x128_d1)) (broadcast S128x128 (Scalar.ofBits .f32 0x3E000000#32))) bitsLt_bf16_f32

/-- The number of key blocks that lie wholly before query block `a`, as the kernel computes it. -/
def nfull (a : BitVec 32) : BitVec 32 :=
  let v16 := Scalar.muli a 128#32
  Scalar.select (Scalar.andi (Scalar.cmpi .ne (Scalar.subi (Scalar.extui (Scalar.cmpi .sgt v16 0#32)) (Scalar.extui (Scalar.cmpi .slt v16 0#32)))
      (Scalar.subi (Scalar.extui (Scalar.cmpi .sgt 256#32 0#32)) (Scalar.extui (Scalar.cmpi .slt 256#32 0#32))))
    (Scalar.cmpi .ne (Scalar.remsi v16 256#32) 0#32)) (Scalar.subi (Scalar.divsi v16 256#32) 1#32) (Scalar.divsi v16 256#32)

/-- The causal condition inside the last key block of query block `a`. -/
def causal (a : BitVec 32) : IVec S128x256 1 :=
  cmpi .slt (subi (iota .tc S128x256 32 [1] iota_S128x256_d1_w32) (iota .tc S128x256 32 [0] iota_S128x256_d0_w32))
    (broadcast S128x256 (Scalar.subi (Scalar.muli a 128#32) (Scalar.muli (nfull a) 256#32)))

/-- The causal selection. -/
def masked (a : BitVec 32) (x : FVec F S128x256 .f32) : FVec F S128x256 .f32 := select (causal a) x zeros

section head

variable (sel : FVec F S128x256 .f32 → FVec F S128x256 .f32)
  (v11 v15 : FVec F S256x256 .bf16) (q d : FVec F S128x128 .bf16) (kvl : Vec F S256x128 .bf16)
  (rc : Vec F S1x1x1x1x128 .f32) (pre : FVec F S128x1 .f32) (dq : FVec F S128x128 .f32)

/-- The keys and values of the block. -/
def bKv : FVec F S256x128 .bf16 := shapeCast S256x128 kvl shapeCasts_S256x128_S256x128

/-- The weights. -/
def bW : FVec F S128x256 .f32 :=
  sel (exp (addf (subf (bZ q (bKv kvl)) (bSp (bZ q (bKv kvl)))) (bRem v11 (sel (subf zeros (bSp (bZ q (bKv kvl))))) rc)))

/-- The gradient of the weights' logarithms. -/
def bDa : FVec F S128x256 .f32 := mulf (bZ d (bKv kvl)) (bW sel v11 q kvl rc)

/-- Its sums over the earlier keys. -/
def bP : FVec F S128x256 .f32 :=
  addf (broadcastTo S128x256 pre broadcasts_S128x1_S128x256)
    (matmul dot_S128x256_S256x256_S128x256_1_0_0_1_n_n none (truncf .bf16 (bDa sel v11 q d kvl rc) bitsLt_bf16_f32) v15
      (constant S128x256 .f32 0x00000000#32))

/-- The gradient of the scores. -/
def bDz : FVec F S128x256 .f32 :=
  sel (subf (bDa sel v11 q d kvl rc) (mulf (exp (subf (bZ q (bKv kvl)) (bSp (bZ q (bKv kvl)))))
    (addf (bDa sel v11 q d kvl rc) (bP sel v11 v15 q d kvl rc pre))))

/-- The query gradient after the block. -/
def bDq : FVec F S128x128 .f32 :=
  addf dq (matmul dot_S128x256_S256x128_S128x128_1_0_0_1_n_n none
    (truncf .bf16 (bDz sel v11 v15 q d kvl rc pre) bitsLt_bf16_f32) (bKv kvl) (constant S128x128 .f32 0x00000000#32))

/-- The key/value gradient after the block, `old` being what it was. -/
def bPay (old : Vec F S256x128 .f32) : FVec F S256x128 .f32 :=
  addf (shapeCast S256x128 old shapeCasts_S256x128_S256x128)
    (matmul dot_S256x256_S256x128_S256x128_1_0_0_1_n_n none
      (truncf .bf16 (concatenate S256x256 1
        [⟨S256x128, transpose S256x128 [1, 0] (bDz sel v11 v15 q d kvl rc pre) transposes_S128x256_p1_0_S256x128⟩,
          ⟨S256x128, transpose S256x128 [1, 0] (bW sel v11 q kvl rc) transposes_S128x256_p1_0_S256x128⟩]
        concatenates_S256x128_S256x128_S256x256_d1) bitsLt_bf16_f32)
      (concatenate S256x128 0 [⟨S128x128, q⟩, ⟨S128x128, d⟩] concatenates_S128x128_S128x128_S256x128_d0)
      (constant S256x128 .f32 0x00000000#32))

/-- The sums over the earlier keys after the block. -/
def bPre : FVec F S128x1 .f32 :=
  addf pre (shapeCast S128x1 (multiReduction .add [1] S128 (bDa sel v11 q d kvl rc) 0x00000000#32 reduces_S128x256_S128 (.inl rfl) rfl)
    shapeCasts_S128_S128x1)

end head

end Cert.Proof.KernelIdeal

end
-- ==== Proof.Model.lean ====
module

public import Mathlib.Analysis.SpecialFunctions.Log.Basic

/-!
One head of the attention over real numbers: the scores `z t s` of query `t` with key `s` and the products `w t s` of
the output's gradient at `t` with the value at `s` determine the weights and the gradient of the scores.
-/

@[expose] public section

noncomputable section

namespace Cert.Proof.Model

open scoped BigOperators

/-- The softplus, in the form that does not overflow. -/
def sp (x : ℝ) : ℝ := max x 0 + Real.log (1 + Real.exp (0 - |x|))

variable (z w : ℕ → ℕ → ℝ)

/-- The logarithm of the gate. -/
def lb (t s : ℕ) : ℝ := z t s - sp (z t s)
/-- The logarithm of one minus the gate, at the earlier keys. -/
def lom (t s : ℕ) : ℝ := if s < t then 0 - sp (z t s) else 0
/-- Its sum over the keys after `s`. -/
def rem (t s : ℕ) : ℝ := ∑ j ∈ Finset.Ico (s + 1) 4096, lom z t j
/-- The weights. -/
def wt (t s : ℕ) : ℝ := if s < t then Real.exp (lb z t s + rem z t s) else 0
/-- The gradient of the weights' logarithms. -/
def da (t s : ℕ) : ℝ := w t s * wt z t s
/-- Its sum over the keys before `s`. -/
def pfx (t s : ℕ) : ℝ := ∑ j ∈ Finset.range s, da z w t j
/-- The gradient of the scores. -/
def dz (t s : ℕ) : ℝ := if s < t then da z w t s - Real.exp (lb z t s) * (da z w t s + pfx z w t s) else 0

/-- Inside a block of 256 keys the sum over the later keys is the sum over the later blocks and the block's own rest. -/
theorem rem_block (t S c : ℕ) (hc : c < 256) (hS : S + 256 ≤ 4096) :
    rem z t (S + 255) + ∑ j ∈ Finset.range 256, lom z t (S + j) * (if c < j then 1 else 0) = rem z t (S + c) := by
  unfold rem
  rw [← Finset.sum_Ico_consecutive _ (show S + c + 1 ≤ S + 256 by omega) hS, add_comm, show S + 255 + 1 = S + 256 by omega]
  congr 1
  simp only [mul_ite, mul_one, mul_zero]
  rw [← Finset.sum_filter]
  refine Finset.sum_bij (fun j _ => S + j) (fun j hj => ?_) (fun _ _ _ _ h => by omega) (fun j hj => ?_) (fun _ _ => rfl)
  · simp only [Finset.mem_filter, Finset.mem_range, Finset.mem_Ico] at hj ⊢; omega
  · simp only [Finset.mem_Ico] at hj
    exact ⟨j - S, by simp only [Finset.mem_filter, Finset.mem_range]; omega, by omega⟩

/-- Inside a block the sum over the earlier keys is the sum over the earlier blocks and the block's own beginning. -/
theorem pfx_block (t S c : ℕ) (hc : c < 256) :
    pfx z w t S + ∑ j ∈ Finset.range 256, da z w t (S + j) * (if j < c then 1 else 0) = pfx z w t (S + c) := by
  unfold pfx
  rw [Finset.sum_range_add]
  congr 1
  simp only [mul_ite, mul_one, mul_zero]
  rw [← Finset.sum_filter]
  refine Finset.sum_congr ?_ fun _ _ => rfl
  ext j; simp only [Finset.mem_filter, Finset.mem_range]; omega

/-- The same over the whole block. -/
theorem pfx_next (t S : ℕ) :
    pfx z w t S + ∑ j ∈ Finset.range 256, da z w t (S + j) = pfx z w t (S + 256) := by
  unfold pfx; rw [Finset.sum_range_add]

end Cert.Proof.Model

end
-- ==== Proof.BlockValue.lean ====
module

public import proofs.«01_k».proof.Proof.Block
public import proofs.«01_k».proof.Proof.Model
public import Idealize.ShloMosaic.Lib.Pointwise

/-!
One head's share of one key block over real numbers.
-/

@[expose] public section

noncomputable section

namespace Cert.Proof.KernelIdeal

open Idealize.ShloMosaic Idealize.ShloMosaic.ValueIdx
open Cert.KernelIdeal Cert.KernelIdeal.Gen
open Cert.Proof.RealMat Cert.Proof.Model
open scoped BigOperators

/-- The block of zeros. -/
theorem zeros_M2 : (zeros : FVec Ideal S128x256 .f32) = M2 (fun _ _ => 0) := broadcast_zero_M2

/-- The softplus, entry by entry. -/
theorem bSp_M2 (f : ℕ → ℕ → ℝ) : bSp (F := Ideal) (M2 f) = M2 (fun r c => sp (f r c)) := by
  unfold bSp
  rw [zeros_M2]
  have h1 : absf (M2 f : FVec Ideal S128x256 .f32) = M2 (fun r c => |f r c|) := absf_M2 f
  have h2 := subf_M2 (φ := .f32) (n := 128) (m := 256) (fun _ _ => 0) (fun r c => |f r c|)
  have h3 := exp_M2 (φ := .f32) (n := 128) (m := 256) (fun r c => 0 - |f r c|)
  have h4 := addf_M2 (φ := .f32) (n := 128) (m := 256) (fun _ _ => 1) (fun r c => Real.exp (0 - |f r c|))
  have h5 := log_M2 (φ := .f32) (n := 128) (m := 256) (fun r c => 1 + Real.exp (0 - |f r c|)) (fun r c => by positivity)
  have h6 := maximumf_M2 (φ := .f32) (n := 128) (m := 256) f (fun _ _ => 0)
  rw [h1, h2, h3]
  refine (congrArg₂ addf h6 (congrArg log ((congrArg₂ addf broadcast_one_M2 rfl).trans h4))).trans ?_
  refine (congrArg₂ addf rfl h5).trans ?_
  exact addf_M2 _ _

/-- A product with a key/value block. -/
theorem bZ_M2 (f g : ℕ → ℕ → ℝ) :
    bZ (F := Ideal) (M2 f) (M2 g) = M2 (fun r c => ∑ l ∈ Finset.range 128, f r l * g c l) :=
  matmul_transposedRhs_M2 (n := 128) (m := 128) (p := 256) f g

/-- The sums over the later keys. -/
theorem bRem_M2 (u f g : ℕ → ℕ → ℝ) (rc : Vec Ideal S1x1x1x1x128 .f32) (hrc : bCol (F := Ideal) rc = M2 g) :
    bRem (F := Ideal) (M2 u) (M2 f) rc
      = M2 (fun r c => g r 0 + ((∑ j ∈ Finset.range 256, f r j * u j c) + ∑ j ∈ Finset.range 256, (f r j - f r j) * u j c)) := by
  unfold bRem
  rw [hrc]
  have h0 := broadcastTo_col_M2 (φ := .f32) (n := 128) (m := 256) g broadcasts_S128x1_S128x256
  have h1 := matmul_plain_M2 (φ := .bf16) (n := 128) (m := 256) (p := 256) f u
  have h2 := subf_M2 (φ := .f32) (n := 128) (m := 256) f f
  have h3 := matmul_plain_M2 (φ := .bf16) (n := 128) (m := 256) (p := 256) (fun r j => f r j - f r j) u
  refine (congrArg₂ addf h0 ((congrArg₂ addf h1 ((congrArg (fun x => matmul dot_S128x256_S256x256_S128x256_1_0_0_1_n_n none
    (truncf .bf16 x bitsLt_bf16_f32) (M2 u) (constant S128x256 .f32 0x00000000#32)) h2).trans h3)).trans (addf_M2 _ _))).trans ?_
  exact addf_M2 _ _

section head

variable (sel : FVec Ideal S128x256 .f32 → FVec Ideal S128x256 .f32) (T S : ℕ)
  (hsel : ∀ f : ℕ → ℕ → ℝ, sel (M2 f) = M2 (fun r c => if S + c < T + r then f r c else 0))
  (hS : S + 256 ≤ 4096)
  (qf df kf : ℕ → ℕ → ℝ) (z w : ℕ → ℕ → ℝ)
  (hz : ∀ r < 128, ∀ c < 256, ∑ l ∈ Finset.range 128, qf r l * kf c l = z (T + r) (S + c))
  (hw : ∀ r < 128, ∀ c < 256, ∑ l ∈ Finset.range 128, df r l * kf c l = w (T + r) (S + c))
  (kvl : Vec Ideal S256x128 .bf16) (hkv : kvl = (M2 kf : FVec Ideal S256x128 .bf16))
  (rc : Vec Ideal S1x1x1x1x128 .f32) (hrc : bCol (F := Ideal) rc = M2 (fun r _ => rem z (T + r) (S + 255)))

/-- The matrix of the later positions. -/
abbrev sufM : FVec Ideal S256x256 .bf16 := M2 (fun j c => if c < j then 1 else 0)
/-- The matrix of the earlier positions. -/
abbrev preM : FVec Ideal S256x256 .bf16 := M2 (fun j c => if j < c then 1 else 0)

include hkv in
omit T S in
theorem bKv_M2 : bKv (F := Ideal) kvl = M2 kf := by
  subst hkv; exact shapeCast_same _ _

include hz hkv in
/-- The scores. -/
theorem z_M2 : bZ (F := Ideal) (M2 qf) (bKv kvl) = M2 (fun r c => z (T + r) (S + c)) := by
  rw [bKv_M2 kf kvl hkv, bZ_M2]; exact M2_congr hz

include hsel hS hz hkv hrc in
/-- The weights. -/
theorem bW_M2 : bW (F := Ideal) sel sufM (M2 qf) kvl rc = M2 (fun r c => wt z (T + r) (S + c)) := by
  unfold bW
  rw [z_M2 T S qf kf z hz kvl hkv, bSp_M2, zeros_M2]
  rw [subf_M2 (φ := .f32) (n := 128) (m := 256) (fun _ _ => 0) (fun r c => sp (z (T + r) (S + c))), hsel,
    bRem_M2 _ _ _ rc hrc, subf_M2 (φ := .f32) (n := 128) (m := 256), addf_M2 (φ := .f32) (n := 128) (m := 256),
    exp_M2 (φ := .f32) (n := 128) (m := 256), hsel]
  refine M2_congr fun r hr c hc => ?_
  unfold wt lb
  congr 3
  rw [← rem_block z (T + r) S c hc hS]
  congr 1
  simp only [sub_self, zero_mul, Finset.sum_const_zero, add_zero]
  rfl

include hsel hS hz hw hkv hrc in
/-- The gradient of their logarithms. -/
theorem bDa_M2 : bDa (F := Ideal) sel sufM (M2 qf) (M2 df) kvl rc = M2 (fun r c => da z w (T + r) (S + c)) := by
  unfold bDa
  rw [z_M2 T S df kf w hw kvl hkv, bW_M2 sel T S hsel hS qf kf z hz kvl hkv rc hrc]
  exact mulf_M2 _ _

include hsel hS hz hw hkv hrc in
/-- Its sums over the earlier keys. -/
theorem bP_M2 : bP (F := Ideal) sel sufM preM (M2 qf) (M2 df) kvl rc (M2 (fun r _ => pfx z w (T + r) S))
    = M2 (fun r c => pfx z w (T + r) (S + c)) := by
  unfold bP
  rw [bDa_M2 sel T S hsel hS qf df kf z w hz hw kvl hkv rc hrc]
  have h0 := broadcastTo_col_M2 (φ := .f32) (n := 128) (m := 256) (fun r _ => pfx z w (T + r) S) broadcasts_S128x1_S128x256
  have h1 := matmul_plain_M2 (φ := .bf16) (n := 128) (m := 256) (p := 256) (fun r c => da z w (T + r) (S + c))
    (fun j c => if j < c then 1 else 0)
  refine ((congrArg₂ addf h0 h1).trans (addf_M2 _ _)).trans (M2_congr fun r hr c hc => ?_)
  exact pfx_block z w (T + r) S c hc

include hsel hS hz hw hkv hrc in
/-- The gradient of the scores. -/
theorem bDz_M2 : bDz (F := Ideal) sel sufM preM (M2 qf) (M2 df) kvl rc (M2 (fun r _ => pfx z w (T + r) S))
    = M2 (fun r c => dz z w (T + r) (S + c)) := by
  unfold bDz
  rw [bP_M2 sel T S hsel hS qf df kf z w hz hw kvl hkv rc hrc, bDa_M2 sel T S hsel hS qf df kf z w hz hw kvl hkv rc hrc,
    z_M2 T S qf kf z hz kvl hkv, bSp_M2, subf_M2 (φ := .f32) (n := 128) (m := 256), exp_M2 (φ := .f32) (n := 128) (m := 256),
    addf_M2 (φ := .f32) (n := 128) (m := 256), mulf_M2 (φ := .f32) (n := 128) (m := 256),
    subf_M2 (φ := .f32) (n := 128) (m := 256), hsel]
  exact M2_congr fun r hr c hc => rfl

include hsel hS hz hw hkv hrc in
/-- The sums over the earlier keys after the block. -/
theorem bPre_M2 : bPre (F := Ideal) sel sufM (M2 qf) (M2 df) kvl rc (M2 (fun r _ => pfx z w (T + r) S))
    = M2 (fun r _ => pfx z w (T + r) (S + 256)) := by
  unfold bPre
  rw [bDa_M2 sel T S hsel hS qf df kf z w hz hw kvl hkv rc hrc]
  have h1 := rowSum_M2 (n := 128) (m := 256) (fun r c => da z w (T + r) (S + c)) reduces_S128x256_S128 (.inl rfl) rfl
    shapeCasts_S128_S128x1
  refine ((congrArg₂ addf rfl h1).trans (addf_M2 _ _)).trans (M2_congr fun r hr c hc => ?_)
  exact pfx_next z w (T + r) S

include hsel hS hz hw hkv hrc in
/-- The query gradient after the block. -/
theorem bDq_M2 (g : ℕ → ℕ → ℝ) :
    bDq (F := Ideal) sel sufM preM (M2 qf) (M2 df) kvl rc (M2 (fun r _ => pfx z w (T + r) S)) (M2 g)
      = M2 (fun r l => g r l + ∑ c ∈ Finset.range 256, dz z w (T + r) (S + c) * kf c l) := by
  unfold bDq
  rw [bDz_M2 sel T S hsel hS qf df kf z w hz hw kvl hkv rc hrc, bKv_M2 kf kvl hkv]
  have h1 := matmul_plain_M2 (φ := .bf16) (n := 128) (m := 256) (p := 128) (fun r c => dz z w (T + r) (S + c)) kf
  exact (congrArg₂ addf rfl h1).trans (addf_M2 _ _)

/-- Two matrices side by side. -/
theorem concat1_M2 (f g : ℕ → ℕ → ℝ) :
    (concatenate S256x256 1 [⟨S256x128, (M2 f : FVec Ideal S256x128 .f32)⟩, ⟨S256x128, (M2 g : FVec Ideal S256x128 .f32)⟩]
        concatenates_S256x128_S256x128_S256x256_d1 : FVec Ideal S256x256 .f32)
      = M2 (fun r c => if c < 128 then f r c else g r (c - 128)) := eq_M2 fun r c => by
  pointwise
  by_cases h : c.val < 128
  · refine (dif_pos h).trans ?_; rw [if_pos h]; rfl
  · refine (dif_neg h).trans ?_; rw [if_neg h]; rfl
/-- Two matrices one above the other. -/
theorem concat0_M2 (f g : ℕ → ℕ → ℝ) :
    (concatenate S256x128 0 [⟨S128x128, (M2 f : FVec Ideal S128x128 .bf16)⟩, ⟨S128x128, (M2 g : FVec Ideal S128x128 .bf16)⟩]
        concatenates_S128x128_S128x128_S256x128_d0 : FVec Ideal S256x128 .bf16)
      = M2 (fun r c => if r < 128 then f r c else g (r - 128) c) := eq_M2 fun r c => by
  pointwise
  by_cases h : r.val < 128
  · refine (dif_pos h).trans ?_; rw [if_pos h]; rfl
  · refine (dif_neg h).trans ?_; rw [if_neg h]; rfl

include hsel hS hz hw hkv hrc in
/-- The key/value gradient after the block. -/
theorem bPay_M2 (g : ℕ → ℕ → ℝ) :
    bPay (F := Ideal) sel sufM preM (M2 qf) (M2 df) kvl rc (M2 (fun r _ => pfx z w (T + r) S))
        (M2 g : FVec Ideal S256x128 .f32)
      = M2 (fun c l => g c l + ((∑ r ∈ Finset.range 128, dz z w (T + r) (S + c) * qf r l)
          + ∑ r ∈ Finset.range 128, wt z (T + r) (S + c) * df r l)) := by
  unfold bPay
  rw [bDz_M2 sel T S hsel hS qf df kf z w hz hw kvl hkv rc hrc, bW_M2 sel T S hsel hS qf kf z hz kvl hkv rc hrc]
  have h1 := transpose_M2 (φ := .f32) (n := 128) (m := 256) (fun r c => dz z w (T + r) (S + c)) transposes_S128x256_p1_0_S256x128
  have h2 := transpose_M2 (φ := .f32) (n := 128) (m := 256) (fun r c => wt z (T + r) (S + c)) transposes_S128x256_p1_0_S256x128
  have h3 := concat1_M2 (fun c r => dz z w (T + r) (S + c)) (fun c r => wt z (T + r) (S + c))
  have h4 := concat0_M2 qf df
  have h5 := matmul_plain_M2 (φ := .bf16) (n := 256) (m := 256) (p := 128)
    (fun c r => if r < 128 then dz z w (T + r) (S + c) else wt z (T + (r - 128)) (S + c))
    (fun r l => if r < 128 then qf r l else df (r - 128) l)
  rw [h1, h2, h3, h4]
  refine ((congrArg₂ addf (shapeCast_same _ _) h5).trans (addf_M2 _ _)).trans (M2_congr fun c hc l hl => ?_)
  refine congrArg₂ _ rfl ((Finset.sum_range_add _ 128 128).trans (congrArg₂ _ (Finset.sum_congr rfl fun r hr => ?_) (Finset.sum_congr rfl fun r hr => ?_)))
  · simp only [Finset.mem_range] at hr; simp only [hr, if_true]
  · simp only [show ¬ (128 + r < 128) by omega, if_false, Nat.add_sub_cancel_left]

end head

end Cert.Proof.KernelIdeal

end
-- ==== Proof.PrepValue.lean ====
module

public import proofs.«01_k».proof.Proof.BlockValue

/-!
What a query block prepares before its key blocks, over real numbers: the summing matrices, the causal selection, the
heads' halves of the lanes.
-/

@[expose] public section

noncomputable section

namespace Cert.Proof.KernelIdeal

open Idealize.ShloMosaic Idealize.ShloMosaic.ValueIdx
open Cert.KernelIdeal Cert.KernelIdeal.Gen
open Cert.Proof.RealMat Cert.Proof.Model
open scoped BigOperators

/-- A comparison of two small numbers as words. -/
theorem slt_small (a b : ℕ) (ha : a < 256) (hb : b < 256) :
    BitVec.slt (BitVec.ofNat 32 a) (BitVec.ofNat 32 b) = decide (a < b) := by
  rw [BitVec.slt, BitVec.toInt_ofNat', BitVec.toInt_ofNat', Int.bmod, Int.bmod]
  congr 1; apply propext; split <;> split <;> omega

/-- The positions along an axis. -/
theorem iota_one {κ : Kind} {s : Shape} (a : Fin s.rank) (h : s.Iotas κ 32 [a]) (i : s.Idx) :
    iota κ s 32 [a] h i = BitVec.ofNat 32 (i a).val := by
  show BitVec.ofNat 32 (0 * _ + _) = _
  rw [Nat.zero_mul, Nat.zero_add]

/-- A condition's bit as a number. -/
theorem bit_value (p : Prop) [Decidable p] :
    ((((BitVec.ofBool (decide p)).zeroExtend 32).toInt : ℝ) : EReal) = ((if p then (1 : ℝ) else 0 : ℝ) : EReal) := by
  by_cases h : p <;> simp [h]

/-- The matrix that sums over the later positions. -/
theorem uSuf_M2 : (uSuf : FVec Ideal S256x256 .bf16) = sufM := eq_M2 fun r c => by
  refine Eq.trans ?_ (bit_value (c.val < r.val))
  have := slt_small c.val r.val c.isLt r.isLt
  show ((((BitVec.ofBool (BitVec.slt (iota .tc S256x256 32 [1] _ (ValueIdx.ix2 r c)) (iota .tc S256x256 32 [0] _ (ValueIdx.ix2 r c)))).zeroExtend 32).toInt : ℝ) : EReal) = _
  rw [iota_one, iota_one]
  exact congrArg (fun b => ((((BitVec.ofBool b).zeroExtend 32).toInt : ℝ) : EReal)) this

/-- The matrix that sums over the earlier positions. -/
theorem uPre_M2 : (uPre : FVec Ideal S256x256 .bf16) = preM := eq_M2 fun r c => by
  refine Eq.trans ?_ (bit_value (r.val < c.val))
  have := slt_small r.val c.val r.isLt c.isLt
  show ((((BitVec.ofBool (BitVec.slt (iota .tc S256x256 32 [0] _ (ValueIdx.ix2 r c)) (iota .tc S256x256 32 [1] _ (ValueIdx.ix2 r c)))).zeroExtend 32).toInt : ℝ) : EReal) = _
  rw [iota_one, iota_one]
  exact congrArg (fun b => ((((BitVec.ofBool b).zeroExtend 32).toInt : ℝ) : EReal)) this

/-- Where the last key block begins, relative to the query block. -/
theorem word_diff (i : Fin 32) :
    Scalar.subi (Scalar.muli (BitVec.ofNat 32 i.val) 128#32) (Scalar.muli (nfull (BitVec.ofNat 32 i.val)) 256#32)
      = BitVec.ofNat 32 (128 * (i.val % 2)) := by
  revert i; decide +kernel

/-- The causal comparison of two small differences. -/
theorem slt_diff (r c b : ℕ) (hr : r < 128) (hc : c < 256) (hb : b < 256) :
    BitVec.slt (BitVec.ofNat 32 c - BitVec.ofNat 32 r) (BitVec.ofNat 32 b) = decide (c < b + r) := by
  rw [BitVec.slt, BitVec.toInt_sub, BitVec.toInt_ofNat', BitVec.toInt_ofNat', BitVec.toInt_ofNat']
  simp only [Int.bmod]
  congr 1; apply propext; split <;> split <;> split <;> split <;> omega

/-- The causal selection, entry by entry. -/
theorem masked_M2 (i : Fin 32) (f : ℕ → ℕ → ℝ) :
    masked (F := Ideal) (BitVec.ofNat 32 i.val) (M2 f)
      = M2 (fun r c => if 256 * (i.val / 2) + c < 128 * i.val + r then f r c else 0) := by
  unfold masked
  rw [zeros_M2]
  refine select_M2 (fun r c => 256 * (i.val / 2) + c < 128 * i.val + r) _ (fun r c => ?_) f (fun _ _ => 0)
  unfold causal
  rw [word_diff]
  show BitVec.ofBool (BitVec.slt (iota .tc S128x256 32 [1] _ (ValueIdx.ix2 r c) - iota .tc S128x256 32 [0] _ (ValueIdx.ix2 r c))
    (BitVec.ofNat 32 (128 * (i.val % 2)))) = _
  rw [iota_one, iota_one]
  refine (congrArg BitVec.ofBool (slt_diff r.val c.val _ r.isLt c.isLt (by omega))).trans ?_
  congr 2; apply propext
  have := i.isLt
  omega

/-- In the loop nothing is selected away: every key of the block is earlier than every query. -/
theorem id_M2 (T S : ℕ) (h : S + 256 ≤ T) (f : ℕ → ℕ → ℝ) :
    (id (M2 f) : FVec Ideal S128x256 .f32) = M2 (fun r c => if S + c < T + r then f r c else 0) :=
  M2_congr fun r _ c hc => (if_pos (by omega)).symm

/-- The column of a row of sums. -/
theorem bCol_M2 (rc : Vec Ideal S1x1x1x1x128 .f32) (g : ℕ → ℝ)
    (h : ∀ r : Fin 128, rc (ValueIdx.ix5 0 0 0 0 r) = ((g r.val : ℝ) : EReal)) : bCol (F := Ideal) rc = M2 (fun r _ => g r) :=
  eq_M2 fun r c => by
    unfold bCol
    pointwise
    exact h r

/-- The lanes below 64. -/
theorem lanes_low (r c : Fin 128) :
    cmpi .slt lanes (broadcast S128x128 64#32) (ValueIdx.ix2 r c) = BitVec.ofBool (decide (c.val < 64)) := by
  show BitVec.ofBool (BitVec.slt (iota .tc S128x128 32 [1] _ (ValueIdx.ix2 r c)) (BitVec.ofNat 32 64)) = _
  rw [iota_one]
  exact congrArg BitVec.ofBool (slt_small c.val 64 (by omega) (by omega))

/-- The lanes from 64 on. -/
theorem lanes_high (r c : Fin 128) :
    cmpi .sge lanes (broadcast S128x128 64#32) (ValueIdx.ix2 r c) = BitVec.ofBool (decide (64 ≤ c.val)) := by
  show BitVec.ofBool (BitVec.sle (BitVec.ofNat 32 64) (iota .tc S128x128 32 [1] _ (ValueIdx.ix2 r c))) = _
  rw [iota_one]
  refine congrArg BitVec.ofBool (BitVec.sle_eq_not_slt.trans ((congrArg not (slt_small c.val 64 (by omega) (by omega))).trans ?_))
  rw [← decide_not]; congr 1; apply propext; exact not_lt

/-- A pair of heads as it is. -/
theorem plainPair_M2 (f : ℕ → ℕ → ℝ) : plainPair (F := Ideal) (M2 f : FVec Ideal S128x128 .bf16) = M2 f :=
  shapeCast_same (M2 f : FVec Ideal S128x128 .bf16) _

/-- The two heads exchanged. -/
theorem rotate_M2 (f : ℕ → ℕ → ℝ) :
    dynamicRotate 1 64#32 none (M2 f : FVec Ideal S128x128 .f32) rotates_S128x128_d1
      = M2 (fun r l => f r ((l + 64) % 128)) := eq_M2 fun r c => by
  pointwise
  show ((f r.val ((c.val + 128 - 64) % 128) : ℝ) : EReal) = _
  rw [show c.val + 128 - 64 = c.val + 64 by omega]

/-- The two heads of a pair exchanged. -/
theorem turnedPair_M2 (f : ℕ → ℕ → ℝ) :
    turnedPair (F := Ideal) (M2 f : FVec Ideal S128x128 .bf16) = M2 (fun r l => f r ((l + 64) % 128)) := by
  unfold turnedPair; rw [plainPair_M2, rotate_M2]

/-- The lower half of the lanes. -/
theorem lowHalf_M2 (f : ℕ → ℕ → ℝ) : lowHalf (F := Ideal) (M2 f) = M2 (fun r l => if l < 64 then f r l else 0) := by
  unfold lowHalf
  rw [broadcast_zero_M2, select_M2 (fun _ l => l < 64) _ lanes_low f (fun _ _ => 0)]
  rfl

/-- The upper half of the lanes. -/
theorem highHalf_M2 (f : ℕ → ℕ → ℝ) : highHalf (F := Ideal) (M2 f) = M2 (fun r l => if 64 ≤ l then f r l else 0) := by
  unfold highHalf
  rw [broadcast_zero_M2, select_M2 (fun _ l => 64 ≤ l) _ lanes_high f (fun _ _ => 0)]
  rfl

/-- The query gradients of a pair. -/
theorem pairOut_M2 (f g : ℕ → ℕ → ℝ) : pairOut (F := Ideal) (M2 f) (M2 g)
    = M2 (fun r l => (if l < 64 then f r l else g r ((l + 64) % 128)) * 0.125) := by
  unfold pairOut
  rw [rotate_M2, broadcast_eighth_M2, select_M2 (fun _ l => l < 64) _ lanes_low]
  exact mulf_M2 _ _

end Cert.Proof.KernelIdeal

end
-- ==== Proof.HeadModel.lean ====
module

public import proofs.«01_k».proof.Proof.PrepValue
public import proofs.«01_k».proof.Proof.Loops
public import Idealize.ShloMosaic.Lib.WritesUnit

/-!
The heads of one group over real numbers: from the scaled queries `Q`, the output's gradient `D` and the keys and values
`KV` of the group, a head's own rows, scores and gradients, and what one head does with one key block.
-/

@[expose] public section

noncomputable section

namespace Cert.Proof.Model

open scoped BigOperators

variable (Q D KV : ℕ → ℕ → ℝ)

/-- The queries of head `h`, in the lower half of the lanes. -/
def qh (h t l : ℕ) : ℝ := if l < 64 then Q t (64 * h + l) else 0
/-- The output's gradient of head `h`, in the upper half of the lanes. -/
def dh (h t l : ℕ) : ℝ := if 64 ≤ l then D t (64 * h + (l - 64)) else 0
/-- The keys and values of head `h`. -/
def kh (h s l : ℕ) : ℝ := KV s (128 * h + l)
/-- Its scores. -/
def zh (h t s : ℕ) : ℝ := ∑ l ∈ Finset.range 128, qh Q h t l * kh KV h s l
/-- Its products of the output's gradient with the values. -/
def wh (h t s : ℕ) : ℝ := ∑ l ∈ Finset.range 128, dh D h t l * kh KV h s l
/-- Its scores' gradient. -/
def dzh (h t s : ℕ) : ℝ := dz (zh Q KV h) (wh D KV h) t s
/-- What the 128 queries from `T` on give to the key/value gradient. -/
def cb (T h s l : ℕ) : ℝ :=
  (∑ r ∈ Finset.range 128, dzh Q D KV h (T + r) s * qh Q h (T + r) l)
    + ∑ r ∈ Finset.range 128, wt (zh Q KV h) (T + r) s * dh D h (T + r) l
/-- What the first `n` keys give to the query gradient. -/
def dqk (h n t l : ℕ) : ℝ := ∑ s ∈ Finset.range n, dzh Q D KV h t s * kh KV h s l
/-- The accumulated gradient `g` with `C` added for the 256 keys from `S` on and the first `n` heads. -/
def grow (S : ℕ) (C : ℕ → ℕ → ℕ → ℝ) (n : ℕ) (g : ℕ → ℕ → ℝ) (s l : ℕ) : ℝ :=
  if (S ≤ s ∧ s < S + 256) ∧ l < 128 * n then g s l + C (l / 128) s (l % 128) else g s l

end Cert.Proof.Model

namespace Cert.Proof.KernelIdeal

open Idealize.ShloMosaic Idealize.ShloMosaic.ValueIdx
open Cert.KernelIdeal Cert.KernelIdeal.Gen
open Cert.Proof.RealMat Cert.Proof.Model
open scoped BigOperators

section head

variable (Q D KV : ℕ → ℕ → ℝ) (sel : FVec Ideal S128x256 .f32 → FVec Ideal S128x256 .f32) (T S h : ℕ)
  (hsel : ∀ f : ℕ → ℕ → ℝ, sel (M2 f) = M2 (fun r c => if S + c < T + r then f r c else 0)) (hS : S + 256 ≤ 4096)
  (q d : FVec Ideal S128x128 .bf16) (kvl : Vec Ideal S256x128 .bf16) (rc : Vec Ideal S1x1x1x1x128 .f32)
  (pre : FVec Ideal S128x1 .f32)
  (hq : q = (M2 (fun r l => qh Q h (T + r) l) : FVec Ideal S128x128 .bf16))
  (hd : d = (M2 (fun r l => dh D h (T + r) l) : FVec Ideal S128x128 .bf16))
  (hkv : kvl = (M2 (fun c l => KV (S + c) (128 * h + l)) : FVec Ideal S256x128 .bf16))
  (hrc : ∀ r : Fin 128, rc (ValueIdx.ix5 0 0 0 0 r) = ((rem (zh Q KV h) (T + r.val) (S + 255) : ℝ) : EReal))
  (hpre : pre = (M2 (fun r _ => pfx (zh Q KV h) (wh D KV h) (T + r) S) : FVec Ideal S128x1 .f32))

include hsel hS hq hd hkv hrc hpre

/-- The key/value gradient after a head's block. -/
theorem head_pay (g : ℕ → ℕ → ℝ) (old : Vec Ideal S256x128 .f32)
    (hold : old = (M2 (fun c l => g (S + c) (128 * h + l)) : FVec Ideal S256x128 .f32)) :
    bPay sel uSuf uPre q d kvl rc pre old
      = M2 (fun c l => g (S + c) (128 * h + l) + cb Q D KV T h (S + c) l) := by
  rw [uSuf_M2, uPre_M2, hq, hd, hpre, hold]
  exact bPay_M2 sel T S hsel hS (fun r l => qh Q h (T + r) l) (fun r l => dh D h (T + r) l)
    (fun c l => KV (S + c) (128 * h + l)) (zh Q KV h) (wh D KV h) (fun _ _ _ _ => rfl) (fun _ _ _ _ => rfl) kvl hkv rc
    (bCol_M2 rc _ hrc) _

/-- The query gradient after it. -/
theorem head_dq (dq : FVec Ideal S128x128 .f32)
    (hdq : dq = (M2 (fun r l => dqk Q D KV h S (T + r) l) : FVec Ideal S128x128 .f32)) :
    bDq sel uSuf uPre q d kvl rc pre dq = M2 (fun r l => dqk Q D KV h (S + 256) (T + r) l) := by
  rw [uSuf_M2, uPre_M2, hq, hd, hpre, hdq]
  refine (bDq_M2 sel T S hsel hS (fun r l => qh Q h (T + r) l) (fun r l => dh D h (T + r) l)
    (fun c l => KV (S + c) (128 * h + l)) (zh Q KV h) (wh D KV h) (fun _ _ _ _ => rfl) (fun _ _ _ _ => rfl) kvl hkv rc
    (bCol_M2 rc _ hrc) _).trans (M2_congr fun r _ l _ => ?_)
  unfold dqk; rw [Finset.sum_range_add]; rfl

/-- The sums over the earlier keys after it. -/
theorem head_pre :
    bPre sel uSuf q d kvl rc pre = M2 (fun r _ => pfx (zh Q KV h) (wh D KV h) (T + r) (S + 256)) := by
  rw [uSuf_M2, hq, hd, hpre]
  exact bPre_M2 sel T S hsel hS (fun r l => qh Q h (T + r) l) (fun r l => dh D h (T + r) l)
    (fun c l => KV (S + c) (128 * h + l)) (zh Q KV h) (wh D KV h) (fun _ _ _ _ => rfl) (fun _ _ _ _ => rfl) kvl hkv rc
    (bCol_M2 rc _ hrc)

end head

/-- A load of 256 keys of a head out of the keys and values. -/
theorem readKv_M2 (v : View sig .tc .vmem S4096x1024 .bf16) (X : BufTy.Contents (Elt Ideal) v.ty) (KV : ℕ → ℕ → ℝ)
    (hX : v.read (Elt Ideal) X = (M2 KV : FVec Ideal S4096x1024 .bf16)) (S h : ℕ) (off : Fin 2 → ℕ)
    (inb : ∀ a, off a + S256x128.size a ≤ S4096x1024.size a) (ho : off = ![S, 128 * h]) :
    v.readAt (Elt Ideal) (Rect.unit (s := S4096x1024) off S256x128.size inb).toLoadRect X
      = (M2 (fun c l => KV (S + c) (128 * h + l)) : FVec Ideal S256x128 .bf16) := by
  subst ho
  refine eq_M2 fun c l => ?_
  rw [View.readAt_apply, hX]
  show ((KV (S + 1 * c.val) (128 * h + 1 * l.val) : ℝ) : EReal) = _
  rw [one_mul, one_mul]

/-- The same of the accumulated gradient. -/
theorem readAcc_M2 (v : View sig .tc .vmem S4096x1024 .f32) (X : BufTy.Contents (Elt Ideal) v.ty) (g : ℕ → ℕ → ℝ)
    (hX : v.read (Elt Ideal) X = (M2 g : FVec Ideal S4096x1024 .f32)) (S h : ℕ) (off : Fin 2 → ℕ)
    (inb : ∀ a, off a + S256x128.size a ≤ S4096x1024.size a) (ho : off = ![S, 128 * h]) :
    v.readAt (Elt Ideal) (Rect.unit (s := S4096x1024) off S256x128.size inb).toLoadRect X
      = (M2 (fun c l => g (S + c) (128 * h + l)) : FVec Ideal S256x128 .f32) := by
  subst ho
  refine eq_M2 fun c l => ?_
  rw [View.readAt_apply, hX]
  show ((g (S + 1 * c.val) (128 * h + 1 * l.val) : ℝ) : EReal) = _
  rw [one_mul, one_mul]

/-- A load of the row sums of one head and one key block. -/
theorem readRc (v : View sig .tc .vmem S8x1x16x1x128 .f32) (X : BufTy.Contents (Elt Ideal) v.ty) (R : ℕ → ℕ → ℕ → ℝ)
    (hX : ∀ (h : Fin 8) (k : Fin 16) (r : Fin 128), v.read (Elt Ideal) X (ValueIdx.ix5 h 0 k 0 r) = ((R h.val k.val r.val : ℝ) : EReal))
    (h k : ℕ) (off : Fin 5 → ℕ) (inb : ∀ a, off a + S1x1x1x1x128.size a ≤ S8x1x16x1x128.size a)
    (ho : off = ![h, 0, k, 0, 0]) (r : Fin 128) :
    v.readAt (Elt Ideal) (Rect.unit (s := S8x1x16x1x128) off S1x1x1x1x128.size inb).toLoadRect X (ValueIdx.ix5 0 0 0 0 r)
      = ((R h k r.val : ℝ) : EReal) := by
  subst ho
  have h0 : h < 8 := by have := inb 0; simpa using this
  have h2 : k < 16 := by have := inb 2; simpa using this
  rw [View.readAt_apply, ← hX ⟨h, h0⟩ ⟨k, h2⟩ r]
  congr 1
  funext a
  fin_cases a <;> apply Fin.ext
  · show h + 1 * 0 = h; omega
  · rfl
  · show k + 1 * 0 = k; omega
  · rfl
  · show 0 + 1 * r.val = r.val; omega

/-- One head's store: what the accumulated gradient reads after it. -/
theorem store_M2 (v : View sig .tc .vmem S4096x1024 .f32) (B : BufTy.Contents (Elt Ideal) v.ty)
    (L : Pieces Ideal) (S h : ℕ) (C : ℕ → ℕ → ℕ → ℝ) (g : ℕ → ℕ → ℝ) (off : Fin 2 → ℕ)
    (inb : ∀ a, off a + S256x128.size a ≤ S4096x1024.size a) (ho : off = ![S, 128 * h])
    (w : Vec Ideal S256x128 .f32)
    (hL : v.read (Elt Ideal) (v.writes (Elt Ideal) B L) = (M2 (grow S C h g) : FVec Ideal S4096x1024 .f32))
    (hw : w = (M2 (fun c l => g (S + c) (128 * h + l) + C h (S + c) l) : FVec Ideal S256x128 .f32)) :
    v.read (Elt Ideal) (v.writes (Elt Ideal) B (⟨Rect.unit (s := S4096x1024) off S256x128.size inb, w⟩ :: L))
      = (M2 (grow S C (h + 1) g) : FVec Ideal S4096x1024 .f32) := by
  refine eq_M2 fun s l => ?_
  by_cases hm : (S ≤ s.val ∧ s.val < S + 256) ∧ (128 * h ≤ l.val ∧ l.val < 128 * h + 128)
  · refine (View.read_writes_cons_unit_of_mem v B inb w L (ValueIdx.ix2 s l)
      (ValueIdx.ix2 (⟨s.val - S, by omega⟩ : Fin 256) (⟨l.val - 128 * h, by omega⟩ : Fin 128)) ho (fun a => ?_)).trans ?_
    · fin_cases a
      · show s.val = S + (s.val - S); omega
      · show l.val = 128 * h + (l.val - 128 * h); omega
    · rw [hw, M2_ix2]
      unfold grow
      rw [if_pos ⟨hm.1, by omega⟩]
      simp only [show S + (s.val - S) = s.val by omega, show 128 * h + (l.val - 128 * h) = l.val by omega,
        show l.val / 128 = h by omega, show l.val % 128 = l.val - 128 * h by omega]
  · have hx : v.read (Elt Ideal) (v.writes (Elt Ideal) B (⟨Rect.unit (s := S4096x1024) off S256x128.size inb, w⟩ :: L)) (ValueIdx.ix2 s l)
        = v.read (Elt Ideal) (v.writes (Elt Ideal) B L) (ValueIdx.ix2 s l) := by
      by_cases h0 : S ≤ s.val ∧ s.val < S + 256
      · refine View.read_writes_cons_unit_of_not_mem v B inb w L _ ho 1 ?_
        show l.val < 128 * h ∨ 128 * h + 128 ≤ l.val
        omega
      · refine View.read_writes_cons_unit_of_not_mem v B inb w L _ ho 0 ?_
        show s.val < S ∨ S + 256 ≤ s.val
        omega
    rw [hx, hL, M2_ix2]
    unfold grow
    congr 1
    by_cases h1 : (S ≤ s.val ∧ s.val < S + 256) ∧ l.val < 128 * h
    · rw [if_pos h1, if_pos ⟨h1.1, by omega⟩]
    · rw [if_neg h1, if_neg (by omega)]

/-- No head's store yet. -/
theorem grow_zero (S : ℕ) (C : ℕ → ℕ → ℕ → ℝ) (g : ℕ → ℕ → ℝ) : grow S C 0 g = g := by
  funext s l; unfold grow; exact if_neg (by omega)

end Cert.Proof.KernelIdeal

end
-- ==== Proof.Heads.lean ====
module

public import proofs.«01_k».proof.Proof.Block
public import proofs.«01_k».proof.Proof.Loops

/-!
A trip of the loop, head by head: its stores and what it carries on are the eight heads' copies of one text.
-/

@[expose] public section

set_option maxHeartbeats 4000000

noncomputable section

namespace Cert.Proof.KernelIdeal

open Idealize.ShloMosaic
open Cert.KernelIdeal Cert.KernelIdeal.Gen

variable {F : FTy → Type} [FloatOps F]

section trips

variable (𝒱 : Variants) (c : Dev nD) (bd : Option 𝒱.V)
  (i : grid0.Coords) (arg2 : Memref sig .tc .vmem S128x512 .bf16) (harg2 : arg2.IsWhole) (arg3 : Memref sig .tc
  .vmem S4096x1024 .bf16) (harg3 : arg3.IsWhole) (arg4 : Memref sig .tc .vmem S128x512 .bf16) (harg4 :
  arg4.IsWhole) (arg5 : Memref sig .tc .vmem S8x1x16x1x128 .f32) (harg5 : arg5.IsWhole) (arg6 : Memref sig .tc
  .vmem S128x512 .bf16) (harg6 : arg6.IsWhole) (arg7 : Memref sig .tc .vmem S4096x1024 .f32) (harg7 :
  arg7.IsWhole) (v11 : FVec F S256x256 .bf16) (v15 : FVec F S256x256 .bf16) (v33 : BitVec 32) (v42 : FVec F
  S128x128 .bf16) (v52 : FVec F S128x128 .bf16) (v61 : FVec F S128x128 .bf16) (v71 : FVec F S128x128 .bf16) (v80
  : FVec F S128x128 .bf16) (v90 : FVec F S128x128 .bf16) (v99 : FVec F S128x128 .bf16) (v109 : FVec F S128x128
  .bf16) (v119 : FVec F S128x128 .bf16) (v128 : FVec F S128x128 .bf16) (v138 : FVec F S128x128 .bf16) (v147 :
  FVec F S128x128 .bf16) (v157 : FVec F S128x128 .bf16) (v166 : FVec F S128x128 .bf16) (v176 : FVec F S128x128
  .bf16) (v185 : FVec F S128x128 .bf16) (v186 : FVec F S128x1 .f32) (v187 : FVec F S128x1 .f32) (v188 : FVec F
  S128x1 .f32) (v189 : FVec F S128x1 .f32) (v190 : FVec F S128x1 .f32) (v191 : FVec F S128x1 .f32) (v192 : FVec
  F S128x1 .f32) (v193 : FVec F S128x1 .f32) (v194 : FVec F S128x128 .f32) (v195 : FVec F S128x128 .f32) (v196 :
  FVec F S128x128 .f32) (v197 : FVec F S128x128 .f32) (v198 : FVec F S128x128 .f32) (v199 : FVec F S128x128
  .f32) (cst_86 : F .f32)
  (X3 : BufTy.Contents (Elt F) arg3.view.ty) (X5 : BufTy.Contents (Elt F) arg5.view.ty)
  (G7 : BufTy.Contents (Elt F) arg7.view.ty) (init : Carry F)

/-- A trip's stores, last first. -/
theorem trip_pieces (k : Fin (k0_t1_loop i).trips) (acc : Carry F) (f : BufTy.Contents (Elt F) arg7.view.ty) :
    (trip (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 k).2.1 acc f
      = [⟨Rect.unit (k0_off8 i k) S256x128.size (k0_off8_inb i k),
          bPay id v11 v15 v109 v185 (arg3.view.readAt (Elt F) (Rect.unit (s := S4096x1024) (k0_off8 i k) S256x128.size (k0_off8_inb i k)).toLoadRect X3)
            (arg5.view.readAt (Elt F) (Rect.unit (s := S8x1x16x1x128) (k0_off16 i k) S1x1x1x1x128.size (k0_off16_inb i k)).toLoadRect X5) acc.2.2.2.2.2.2.2.1
            (arg7.view.readAt (Elt F) (Rect.unit (s := S4096x1024) (k0_off8 i k) S256x128.size (k0_off8_inb i k)).toLoadRect f)⟩,
        ⟨Rect.unit (k0_off7 i k) S256x128.size (k0_off7_inb i k),
          bPay id v11 v15 v99 v176 (arg3.view.readAt (Elt F) (Rect.unit (s := S4096x1024) (k0_off7 i k) S256x128.size (k0_off7_inb i k)).toLoadRect X3)
            (arg5.view.readAt (Elt F) (Rect.unit (s := S8x1x16x1x128) (k0_off15 i k) S1x1x1x1x128.size (k0_off15_inb i k)).toLoadRect X5) acc.2.2.2.2.2.2.1
            (arg7.view.readAt (Elt F) (Rect.unit (s := S4096x1024) (k0_off7 i k) S256x128.size (k0_off7_inb i k)).toLoadRect f)⟩,
        ⟨Rect.unit (k0_off6 i k) S256x128.size (k0_off6_inb i k),
          bPay id v11 v15 v90 v166 (arg3.view.readAt (Elt F) (Rect.unit (s := S4096x1024) (k0_off6 i k) S256x128.size (k0_off6_inb i k)).toLoadRect X3)
            (arg5.view.readAt (Elt F) (Rect.unit (s := S8x1x16x1x128) (k0_off14 i k) S1x1x1x1x128.size (k0_off14_inb i k)).toLoadRect X5) acc.2.2.2.2.2.1
            (arg7.view.readAt (Elt F) (Rect.unit (s := S4096x1024) (k0_off6 i k) S256x128.size (k0_off6_inb i k)).toLoadRect f)⟩,
        ⟨Rect.unit (k0_off5 i k) S256x128.size (k0_off5_inb i k),
          bPay id v11 v15 v80 v157 (arg3.view.readAt (Elt F) (Rect.unit (s := S4096x1024) (k0_off5 i k) S256x128.size (k0_off5_inb i k)).toLoadRect X3)
            (arg5.view.readAt (Elt F) (Rect.unit (s := S8x1x16x1x128) (k0_off13 i k) S1x1x1x1x128.size (k0_off13_inb i k)).toLoadRect X5) acc.2.2.2.2.1
            (arg7.view.readAt (Elt F) (Rect.unit (s := S4096x1024) (k0_off5 i k) S256x128.size (k0_off5_inb i k)).toLoadRect f)⟩,
        ⟨Rect.unit (k0_off4 i k) S256x128.size (k0_off4_inb i k),
          bPay id v11 v15 v71 v147 (arg3.view.readAt (Elt F) (Rect.unit (s := S4096x1024) (k0_off4 i k) S256x128.size (k0_off4_inb i k)).toLoadRect X3)
            (arg5.view.readAt (Elt F) (Rect.unit (s := S8x1x16x1x128) (k0_off12 i k) S1x1x1x1x128.size (k0_off12_inb i k)).toLoadRect X5) acc.2.2.2.1
            (arg7.view.readAt (Elt F) (Rect.unit (s := S4096x1024) (k0_off4 i k) S256x128.size (k0_off4_inb i k)).toLoadRect f)⟩,
        ⟨Rect.unit (k0_off3 i k) S256x128.size (k0_off3_inb i k),
          bPay id v11 v15 v61 v138 (arg3.view.readAt (Elt F) (Rect.unit (s := S4096x1024) (k0_off3 i k) S256x128.size (k0_off3_inb i k)).toLoadRect X3)
            (arg5.view.readAt (Elt F) (Rect.unit (s := S8x1x16x1x128) (k0_off11 i k) S1x1x1x1x128.size (k0_off11_inb i k)).toLoadRect X5) acc.2.2.1
            (arg7.view.readAt (Elt F) (Rect.unit (s := S4096x1024) (k0_off3 i k) S256x128.size (k0_off3_inb i k)).toLoadRect f)⟩,
        ⟨Rect.unit (k0_off2 i k) S256x128.size (k0_off2_inb i k),
          bPay id v11 v15 v52 v128 (arg3.view.readAt (Elt F) (Rect.unit (s := S4096x1024) (k0_off2 i k) S256x128.size (k0_off2_inb i k)).toLoadRect X3)
            (arg5.view.readAt (Elt F) (Rect.unit (s := S8x1x16x1x128) (k0_off10 i k) S1x1x1x1x128.size (k0_off10_inb i k)).toLoadRect X5) acc.2.1
            (arg7.view.readAt (Elt F) (Rect.unit (s := S4096x1024) (k0_off2 i k) S256x128.size (k0_off2_inb i k)).toLoadRect f)⟩,
        ⟨Rect.unit (k0_off1 i k) S256x128.size (k0_off1_inb i k),
          bPay id v11 v15 v42 v119 (arg3.view.readAt (Elt F) (Rect.unit (s := S4096x1024) (k0_off1 i k) S256x128.size (k0_off1_inb i k)).toLoadRect X3)
            (arg5.view.readAt (Elt F) (Rect.unit (s := S8x1x16x1x128) (k0_off9 i k) S1x1x1x1x128.size (k0_off9_inb i k)).toLoadRect X5) acc.1
            (arg7.view.readAt (Elt F) (Rect.unit (s := S4096x1024) (k0_off1 i k) S256x128.size (k0_off1_inb i k)).toLoadRect f)⟩] := by
  unfold trip; rfl

/-- What a trip carries on. -/
theorem trip_carry (k : Fin (k0_t1_loop i).trips) (acc : Carry F) (f : BufTy.Contents (Elt F) arg7.view.ty) :
    (trip (F := F) 𝒱 c bd i arg2 harg2 arg3 harg3 arg4 harg4 arg5 harg5 arg6 harg6 arg7 harg7 v11 v15 v33 v42 v52 v61 v71 v80 v90 v99
    v109 v119 v128 v138 v147 v157 v166 v176 v185 v186 v187 v188 v189 v190 v191 v192 v193 v194 v195 v196 v197 v198
    v199 cst_86 X3 X5 k).1 acc f
      = (bPre id v11 v42 v119 (arg3.view.readAt (Elt F) (Rect.unit (s := S4096x1024) (k0_off1 i k) S256x128.size (k0_off1_inb i k)).toLoadRect X3)
          (arg5.view.readAt (Elt F) (Rect.unit (s := S8x1x16x1x128) (k0_off9 i k) S1x1x1x1x128.size (k0_off9_inb i k)).toLoadRect X5) acc.1,
        bPre id v11 v52 v128 (arg3.view.readAt (Elt F) (Rect.unit (s := S4096x1024) (k0_off2 i k) S256x128.size (k0_off2_inb i k)).toLoadRect X3)
          (arg5.view.readAt (Elt F) (Rect.unit (s := S8x1x16x1x128) (k0_off10 i k) S1x1x1x1x128.size (k0_off10_inb i k)).toLoadRect X5) acc.2.1,
        bPre id v11 v61 v138 (arg3.view.readAt (Elt F) (Rect.unit (s := S4096x1024) (k0_off3 i k) S256x128.size (k0_off3_inb i k)).toLoadRect X3)
          (arg5.view.readAt (Elt F) (Rect.unit (s := S8x1x16x1x128) (k0_off11 i k) S1x1x1x1x128.size (k0_off11_inb i k)).toLoadRect X5) acc.2.2.1,
        bPre id v11 v71 v147 (arg3.view.readAt (Elt F) (Rect.unit (s := S4096x1024) (k0_off4 i k) S256x128.size (k0_off4_inb i k)).toLoadRect X3)
          (arg5.view.readAt (Elt F) (Rect.unit (s := S8x1x16x1x128) (k0_off12 i k) S1x1x1x1x128.size (k0_off12_inb i k)).toLoadRect X5) acc.2.2.2.1,
        bPre id v11 v80 v157 (arg3.view.readAt (Elt F) (Rect.unit (s := S4096x1024) (k0_off5 i k) S256x128.size (k0_off5_inb i k)).toLoadRect X3)
          (arg5.view.readAt (Elt F) (Rect.unit (s := S8x1x16x1x128) (k0_off13 i k) S1x1x1x1x128.size (k0_off13_inb i k)).toLoadRect X5) acc.2.2.2.2.1,
        bPre id v11 v90 v166 (arg3.view.readAt (Elt F) (Rect.unit (s := S4096x1024) (k0_off6 i k) S256x128.size (k0_off6_inb i k)).toLoadRect X3)
          (arg5.view.readAt (Elt F) (Rect.unit (s := S8x1x16x1x128) (k0_off14 i k) S1x1x1x1x128.size (k0_off14_inb i k)).toLoadRect X5) acc.2.2.2.2.2.1,
        bPre id v11 v99 v176 (arg3.view.readAt (Elt F) (Rect.unit (s := S4096x1024) (k0_off7 i k) S256x128.size (k0_off7_inb i k)).toLoadRect X3)
          (arg5.view.readAt (Elt F) (Rect.unit (s := S8x1x16x1x128) (k0_off15 i k) S1x1x1x1x128.size (k0_off15_inb i k)).toLoadRect X5) acc.2.2.2.2.2.2.1,
        bPre id v11 v109 v185 (arg3.view.readAt (Elt F) (Rect.unit (s := S4096x1024) (k0_off8 i k) S256x128.size (k0_off8_inb i k)).toLoadRect X3)
          (arg5.view.readAt (Elt F) (Rect.unit (s := S8x1x16x1x128) (k0_off16 i k) S1x1x1x1x128.size (k0_off16_inb i k)).toLoadRect X5) acc.2.2.2.2.2.2.2.1,
        bDq id v11 v15 v42 v119 (arg3.view.readAt (Elt F) (Rect.unit (s := S4096x1024) (k0_off1 i k) S256x128.size (k0_off1_inb i k)).toLoadRect X3)
          (arg5.view.readAt (Elt F) (Rect.unit (s := S8x1x16x1x128) (k0_off9 i k) S1x1x1x1x128.size (k0_off9_inb i k)).toLoadRect X5) acc.1 acc.2.2.2.2.2.2.2.2.1,
        bDq id v11 v15 v52 v128 (arg3.view.readAt (Elt F) (Rect.unit (s := S4096x1024) (k0_off2 i k) S256x128.size (k0_off2_inb i k)).toLoadRect X3)
          (arg5.view.readAt (Elt F) (Rect.unit (s := S8x1x16x1x128) (k0_off10 i k) S1x1x1x1x128.size (k0_off10_inb i k)).toLoadRect X5) acc.2.1 acc.2.2.2.2.2.2.2.2.2.1,
        bDq id v11 v15 v61 v138 (arg3.view.readAt (Elt F) (Rect.unit (s := S4096x1024) (k0_off3 i k) S256x128.size (k0_off3_inb i k)).toLoadRect X3)
          (arg5.view.readAt (Elt F) (Rect.unit (s := S8x1x16x1x128) (k0_off11 i k) S1x1x1x1x128.size (k0_off11_inb i k)).toLoadRect X5) acc.2.2.1 acc.2.2.2.2.2.2.2.2.2.2.1,
        bDq id v11 v15 v71 v147 (arg3.view.readAt (Elt F) (Rect.unit (s := S4096x1024) (k0_off4 i k) S256x128.size (k0_off4_inb i k)).toLoadRect X3)
          (arg5.view.readAt (Elt F) (Rect.unit (s := S8x1x16x1x128) (k0_off12 i k) S1x1x1x1x128.size (k0_off12_inb i k)).toLoadRect X5) acc.2.2.2.1 acc.2.2.2.2.2.2.2.2.2.2.2.1,
        bDq id v11 v15 v80 v157 (arg3.view.readAt (Elt F) (Rect.unit (s := S4096x1024) (k0_off5 i k) S256x128.size (k0_off5_inb i k)).toLoadRect X3)
          (arg5.view.readAt (Elt F) (Rect.unit (s := S8x1x16x1x128) (k0_off13 i k) S1x1x1x1x128.size (k0_off13_inb i k)).toLoadRect X5) acc.2.2.2.2.1 acc.2.2.2.2.2.2.2.2.2.2.2.2.1,
        bDq id v11 v15 v90 v166 (arg3.view.readAt (Elt F) (Rect.unit (s := S4096x1024) (k0_off6 i k) S256x128.size (k0_off6_inb i k)).toLoadRect X3)
          (arg5.view.readAt (Elt F) (Rect.unit (s := S8x1x16x1x128) (k0_off14 i k) S1x1x1x1x128.size (k0_off14_inb i k)).toLoadRect X5) acc.2.2.2.2.2.1 acc.2.2.2.2.2.2.2.2.2.2.2.2.2.1,
        bDq id v11 v15 v99 v176 (arg3.view.readAt (Elt F) (Rect.unit (s := S4096x1024) (k0_off7 i k) S256x128.size (k0_off7_inb i k)).toLoadRect X3)
          (arg5.view.readAt (Elt F) (Rect.unit (s := S8x1x16x1x128) (k0_off15 i k) S1x1x1x1x128.size (k0_off15_inb i k)).toLoadRect X5) acc.2.2.2.2.2.2.1 acc.2.2.2.2.2.2.2.2.2.2.2.2.2.2.1,
        bDq id v11 v15 v109 v185 (arg3.view.readAt (Elt F) (Rect.unit (s := S4096x1024) (k0_off8 i k) S256x128.size (k0_off8_inb i k)).toLoadRect X3)
          (arg5.view.readAt (Elt F) (Rect.unit (s := S8x1x16x1x128) (k0_off16 i k) S1x1x1x1x128.size (k0_off16_inb i k)).toLoadRect X5) acc.2.2.2.2.2.2.2.1 acc.2.2.2.2.2.2.2.2.2.2.2.2.2.2.2) := by
  unfold trip; rfl

end trips

end Cert.Proof.KernelIdeal

end
-- ==== Proof.LoopValue.lean ====
module

public import proofs.«01_k».proof.Proof.HeadModel
public import proofs.«01_k».proof.Proof.Heads

/-!
The loop over the wholly earlier key blocks, over real numbers: what it carries and what it has stored before each trip.
-/

@[expose] public section

set_option maxHeartbeats 4000000

noncomputable section

namespace Cert.Proof.KernelIdeal

open Idealize.ShloMosaic
open Cert.KernelIdeal Cert.KernelIdeal.Gen
open Cert.Proof.RealMat Cert.Proof.Model

/-- What the loop carries, from its values head by head. -/
abbrev carryOf (p : ℕ → FVec Ideal S128x1 .f32) (d : ℕ → FVec Ideal S128x128 .f32) : Carry Ideal :=
  (p 0, p 1, p 2, p 3, p 4, p 5, p 6, p 7, d 0, d 1, d 2, d 3, d 4, d 5, d 6, d 7)

/-- What the loop has carried for the queries from `T` on before the key `n`. -/
abbrev carryAt (Q D KV : ℕ → ℕ → ℝ) (T n : ℕ) : Carry Ideal :=
  carryOf (fun h => M2 (fun r _ => pfx (zh Q KV h) (wh D KV h) (T + r) n)) (fun h => M2 (fun r l => dqk Q D KV h n (T + r) l))

section trips

variable (𝒱 : Variants) (c : Dev nD) (bd : Option 𝒱.V)
  (i : grid0.Coords) (arg2 : Memref sig .tc .vmem S128x512 .bf16) (harg2 : arg2.IsWhole) (arg3 : Memref sig .tc
  .vmem S4096x1024 .bf16) (harg3 : arg3.IsWhole) (arg4 : Memref sig .tc .vmem S128x512 .bf16) (harg4 :
  arg4.IsWhole) (arg5 : Memref sig .tc .vmem S8x1x16x1x128 .f32) (harg5 : arg5.IsWhole) (arg6 : Memref sig .tc
  .vmem S128x512 .bf16) (harg6 : arg6.IsWhole) (arg7 : Memref sig .tc .vmem S4096x1024 .f32) (harg7 :
  arg7.IsWhole) (v33 : BitVec 32) (v42 : FVec Ideal
  S128x128 .bf16) (v52 : FVec Ideal S128x128 .bf16) (v61 : FVec Ideal S128x128 .bf16) (v71 : FVec Ideal S128x128 .bf16) (v80
  : FVec Ideal S128x128 .bf16) (v90 : FVec Ideal S128x128 .bf16) (v99 : FVec Ideal S128x128 .bf16) (v109 : FVec Ideal S128x128
  .bf16) (v119 : FVec Ideal S128x128 .bf16) (v128 : FVec Ideal S128x128 .bf16) (v138 : FVec Ideal S128x128 .bf16) (v147 :
  FVec Ideal S128x128 .bf16) (v157 : FVec Ideal S128x128 .bf16) (v166 : FVec Ideal S128x128 .bf16) (v176 : FVec Ideal S128x128
  .bf16) (v185 : FVec Ideal S128x128 .bf16) (v186 : FVec Ideal S128x1 .f32) (v187 : FVec Ideal S128x1 .f32) (v188 : FVec Ideal
  S128x1 .f32) (v189 : FVec Ideal S128x1 .f32) (v190 : FVec Ideal S128x1 .f32) (v191 : FVec Ideal S128x1 .f32) (v192 : FVec
  Ideal S128x1 .f32) (v193 : FVec Ideal S128x1 .f32) (v194 : FVec Ideal S128x128 .f32) (v195 : FVec Ideal S128x128 .f32) (v196 :
  FVec Ideal S128x128 .f32) (v197 : FVec Ideal S128x128 .f32) (v198 : FVec Ideal S128x128 .f32) (v199 : FVec Ideal S128x128
  .f32) (cst_86 : Ideal .f32)
  (X3 : BufTy.Contents (Elt Ideal) arg3.view.ty) (X5 : BufTy.Contents (Elt Ideal) arg5.view.ty)
  (G7 : BufTy.Contents (Elt Ideal) arg7.view.ty) (init : Carry Ideal)

variable (Q D KV : ℕ → ℕ → ℝ) (T : ℕ)
  (hq0 : v42 = (M2 (fun r l => qh Q 0 (T + r) l) : FVec Ideal S128x128 .bf16))
  (hd0 : v119 = (M2 (fun r l => dh D 0 (T + r) l) : FVec Ideal S128x128 .bf16))
  (hq1 : v52 = (M2 (fun r l => qh Q 1 (T + r) l) : FVec Ideal S128x128 .bf16))
  (hd1 : v128 = (M2 (fun r l => dh D 1 (T + r) l) : FVec Ideal S128x128 .bf16))
  (hq2 : v61 = (M2 (fun r l => qh Q 2 (T + r) l) : FVec Ideal S128x128 .bf16))
  (hd2 : v138 = (M2 (fun r l => dh D 2 (T + r) l) : FVec Ideal S128x128 .bf16))
  (hq3 : v71 = (M2 (fun r l => qh Q 3 (T + r) l) : FVec Ideal S128x128 .bf16))
  (hd3 : v147 = (M2 (fun r l => dh D 3 (T + r) l) : FVec Ideal S128x128 .bf16))
  (hq4 : v80 = (M2 (fun r l => qh Q 4 (T + r) l) : FVec Ideal S128x128 .bf16))
  (hd4 : v157 = (M2 (fun r l => dh D 4 (T + r) l) : FVec Ideal S128x128 .bf16))
  (hq5 : v90 = (M2 (fun r l => qh Q 5 (T + r) l) : FVec Ideal S128x128 .bf16))
  (hd5 : v166 = (M2 (fun r l => dh D 5 (T + r) l) : FVec Ideal S128x128 .bf16))
  (hq6 : v99 = (M2 (fun r l => qh Q 6 (T + r) l) : FVec Ideal S128x128 .bf16))
  (hd6 : v176 = (M2 (fun r l => dh D 6 (T + r) l) : FVec Ideal S128x128 .bf16))
  (hq7 : v109 = (M2 (fun r l => qh Q 7 (T + r) l) : FVec Ideal S128x128 .bf16))
  (hd7 : v185 = (M2 (fun r l => dh D 7 (T + r) l) : FVec Ideal S128x128 .bf16))
  (hX3 : arg3.view.read (Elt Ideal) X3 = (M2 KV : FVec Ideal S4096x1024 .bf16))
  (hX5 : ∀ (h : Fin 8) (k : Fin 16) (r : Fin 128), arg5.view.read (Elt Ideal) X5 (ValueIdx.ix5 h 0 k 0 r)
    = ((rem (zh Q KV h.val) (T + r.val) (256 * k.val + 255) : ℝ) : EReal))

include hq0 hd0 hq1 hd1 hq2 hd2 hq3 hd3 hq4 hd4 hq5 hd5 hq6 hd6 hq7 hd7 hX3 hX5

/-- A trip's stores. -/
theorem trip_pieces_M2 (k : Fin (k0_t1_loop i).trips) (hS : 256 * k.val + 256 ≤ 4096) (hT : 256 * k.val + 256 ≤ T)
    (f : BufTy.Contents (Elt Ideal) arg7.view.ty) (g : ℕ → ℕ → ℝ)
    (hf : arg7.view.read (Elt Ideal) f = (M2 g : FVec Ideal S4096x1024 .f32)) :
    arg7.view.read (Elt Ideal) (arg7.view.writes (Elt Ideal) f
      ((trip (F := Ideal) 𝒱 c bd i arg2 harg2 arg3 harg3 arg4 harg4 arg5 harg5 arg6 harg6 arg7 harg7 uSuf uPre v33 v42 v52 v61 v71 v80 v90 v99
        v109 v119 v128 v138 v147 v157 v166 v176 v185 v186 v187 v188 v189 v190 v191 v192 v193 v194 v195 v196 v197 v198
        v199 cst_86 X3 X5 k).2.1 (carryAt Q D KV T (256 * k.val)) f))
      = (M2 (grow (256 * k.val) (cb Q D KV T) 8 g) : FVec Ideal S4096x1024 .f32) := by
  rw [trip_pieces]
  refine store_M2 arg7.view f _ (256 * k.val) 7 (cb Q D KV T) g (k0_off8 i k) (k0_off8_inb i k) (off8_eq i k) _ ?_
    (head_pay Q D KV id T (256 * k.val) 7 (id_M2 T _ hT) hS _ _ _ _ _ hq7 hd7
      (readKv_M2 arg3.view X3 KV hX3 _ 7 _ _ (off8_eq i k))
      (readRc arg5.view X5 (fun h k r => rem (zh Q KV h) (T + r) (256 * k + 255)) hX5 7 k.val _ _ (off16_eq i k)) rfl g _
      (readAcc_M2 arg7.view f g hf _ 7 _ _ (off8_eq i k)))
  refine store_M2 arg7.view f _ (256 * k.val) 6 (cb Q D KV T) g (k0_off7 i k) (k0_off7_inb i k) (off7_eq i k) _ ?_
    (head_pay Q D KV id T (256 * k.val) 6 (id_M2 T _ hT) hS _ _ _ _ _ hq6 hd6
      (readKv_M2 arg3.view X3 KV hX3 _ 6 _ _ (off7_eq i k))
      (readRc arg5.view X5 (fun h k r => rem (zh Q KV h) (T + r) (256 * k + 255)) hX5 6 k.val _ _ (off15_eq i k)) rfl g _
      (readAcc_M2 arg7.view f g hf _ 6 _ _ (off7_eq i k)))
  refine store_M2 arg7.view f _ (256 * k.val) 5 (cb Q D KV T) g (k0_off6 i k) (k0_off6_inb i k) (off6_eq i k) _ ?_
    (head_pay Q D KV id T (256 * k.val) 5 (id_M2 T _ hT) hS _ _ _ _ _ hq5 hd5
      (readKv_M2 arg3.view X3 KV hX3 _ 5 _ _ (off6_eq i k))
      (readRc arg5.view X5 (fun h k r => rem (zh Q KV h) (T + r) (256 * k + 255)) hX5 5 k.val _ _ (off14_eq i k)) rfl g _
      (readAcc_M2 arg7.view f g hf _ 5 _ _ (off6_eq i k)))
  refine store_M2 arg7.view f _ (256 * k.val) 4 (cb Q D KV T) g (k0_off5 i k) (k0_off5_inb i k) (off5_eq i k) _ ?_
    (head_pay Q D KV id T (256 * k.val) 4 (id_M2 T _ hT) hS _ _ _ _ _ hq4 hd4
      (readKv_M2 arg3.view X3 KV hX3 _ 4 _ _ (off5_eq i k))
      (readRc arg5.view X5 (fun h k r => rem (zh Q KV h) (T + r) (256 * k + 255)) hX5 4 k.val _ _ (off13_eq i k)) rfl g _
      (readAcc_M2 arg7.view f g hf _ 4 _ _ (off5_eq i k)))
  refine store_M2 arg7.view f _ (256 * k.val) 3 (cb Q D KV T) g (k0_off4 i k) (k0_off4_inb i k) (off4_eq i k) _ ?_
    (head_pay Q D KV id T (256 * k.val) 3 (id_M2 T _ hT) hS _ _ _ _ _ hq3 hd3
      (readKv_M2 arg3.view X3 KV hX3 _ 3 _ _ (off4_eq i k))
      (readRc arg5.view X5 (fun h k r => rem (zh Q KV h) (T + r) (256 * k + 255)) hX5 3 k.val _ _ (off12_eq i k)) rfl g _
      (readAcc_M2 arg7.view f g hf _ 3 _ _ (off4_eq i k)))
  refine store_M2 arg7.view f _ (256 * k.val) 2 (cb Q D KV T) g (k0_off3 i k) (k0_off3_inb i k) (off3_eq i k) _ ?_
    (head_pay Q D KV id T (256 * k.val) 2 (id_M2 T _ hT) hS _ _ _ _ _ hq2 hd2
      (readKv_M2 arg3.view X3 KV hX3 _ 2 _ _ (off3_eq i k))
      (readRc arg5.view X5 (fun h k r => rem (zh Q KV h) (T + r) (256 * k + 255)) hX5 2 k.val _ _ (off11_eq i k)) rfl g _
      (readAcc_M2 arg7.view f g hf _ 2 _ _ (off3_eq i k)))
  refine store_M2 arg7.view f _ (256 * k.val) 1 (cb Q D KV T) g (k0_off2 i k) (k0_off2_inb i k) (off2_eq i k) _ ?_
    (head_pay Q D KV id T (256 * k.val) 1 (id_M2 T _ hT) hS _ _ _ _ _ hq1 hd1
      (readKv_M2 arg3.view X3 KV hX3 _ 1 _ _ (off2_eq i k))
      (readRc arg5.view X5 (fun h k r => rem (zh Q KV h) (T + r) (256 * k + 255)) hX5 1 k.val _ _ (off10_eq i k)) rfl g _
      (readAcc_M2 arg7.view f g hf _ 1 _ _ (off2_eq i k)))
  refine store_M2 arg7.view f _ (256 * k.val) 0 (cb Q D KV T) g (k0_off1 i k) (k0_off1_inb i k) (off1_eq i k) _ ?_
    (head_pay Q D KV id T (256 * k.val) 0 (id_M2 T _ hT) hS _ _ _ _ _ hq0 hd0
      (readKv_M2 arg3.view X3 KV hX3 _ 0 _ _ (off1_eq i k))
      (readRc arg5.view X5 (fun h k r => rem (zh Q KV h) (T + r) (256 * k + 255)) hX5 0 k.val _ _ (off9_eq i k)) rfl g _
      (readAcc_M2 arg7.view f g hf _ 0 _ _ (off1_eq i k)))
  rw [grow_zero]; exact hf

/-- What a trip carries on. -/
theorem trip_carry_M2 (k : Fin (k0_t1_loop i).trips) (hS : 256 * k.val + 256 ≤ 4096) (hT : 256 * k.val + 256 ≤ T)
    (f : BufTy.Contents (Elt Ideal) arg7.view.ty) :
    (trip (F := Ideal) 𝒱 c bd i arg2 harg2 arg3 harg3 arg4 harg4 arg5 harg5 arg6 harg6 arg7 harg7 uSuf uPre v33 v42 v52 v61 v71 v80 v90 v99
        v109 v119 v128 v138 v147 v157 v166 v176 v185 v186 v187 v188 v189 v190 v191 v192 v193 v194 v195 v196 v197 v198
        v199 cst_86 X3 X5 k).1 (carryAt Q D KV T (256 * k.val)) f
      = carryAt Q D KV T (256 * (k.val + 1)) := by
  rw [trip_carry]
  refine congrArg₂ Prod.mk (head_pre Q D KV id T (256 * k.val) 0 (id_M2 T _ hT) hS _ _ _ _ _ hq0 hd0
      (readKv_M2 arg3.view X3 KV hX3 _ 0 _ _ (off1_eq i k))
      (readRc arg5.view X5 (fun h k r => rem (zh Q KV h) (T + r) (256 * k + 255)) hX5 0 k.val _ _ (off9_eq i k)) rfl) ?_
  refine congrArg₂ Prod.mk (head_pre Q D KV id T (256 * k.val) 1 (id_M2 T _ hT) hS _ _ _ _ _ hq1 hd1
      (readKv_M2 arg3.view X3 KV hX3 _ 1 _ _ (off2_eq i k))
      (readRc arg5.view X5 (fun h k r => rem (zh Q KV h) (T + r) (256 * k + 255)) hX5 1 k.val _ _ (off10_eq i k)) rfl) ?_
  refine congrArg₂ Prod.mk (head_pre Q D KV id T (256 * k.val) 2 (id_M2 T _ hT) hS _ _ _ _ _ hq2 hd2
      (readKv_M2 arg3.view X3 KV hX3 _ 2 _ _ (off3_eq i k))
      (readRc arg5.view X5 (fun h k r => rem (zh Q KV h) (T + r) (256 * k + 255)) hX5 2 k.val _ _ (off11_eq i k)) rfl) ?_
  refine congrArg₂ Prod.mk (head_pre Q D KV id T (256 * k.val) 3 (id_M2 T _ hT) hS _ _ _ _ _ hq3 hd3
      (readKv_M2 arg3.view X3 KV hX3 _ 3 _ _ (off4_eq i k))
      (readRc arg5.view X5 (fun h k r => rem (zh Q KV h) (T + r) (256 * k + 255)) hX5 3 k.val _ _ (off12_eq i k)) rfl) ?_
  refine congrArg₂ Prod.mk (head_pre Q D KV id T (256 * k.val) 4 (id_M2 T _ hT) hS _ _ _ _ _ hq4 hd4
      (readKv_M2 arg3.view X3 KV hX3 _ 4 _ _ (off5_eq i k))
      (readRc arg5.view X5 (fun h k r => rem (zh Q KV h) (T + r) (256 * k + 255)) hX5 4 k.val _ _ (off13_eq i k)) rfl) ?_
  refine congrArg₂ Prod.mk (head_pre Q D KV id T (256 * k.val) 5 (id_M2 T _ hT) hS _ _ _ _ _ hq5 hd5
      (readKv_M2 arg3.view X3 KV hX3 _ 5 _ _ (off6_eq i k))
      (readRc arg5.view X5 (fun h k r => rem (zh Q KV h) (T + r) (256 * k + 255)) hX5 5 k.val _ _ (off14_eq i k)) rfl) ?_
  refine congrArg₂ Prod.mk (head_pre Q D KV id T (256 * k.val) 6 (id_M2 T _ hT) hS _ _ _ _ _ hq6 hd6
      (readKv_M2 arg3.view X3 KV hX3 _ 6 _ _ (off7_eq i k))
      (readRc arg5.view X5 (fun h k r => rem (zh Q KV h) (T + r) (256 * k + 255)) hX5 6 k.val _ _ (off15_eq i k)) rfl) ?_
  refine congrArg₂ Prod.mk (head_pre Q D KV id T (256 * k.val) 7 (id_M2 T _ hT) hS _ _ _ _ _ hq7 hd7
      (readKv_M2 arg3.view X3 KV hX3 _ 7 _ _ (off8_eq i k))
      (readRc arg5.view X5 (fun h k r => rem (zh Q KV h) (T + r) (256 * k + 255)) hX5 7 k.val _ _ (off16_eq i k)) rfl) ?_
  refine congrArg₂ Prod.mk (head_dq Q D KV id T (256 * k.val) 0 (id_M2 T _ hT) hS _ _ _ _ _ hq0 hd0
      (readKv_M2 arg3.view X3 KV hX3 _ 0 _ _ (off1_eq i k))
      (readRc arg5.view X5 (fun h k r => rem (zh Q KV h) (T + r) (256 * k + 255)) hX5 0 k.val _ _ (off9_eq i k)) rfl _ rfl) ?_
  refine congrArg₂ Prod.mk (head_dq Q D KV id T (256 * k.val) 1 (id_M2 T _ hT) hS _ _ _ _ _ hq1 hd1
      (readKv_M2 arg3.view X3 KV hX3 _ 1 _ _ (off2_eq i k))
      (readRc arg5.view X5 (fun h k r => rem (zh Q KV h) (T + r) (256 * k + 255)) hX5 1 k.val _ _ (off10_eq i k)) rfl _ rfl) ?_
  refine congrArg₂ Prod.mk (head_dq Q D KV id T (256 * k.val) 2 (id_M2 T _ hT) hS _ _ _ _ _ hq2 hd2
      (readKv_M2 arg3.view X3 KV hX3 _ 2 _ _ (off3_eq i k))
      (readRc arg5.view X5 (fun h k r => rem (zh Q KV h) (T + r) (256 * k + 255)) hX5 2 k.val _ _ (off11_eq i k)) rfl _ rfl) ?_
  refine congrArg₂ Prod.mk (head_dq Q D KV id T (256 * k.val) 3 (id_M2 T _ hT) hS _ _ _ _ _ hq3 hd3
      (readKv_M2 arg3.view X3 KV hX3 _ 3 _ _ (off4_eq i k))
      (readRc arg5.view X5 (fun h k r => rem (zh Q KV h) (T + r) (256 * k + 255)) hX5 3 k.val _ _ (off12_eq i k)) rfl _ rfl) ?_
  refine congrArg₂ Prod.mk (head_dq Q D KV id T (256 * k.val) 4 (id_M2 T _ hT) hS _ _ _ _ _ hq4 hd4
      (readKv_M2 arg3.view X3 KV hX3 _ 4 _ _ (off5_eq i k))
      (readRc arg5.view X5 (fun h k r => rem (zh Q KV h) (T + r) (256 * k + 255)) hX5 4 k.val _ _ (off13_eq i k)) rfl _ rfl) ?_
  refine congrArg₂ Prod.mk (head_dq Q D KV id T (256 * k.val) 5 (id_M2 T _ hT) hS _ _ _ _ _ hq5 hd5
      (readKv_M2 arg3.view X3 KV hX3 _ 5 _ _ (off6_eq i k))
      (readRc arg5.view X5 (fun h k r => rem (zh Q KV h) (T + r) (256 * k + 255)) hX5 5 k.val _ _ (off14_eq i k)) rfl _ rfl) ?_
  refine congrArg₂ Prod.mk (head_dq Q D KV id T (256 * k.val) 6 (id_M2 T _ hT) hS _ _ _ _ _ hq6 hd6
      (readKv_M2 arg3.view X3 KV hX3 _ 6 _ _ (off7_eq i k))
      (readRc arg5.view X5 (fun h k r => rem (zh Q KV h) (T + r) (256 * k + 255)) hX5 6 k.val _ _ (off15_eq i k)) rfl _ rfl) ?_
  exact (head_dq Q D KV id T (256 * k.val) 7 (id_M2 T _ hT) hS _ _ _ _ _ hq7 hd7
      (readKv_M2 arg3.view X3 KV hX3 _ 7 _ _ (off8_eq i k))
      (readRc arg5.view X5 (fun h k r => rem (zh Q KV h) (T + r) (256 * k + 255)) hX5 7 k.val _ _ (off16_eq i k)) rfl _ rfl)

/-- Before trip `k`: what is carried, and what the accumulated gradient reads, `g` being what it read at first. -/
theorem state_M2 (g : ℕ → ℕ → ℝ) (hG : arg7.view.read (Elt Ideal) G7 = (M2 g : FVec Ideal S4096x1024 .f32))
    (hinit : init = carryAt Q D KV T 0) (hT : 256 * (k0_t1_loop i).trips ≤ T) (hT' : T ≤ 4096) (k : ℕ) (hk : k ≤ (k0_t1_loop i).trips) :
    (state (F := Ideal) 𝒱 c bd i arg2 harg2 arg3 harg3 arg4 harg4 arg5 harg5 arg6 harg6 arg7 harg7 uSuf uPre v33 v42 v52 v61 v71 v80 v90 v99
        v109 v119 v128 v138 v147 v157 v166 v176 v185 v186 v187 v188 v189 v190 v191 v192 v193 v194 v195 v196 v197 v198
        v199 cst_86 X3 X5 G7 init k).1 = carryAt Q D KV T (256 * k)
    ∧ arg7.view.read (Elt Ideal) (arg7.view.writes (Elt Ideal) G7
        (state (F := Ideal) 𝒱 c bd i arg2 harg2 arg3 harg3 arg4 harg4 arg5 harg5 arg6 harg6 arg7 harg7 uSuf uPre v33 v42 v52 v61 v71 v80 v90 v99
        v109 v119 v128 v138 v147 v157 v166 v176 v185 v186 v187 v188 v189 v190 v191 v192 v193 v194 v195 v196 v197 v198
        v199 cst_86 X3 X5 G7 init k).2)
      = (M2 (fun s l => if s < 256 * k then g s l + cb Q D KV T (l / 128) s (l % 128) else g s l) : FVec Ideal S4096x1024 .f32) := by
  induction k with
  | zero => exact ⟨hinit, hG.trans (M2_congr fun s _ l _ => (if_neg (by omega)).symm)⟩
  | succ k ih =>
    obtain ⟨h1, h2⟩ := ih (by omega)
    have hs := state_succ (F := Ideal) 𝒱 c bd i arg2 harg2 arg3 harg3 arg4 harg4 arg5 harg5 arg6 harg6 arg7 harg7 uSuf uPre v33 v42 v52 v61 v71 v80 v90 v99
        v109 v119 v128 v138 v147 v157 v166 v176 v185 v186 v187 v188 v189 v190 v191 v192 v193 v194 v195 v196 v197 v198
        v199 cst_86 X3 X5 G7 init ⟨k, by omega⟩
    dsimp only at hs
    have p := trip_pieces_M2 𝒱 c bd i arg2 harg2 arg3 harg3 arg4 harg4 arg5 harg5 arg6 harg6 arg7 harg7 v33 v42 v52 v61 v71 v80 v90 v99
        v109 v119 v128 v138 v147 v157 v166 v176 v185 v186 v187 v188 v189 v190 v191 v192 v193 v194 v195 v196 v197 v198
        v199 cst_86 X3 X5 Q D KV T hq0 hd0 hq1 hd1 hq2 hd2 hq3 hd3 hq4 hd4 hq5 hd5 hq6 hd6 hq7 hd7 hX3 hX5 ⟨k, by omega⟩ (by dsimp only; omega) (by dsimp only; omega) _ _ h2
    have q := trip_carry_M2 𝒱 c bd i arg2 harg2 arg3 harg3 arg4 harg4 arg5 harg5 arg6 harg6 arg7 harg7 v33 v42 v52 v61 v71 v80 v90 v99
        v109 v119 v128 v138 v147 v157 v166 v176 v185 v186 v187 v188 v189 v190 v191 v192 v193 v194 v195 v196 v197 v198
        v199 cst_86 X3 X5 Q D KV T hq0 hd0 hq1 hd1 hq2 hd2 hq3 hd3 hq4 hd4 hq5 hd5 hq6 hd6 hq7 hd7 hX3 hX5 ⟨k, by omega⟩ (by dsimp only; omega) (by dsimp only; omega)
      (arg7.view.writes (Elt Ideal) G7 (state (F := Ideal) 𝒱 c bd i arg2 harg2 arg3 harg3 arg4 harg4 arg5 harg5 arg6 harg6 arg7 harg7 uSuf uPre v33 v42 v52 v61 v71 v80 v90 v99
        v109 v119 v128 v138 v147 v157 v166 v176 v185 v186 v187 v188 v189 v190 v191 v192 v193 v194 v195 v196 v197 v198
        v199 cst_86 X3 X5 G7 init k).2)
    dsimp only at p q
    rw [hs, h1]
    refine ⟨q, ?_⟩
    dsimp only
    rw [View.writes_append]
    refine p.trans (M2_congr fun s _ l hl => ?_)
    unfold grow
    have hl' : l < 128 * 8 := hl
    dsimp only
    split_ifs <;> first | rfl | omega

end trips

end Cert.Proof.KernelIdeal

end
-- ==== Proof.HeadsRun.lean ====
module

public import proofs.«01_k».proof.Proof.Heads
public import proofs.«01_k».proof.Proof.RunFirst
public import proofs.«01_k».proof.Proof.RunLater

/-!
The body's stores, head by head.
-/

@[expose] public section

set_option maxHeartbeats 4000000

noncomputable section

namespace Cert.Proof.KernelIdeal

open Idealize.ShloMosaic
open Cert.KernelIdeal Cert.KernelIdeal.Gen

variable {F : FTy → Type} [FloatOps F]

section body

variable (c : Dev nD) (i : grid0.Coords)
  (arg2 : Memref sig .tc .vmem S128x512 .bf16) (harg2 : arg2.IsWhole)
  (arg3 : Memref sig .tc .vmem S4096x1024 .bf16) (harg3 : arg3.IsWhole)
  (arg4 : Memref sig .tc .vmem S128x512 .bf16) (harg4 : arg4.IsWhole)
  (arg5 : Memref sig .tc .vmem S8x1x16x1x128 .f32) (harg5 : arg5.IsWhole)
  (arg6 : Memref sig .tc .vmem S128x512 .bf16) (harg6 : arg6.IsWhole)
  (arg7 : Memref sig .tc .vmem S4096x1024 .f32) (harg7 : arg7.IsWhole)
  (x2 : Vec F S128x512 .bf16) (x3 : Vec F S4096x1024 .bf16) (x4 : Vec F S128x512 .bf16)
  (x5 : Vec F S8x1x16x1x128 .f32)

/-- The word of the query block's number. -/
abbrev qWord (i : grid0.Coords) : BitVec 32 := BitVec.ofNat 32 (i 1).val

/-- Pair 0 of the query block. -/
abbrev qPair0 : Vec F S128x128 .bf16 :=
  arg2.view.readAt (Elt F) (Rect.unit (s := S128x512) ![0, 0] S128x128.size inb_S128x512_S128x128_0_0).toLoadRect (harg2.unread x2)
/-- Pair 0 of the output gradient's block. -/
abbrev dPair0 : Vec F S128x128 .bf16 :=
  arg4.view.readAt (Elt F) (Rect.unit (s := S128x512) ![0, 0] S128x128.size inb_S128x512_S128x128_0_0).toLoadRect (harg4.unread x4)
/-- Pair 1 of the query block. -/
abbrev qPair1 : Vec F S128x128 .bf16 :=
  arg2.view.readAt (Elt F) (Rect.unit (s := S128x512) ![0, 128] S128x128.size inb_S128x512_S128x128_0_128).toLoadRect (harg2.unread x2)
/-- Pair 1 of the output gradient's block. -/
abbrev dPair1 : Vec F S128x128 .bf16 :=
  arg4.view.readAt (Elt F) (Rect.unit (s := S128x512) ![0, 128] S128x128.size inb_S128x512_S128x128_0_128).toLoadRect (harg4.unread x4)
/-- Pair 2 of the query block. -/
abbrev qPair2 : Vec F S128x128 .bf16 :=
  arg2.view.readAt (Elt F) (Rect.unit (s := S128x512) ![0, 256] S128x128.size inb_S128x512_S128x128_0_256).toLoadRect (harg2.unread x2)
/-- Pair 2 of the output gradient's block. -/
abbrev dPair2 : Vec F S128x128 .bf16 :=
  arg4.view.readAt (Elt F) (Rect.unit (s := S128x512) ![0, 256] S128x128.size inb_S128x512_S128x128_0_256).toLoadRect (harg4.unread x4)
/-- Pair 3 of the query block. -/
abbrev qPair3 : Vec F S128x128 .bf16 :=
  arg2.view.readAt (Elt F) (Rect.unit (s := S128x512) ![0, 384] S128x128.size inb_S128x512_S128x128_0_384).toLoadRect (harg2.unread x2)
/-- Pair 3 of the output gradient's block. -/
abbrev dPair3 : Vec F S128x128 .bf16 :=
  arg4.view.readAt (Elt F) (Rect.unit (s := S128x512) ![0, 384] S128x128.size inb_S128x512_S128x128_0_384).toLoadRect (harg4.unread x4)

/-- What the loop begins with. -/
abbrev init0 : Carry F :=
  ((broadcast S128x1 (Scalar.ofBits .f32 0x00000000#32)), (broadcast S128x1 (Scalar.ofBits .f32 0x00000000#32)), (broadcast S128x1 (Scalar.ofBits .f32 0x00000000#32)), (broadcast S128x1 (Scalar.ofBits .f32 0x00000000#32)), (broadcast S128x1 (Scalar.ofBits .f32 0x00000000#32)), (broadcast S128x1 (Scalar.ofBits .f32 0x00000000#32)), (broadcast S128x1 (Scalar.ofBits .f32 0x00000000#32)), (broadcast S128x1 (Scalar.ofBits .f32 0x00000000#32)), (broadcast S128x128 (Scalar.ofBits .f32 0x00000000#32)), (broadcast S128x128 (Scalar.ofBits .f32 0x00000000#32)), (broadcast S128x128 (Scalar.ofBits .f32 0x00000000#32)), (broadcast S128x128 (Scalar.ofBits .f32 0x00000000#32)), (broadcast S128x128 (Scalar.ofBits .f32 0x00000000#32)), (broadcast S128x128 (Scalar.ofBits .f32 0x00000000#32)), (broadcast S128x128 (Scalar.ofBits .f32 0x00000000#32)), (broadcast S128x128 (Scalar.ofBits .f32 0x00000000#32)))

/-- What is carried and stored when the loop over the wholly earlier key blocks ends. -/
abbrev afterLoop (G7 : BufTy.Contents (Elt F) arg7.view.ty) : Carry F × Pieces F :=
  state (F := F) Variants.none c none i arg2 harg2 arg3 harg3 arg4 harg4 arg5 harg5 arg6 harg6 arg7 harg7 uSuf uPre
    (nfull (qWord i))
    (lowHalf (plainPair (qPair0 arg2 harg2 x2))) (lowHalf (turnedPair (qPair0 arg2 harg2 x2))) (lowHalf (plainPair (qPair1 arg2 harg2 x2))) (lowHalf (turnedPair (qPair1 arg2 harg2 x2))) (lowHalf (plainPair (qPair2 arg2 harg2 x2))) (lowHalf (turnedPair (qPair2 arg2 harg2 x2))) (lowHalf (plainPair (qPair3 arg2 harg2 x2))) (lowHalf (turnedPair (qPair3 arg2 harg2 x2)))
    (highHalf (turnedPair (dPair0 arg4 harg4 x4))) (highHalf (plainPair (dPair0 arg4 harg4 x4))) (highHalf (turnedPair (dPair1 arg4 harg4 x4))) (highHalf (plainPair (dPair1 arg4 harg4 x4))) (highHalf (turnedPair (dPair2 arg4 harg4 x4))) (highHalf (plainPair (dPair2 arg4 harg4 x4))) (highHalf (turnedPair (dPair3 arg4 harg4 x4))) (highHalf (plainPair (dPair3 arg4 harg4 x4)))
    (broadcast S128x1 (Scalar.ofBits .f32 0x00000000#32)) (broadcast S128x1 (Scalar.ofBits .f32 0x00000000#32)) (broadcast S128x1 (Scalar.ofBits .f32 0x00000000#32)) (broadcast S128x1 (Scalar.ofBits .f32 0x00000000#32)) (broadcast S128x1 (Scalar.ofBits .f32 0x00000000#32)) (broadcast S128x1 (Scalar.ofBits .f32 0x00000000#32)) (broadcast S128x1 (Scalar.ofBits .f32 0x00000000#32)) (broadcast S128x1 (Scalar.ofBits .f32 0x00000000#32))
    (broadcast S128x128 (Scalar.ofBits .f32 0x00000000#32)) (broadcast S128x128 (Scalar.ofBits .f32 0x00000000#32)) (broadcast S128x128 (Scalar.ofBits .f32 0x00000000#32)) (broadcast S128x128 (Scalar.ofBits .f32 0x00000000#32)) (broadcast S128x128 (Scalar.ofBits .f32 0x00000000#32)) (broadcast S128x128 (Scalar.ofBits .f32 0x00000000#32)) (Scalar.ofBits .f32 0x00000000#32)
    (harg3.unread x3) (harg5.unread x5) G7 init0 (k0_t1_loop i).trips

/-- The last block's store for one head, after the stores `L`. -/
abbrev lastStore (off : Fin 2 → ℕ) (inb : ∀ a, off a + S256x128.size a ≤ S4096x1024.size a)
    (off5 : Fin 5 → ℕ) (inb5 : ∀ a, off5 a + S1x1x1x1x128.size a ≤ S8x1x16x1x128.size a)
    (q d : FVec F S128x128 .bf16) (pre : FVec F S128x1 .f32) (B : BufTy.Contents (Elt F) arg7.view.ty) (L : Pieces F) :
    Pieces F :=
  ⟨Rect.unit (s := S4096x1024) off S256x128.size inb,
    bPay (masked (qWord i)) uSuf uPre q d
      (arg3.view.readAt (Elt F) (Rect.unit (s := S4096x1024) off S256x128.size inb).toLoadRect (harg3.unread x3))
      (arg5.view.readAt (Elt F) (Rect.unit (s := S8x1x16x1x128) off5 S1x1x1x1x128.size inb5).toLoadRect (harg5.unread x5))
      pre
      (arg7.view.readAt (Elt F) (Rect.unit (s := S4096x1024) off S256x128.size inb).toLoadRect (arg7.view.writes (Elt F) B L))⟩ :: L

/-- The query gradient of one head after the last block. -/
abbrev lastDq (off : Fin 2 → ℕ) (inb : ∀ a, off a + S256x128.size a ≤ S4096x1024.size a)
    (off5 : Fin 5 → ℕ) (inb5 : ∀ a, off5 a + S1x1x1x1x128.size a ≤ S8x1x16x1x128.size a)
    (q d : FVec F S128x128 .bf16) (pre : FVec F S128x1 .f32) (dq : FVec F S128x128 .f32) : FVec F S128x128 .f32 :=
  bDq (masked (qWord i)) uSuf uPre q d
    (arg3.view.readAt (Elt F) (Rect.unit (s := S4096x1024) off S256x128.size inb).toLoadRect (harg3.unread x3))
    (arg5.view.readAt (Elt F) (Rect.unit (s := S8x1x16x1x128) off5 S1x1x1x1x128.size inb5).toLoadRect (harg5.unread x5))
    pre dq

/-- The last block's eight stores after the stores `L`, the loop having carried `st`. -/
abbrev lastStores (st : Carry F) (B : BufTy.Contents (Elt F) arg7.view.ty) (L : Pieces F) : Pieces F :=
  lastStore i arg3 harg3 arg5 harg5 arg7 x3 x5 (k0_off40 i) (k0_off40_inb i) (k0_off48 i) (k0_off48_inb i)
    (lowHalf (turnedPair (qPair3 arg2 harg2 x2))) (highHalf (plainPair (dPair3 arg4 harg4 x4))) st.2.2.2.2.2.2.2.1 B (lastStore i arg3 harg3 arg5 harg5 arg7 x3 x5 (k0_off39 i) (k0_off39_inb i) (k0_off47 i) (k0_off47_inb i)
    (lowHalf (plainPair (qPair3 arg2 harg2 x2))) (highHalf (turnedPair (dPair3 arg4 harg4 x4))) st.2.2.2.2.2.2.1 B (lastStore i arg3 harg3 arg5 harg5 arg7 x3 x5 (k0_off38 i) (k0_off38_inb i) (k0_off46 i) (k0_off46_inb i)
    (lowHalf (turnedPair (qPair2 arg2 harg2 x2))) (highHalf (plainPair (dPair2 arg4 harg4 x4))) st.2.2.2.2.2.1 B (lastStore i arg3 harg3 arg5 harg5 arg7 x3 x5 (k0_off37 i) (k0_off37_inb i) (k0_off45 i) (k0_off45_inb i)
    (lowHalf (plainPair (qPair2 arg2 harg2 x2))) (highHalf (turnedPair (dPair2 arg4 harg4 x4))) st.2.2.2.2.1 B (lastStore i arg3 harg3 arg5 harg5 arg7 x3 x5 (k0_off36 i) (k0_off36_inb i) (k0_off44 i) (k0_off44_inb i)
    (lowHalf (turnedPair (qPair1 arg2 harg2 x2))) (highHalf (plainPair (dPair1 arg4 harg4 x4))) st.2.2.2.1 B (lastStore i arg3 harg3 arg5 harg5 arg7 x3 x5 (k0_off35 i) (k0_off35_inb i) (k0_off43 i) (k0_off43_inb i)
    (lowHalf (plainPair (qPair1 arg2 harg2 x2))) (highHalf (turnedPair (dPair1 arg4 harg4 x4))) st.2.2.1 B (lastStore i arg3 harg3 arg5 harg5 arg7 x3 x5 (k0_off34 i) (k0_off34_inb i) (k0_off42 i) (k0_off42_inb i)
    (lowHalf (turnedPair (qPair0 arg2 harg2 x2))) (highHalf (plainPair (dPair0 arg4 harg4 x4))) st.2.1 B (lastStore i arg3 harg3 arg5 harg5 arg7 x3 x5 (k0_off33 i) (k0_off33_inb i) (k0_off41 i) (k0_off41_inb i)
    (lowHalf (plainPair (qPair0 arg2 harg2 x2))) (highHalf (turnedPair (dPair0 arg4 harg4 x4))) st.1 B L)))))))

/-- The four stores into the query gradient, last first, the loop having carried `st`. -/
abbrev lastDqs (st : Carry F) : List (View.Piece (Elt F) S128x512 .bf16) :=
  [⟨Rect.unit (s := S128x512) ![0, 384] S128x128.size inb_S128x512_S128x128_0_384,
      pairOut (lastDq i arg3 harg3 arg5 harg5 x3 x5 (k0_off39 i) (k0_off39_inb i) (k0_off47 i) (k0_off47_inb i)
        (lowHalf (plainPair (qPair3 arg2 harg2 x2))) (highHalf (turnedPair (dPair3 arg4 harg4 x4))) st.2.2.2.2.2.2.1 st.2.2.2.2.2.2.2.2.2.2.2.2.2.2.1)
      (lastDq i arg3 harg3 arg5 harg5 x3 x5 (k0_off40 i) (k0_off40_inb i) (k0_off48 i) (k0_off48_inb i)
        (lowHalf (turnedPair (qPair3 arg2 harg2 x2))) (highHalf (plainPair (dPair3 arg4 harg4 x4))) st.2.2.2.2.2.2.2.1 st.2.2.2.2.2.2.2.2.2.2.2.2.2.2.2)⟩,
    ⟨Rect.unit (s := S128x512) ![0, 256] S128x128.size inb_S128x512_S128x128_0_256,
      pairOut (lastDq i arg3 harg3 arg5 harg5 x3 x5 (k0_off37 i) (k0_off37_inb i) (k0_off45 i) (k0_off45_inb i)
        (lowHalf (plainPair (qPair2 arg2 harg2 x2))) (highHalf (turnedPair (dPair2 arg4 harg4 x4))) st.2.2.2.2.1 st.2.2.2.2.2.2.2.2.2.2.2.2.1)
      (lastDq i arg3 harg3 arg5 harg5 x3 x5 (k0_off38 i) (k0_off38_inb i) (k0_off46 i) (k0_off46_inb i)
        (lowHalf (turnedPair (qPair2 arg2 harg2 x2))) (highHalf (plainPair (dPair2 arg4 harg4 x4))) st.2.2.2.2.2.1 st.2.2.2.2.2.2.2.2.2.2.2.2.2.1)⟩,
    ⟨Rect.unit (s := S128x512) ![0, 128] S128x128.size inb_S128x512_S128x128_0_128,
      pairOut (lastDq i arg3 harg3 arg5 harg5 x3 x5 (k0_off35 i) (k0_off35_inb i) (k0_off43 i) (k0_off43_inb i)
        (lowHalf (plainPair (qPair1 arg2 harg2 x2))) (highHalf (turnedPair (dPair1 arg4 harg4 x4))) st.2.2.1 st.2.2.2.2.2.2.2.2.2.2.1)
      (lastDq i arg3 harg3 arg5 harg5 x3 x5 (k0_off36 i) (k0_off36_inb i) (k0_off44 i) (k0_off44_inb i)
        (lowHalf (turnedPair (qPair1 arg2 harg2 x2))) (highHalf (plainPair (dPair1 arg4 harg4 x4))) st.2.2.2.1 st.2.2.2.2.2.2.2.2.2.2.2.1)⟩,
    ⟨Rect.unit (s := S128x512) ![0, 0] S128x128.size inb_S128x512_S128x128_0_0,
      pairOut (lastDq i arg3 harg3 arg5 harg5 x3 x5 (k0_off33 i) (k0_off33_inb i) (k0_off41 i) (k0_off41_inb i)
        (lowHalf (plainPair (qPair0 arg2 harg2 x2))) (highHalf (turnedPair (dPair0 arg4 harg4 x4))) st.1 st.2.2.2.2.2.2.2.2.1)
      (lastDq i arg3 harg3 arg5 harg5 x3 x5 (k0_off34 i) (k0_off34_inb i) (k0_off42 i) (k0_off42_inb i)
        (lowHalf (turnedPair (qPair0 arg2 harg2 x2))) (highHalf (plainPair (dPair0 arg4 harg4 x4))) st.2.1 st.2.2.2.2.2.2.2.2.2.1)⟩]

/-- The store that clears the accumulated gradient. -/
abbrev clear : Pieces F :=
  [⟨Rect.unit (s := S4096x1024) ![0, 0] S4096x1024.size inb_S4096x1024_S4096x1024_0_0,
    broadcast S4096x1024 (Scalar.ofBits .f32 0x00000000#32)⟩]

/-- The stores into the query gradient at a first block. -/
theorem runFirst_dq (hc : isFirst i) :
    (runFirst (F := F) c i arg2 harg2 arg3 harg3 arg4 harg4 arg5 harg5 arg6 harg6 arg7 harg7 hc x2 x3 x4 x5).1
      = lastDqs i arg2 harg2 arg3 harg3 arg4 harg4 arg5 harg5 x2 x3 x4 x5
          (afterLoop c i arg2 harg2 arg3 harg3 arg4 harg4 arg5 harg5 arg6 harg6 arg7 harg7 x2 x3 x4 x5 (arg7.view.writes (Elt F) arg7.view.junk clear)).1 := by
  unfold runFirst; rfl

/-- The stores into the key/value gradient at a first block. -/
theorem runFirst_dkv (hc : isFirst i) :
    (runFirst (F := F) c i arg2 harg2 arg3 harg3 arg4 harg4 arg5 harg5 arg6 harg6 arg7 harg7 hc x2 x3 x4 x5).2.1
      = lastStores i arg2 harg2 arg3 harg3 arg4 harg4 arg5 harg5 arg7 x2 x3 x4 x5
          (afterLoop c i arg2 harg2 arg3 harg3 arg4 harg4 arg5 harg5 arg6 harg6 arg7 harg7 x2 x3 x4 x5 (arg7.view.writes (Elt F) arg7.view.junk clear)).1
          arg7.view.junk
          ((afterLoop c i arg2 harg2 arg3 harg3 arg4 harg4 arg5 harg5 arg6 harg6 arg7 harg7 x2 x3 x4 x5 (arg7.view.writes (Elt F) arg7.view.junk clear)).2 ++ clear) := by
  unfold runFirst; rfl

/-- The stores into the query gradient at a later block. -/
theorem runLater_dq (hc : ¬ isFirst i) (x7 : Vec F S4096x1024 .f32) :
    (runLater (F := F) c i arg2 harg2 arg3 harg3 arg4 harg4 arg5 harg5 arg6 harg6 arg7 harg7 hc x2 x3 x4 x5 x7).1
      = lastDqs i arg2 harg2 arg3 harg3 arg4 harg4 arg5 harg5 x2 x3 x4 x5
          (afterLoop c i arg2 harg2 arg3 harg3 arg4 harg4 arg5 harg5 arg6 harg6 arg7 harg7 x2 x3 x4 x5 (harg7.unread x7)).1 := by
  unfold runLater; rfl

/-- The stores into the key/value gradient at a later block. -/
theorem runLater_dkv (hc : ¬ isFirst i) (x7 : Vec F S4096x1024 .f32) :
    (runLater (F := F) c i arg2 harg2 arg3 harg3 arg4 harg4 arg5 harg5 arg6 harg6 arg7 harg7 hc x2 x3 x4 x5 x7).2.1
      = lastStores i arg2 harg2 arg3 harg3 arg4 harg4 arg5 harg5 arg7 x2 x3 x4 x5
          (afterLoop c i arg2 harg2 arg3 harg3 arg4 harg4 arg5 harg5 arg6 harg6 arg7 harg7 x2 x3 x4 x5 (harg7.unread x7)).1
          (harg7.unread x7)
          (afterLoop c i arg2 harg2 arg3 harg3 arg4 harg4 arg5 harg5 arg6 harg6 arg7 harg7 x2 x3 x4 x5 (harg7.unread x7)).2 := by
  unfold runLater; rfl

end body

end Cert.Proof.KernelIdeal

end
-- ==== Proof.PointValue.lean ====
module

public import proofs.«01_k».proof.Proof.LoopValue
public import proofs.«01_k».proof.Proof.HeadsRun

/-!
One point of the grid over real numbers: the query gradient of its 128 queries, and what they add to the accumulated
key/value gradient.
-/

@[expose] public section

set_option maxHeartbeats 4000000

noncomputable section

namespace Cert.Proof.KernelIdeal

open Idealize.ShloMosaic
open Cert.KernelIdeal Cert.KernelIdeal.Gen
open Cert.Proof.RealMat Cert.Proof.Model
open scoped BigOperators

/-- A load of a pair of heads. -/
theorem readPair_M2 (v : View sig .tc .vmem S128x512 .bf16) (X : BufTy.Contents (Elt Ideal) v.ty) (f : ℕ → ℕ → ℝ)
    (hX : v.read (Elt Ideal) X = (M2 f : FVec Ideal S128x512 .bf16)) (p : ℕ)
    (inb : ∀ a, (![0, 128 * p] : Fin 2 → ℕ) a + S128x128.size a ≤ S128x512.size a) :
    v.readAt (Elt Ideal) (Rect.unit (s := S128x512) ![0, 128 * p] S128x128.size inb).toLoadRect X
      = (M2 (fun r l => f r (128 * p + l)) : FVec Ideal S128x128 .bf16) := by
  refine eq_M2 fun r l => ?_
  rw [View.readAt_apply, hX]
  show ((f (0 + 1 * r.val) (128 * p + 1 * l.val) : ℝ) : EReal) = _
  rw [one_mul, one_mul, zero_add]

section prep

variable (Q D : ℕ → ℕ → ℝ) (T p : ℕ) (x : Vec Ideal S128x128 .bf16)

/-- The even head's queries. -/
theorem qEven_M2 (hx : x = (M2 (fun r l => Q (T + r) (128 * p + l)) : FVec Ideal S128x128 .bf16)) (h : ℕ) (hh : h = 2 * p) :
    lowHalf (plainPair x) = (M2 (fun r l => qh Q h (T + r) l) : FVec Ideal S128x128 .bf16) := by
  rw [hx, plainPair_M2, lowHalf_M2]
  refine M2_congr fun r _ l _ => ?_
  unfold qh
  split_ifs
  · rw [hh]; congr 1; omega
  · rfl
/-- The odd head's queries. -/
theorem qOdd_M2 (hx : x = (M2 (fun r l => Q (T + r) (128 * p + l)) : FVec Ideal S128x128 .bf16)) (h : ℕ) (hh : h = 2 * p + 1) :
    lowHalf (turnedPair x) = (M2 (fun r l => qh Q h (T + r) l) : FVec Ideal S128x128 .bf16) := by
  rw [hx, turnedPair_M2, lowHalf_M2]
  refine M2_congr fun r _ l _ => ?_
  unfold qh
  split_ifs
  · rw [hh]; congr 1; omega
  · rfl
/-- The even head's gradient. -/
theorem dEven_M2 (hx : x = (M2 (fun r l => D (T + r) (128 * p + l)) : FVec Ideal S128x128 .bf16)) (h : ℕ) (hh : h = 2 * p) :
    highHalf (turnedPair x) = (M2 (fun r l => dh D h (T + r) l) : FVec Ideal S128x128 .bf16) := by
  rw [hx, turnedPair_M2, highHalf_M2]
  refine M2_congr fun r _ l hl => ?_
  unfold dh
  split_ifs
  · rw [hh]; congr 1; omega
  · rfl
/-- The odd head's gradient. -/
theorem dOdd_M2 (hx : x = (M2 (fun r l => D (T + r) (128 * p + l)) : FVec Ideal S128x128 .bf16)) (h : ℕ) (hh : h = 2 * p + 1) :
    highHalf (plainPair x) = (M2 (fun r l => dh D h (T + r) l) : FVec Ideal S128x128 .bf16) := by
  rw [hx, plainPair_M2, highHalf_M2]
  refine M2_congr fun r _ l hl => ?_
  unfold dh
  split_ifs
  · rw [hh]; congr 1; omega
  · rfl

end prep

/-- One pair's store into the query gradient. -/
theorem pair_M2 (Q D KV : ℕ → ℕ → ℝ) (T n p : ℕ) (a b : FVec Ideal S128x128 .f32)
    (ha : a = (M2 (fun r l => dqk Q D KV (2 * p) n (T + r) l) : FVec Ideal S128x128 .f32))
    (hb : b = (M2 (fun r l => dqk Q D KV (2 * p + 1) n (T + r) l) : FVec Ideal S128x128 .f32)) :
    pairOut a b = M2 (fun r l => dqk Q D KV ((128 * p + l) / 64) n (T + r) ((128 * p + l) % 64) * 0.125) := by
  rw [ha, hb, pairOut_M2]
  refine M2_congr fun r _ l hl => ?_
  congr 1
  split_ifs
  · congr 1 <;> omega
  · congr 1 <;> omega

/-- Four pairs' stores tile the query gradient. -/
theorem fourPairs_M2 (v : View sig .tc .vmem S128x512 .bf16) (B : BufTy.Contents (Elt Ideal) v.ty) (f : ℕ → ℕ → ℝ)
    (w0 w1 w2 w3 : Vec Ideal S128x128 .bf16)
    (h0 : w0 = (M2 (fun r l => f r (128 * 0 + l)) : FVec Ideal S128x128 .bf16))
    (h1 : w1 = (M2 (fun r l => f r (128 * 1 + l)) : FVec Ideal S128x128 .bf16))
    (h2 : w2 = (M2 (fun r l => f r (128 * 2 + l)) : FVec Ideal S128x128 .bf16))
    (h3 : w3 = (M2 (fun r l => f r (128 * 3 + l)) : FVec Ideal S128x128 .bf16)) :
    v.read (Elt Ideal) (v.writes (Elt Ideal) B
      [⟨Rect.unit (s := S128x512) ![0, 384] S128x128.size inb_S128x512_S128x128_0_384, w3⟩,
        ⟨Rect.unit (s := S128x512) ![0, 256] S128x128.size inb_S128x512_S128x128_0_256, w2⟩,
        ⟨Rect.unit (s := S128x512) ![0, 128] S128x128.size inb_S128x512_S128x128_0_128, w1⟩,
        ⟨Rect.unit (s := S128x512) ![0, 0] S128x128.size inb_S128x512_S128x128_0_0, w0⟩])
      = (M2 f : FVec Ideal S128x512 .bf16) := by
  refine eq_M2 fun r l => ?_
  by_cases c3 : 384 ≤ l.val
  · refine (View.read_writes_cons_unit_of_mem v B _ w3 _ (ValueIdx.ix2 r l)
      (ValueIdx.ix2 r (⟨l.val - 384, by have := l.isLt; omega⟩ : Fin 128)) rfl (fun a => ?_)).trans ?_
    · fin_cases a
      · show r.val = 0 + r.val; omega
      · show l.val = 384 + (l.val - 384); omega
    · rw [h3, M2_ix2]
      show ((f r.val (128 * 3 + (l.val - 384)) : ℝ) : EReal) = _
      rw [show 128 * 3 + (l.val - 384) = l.val by omega]
  refine (View.read_writes_cons_unit_of_not_mem v B _ w3 _ (ValueIdx.ix2 r l) rfl 1 (Or.inl (show l.val < 384 by omega))).trans ?_
  by_cases c2 : 256 ≤ l.val
  · refine (View.read_writes_cons_unit_of_mem v B _ w2 _ (ValueIdx.ix2 r l)
      (ValueIdx.ix2 r (⟨l.val - 256, by have := l.isLt; omega⟩ : Fin 128)) rfl (fun a => ?_)).trans ?_
    · fin_cases a
      · show r.val = 0 + r.val; omega
      · show l.val = 256 + (l.val - 256); omega
    · rw [h2, M2_ix2]
      show ((f r.val (128 * 2 + (l.val - 256)) : ℝ) : EReal) = _
      rw [show 128 * 2 + (l.val - 256) = l.val by omega]
  refine (View.read_writes_cons_unit_of_not_mem v B _ w2 _ (ValueIdx.ix2 r l) rfl 1 (Or.inl (show l.val < 256 by omega))).trans ?_
  by_cases c1 : 128 ≤ l.val
  · refine (View.read_writes_cons_unit_of_mem v B _ w1 _ (ValueIdx.ix2 r l)
      (ValueIdx.ix2 r (⟨l.val - 128, by have := l.isLt; omega⟩ : Fin 128)) rfl (fun a => ?_)).trans ?_
    · fin_cases a
      · show r.val = 0 + r.val; omega
      · show l.val = 128 + (l.val - 128); omega
    · rw [h1, M2_ix2]
      show ((f r.val (128 * 1 + (l.val - 128)) : ℝ) : EReal) = _
      rw [show 128 * 1 + (l.val - 128) = l.val by omega]
  refine (View.read_writes_cons_unit_of_not_mem v B _ w1 _ (ValueIdx.ix2 r l) rfl 1 (Or.inl (show l.val < 128 by omega))).trans ?_
  refine (View.read_writes_cons_unit_of_mem v B _ w0 _ (ValueIdx.ix2 r l)
    (ValueIdx.ix2 r (⟨l.val - 0, by have := l.isLt; omega⟩ : Fin 128)) rfl (fun a => ?_)).trans ?_
  · fin_cases a
    · show r.val = 0 + r.val; omega
    · show l.val = 0 + (l.val - 0); omega
  · rw [h0, M2_ix2]
    show ((f r.val (128 * 0 + (l.val - 0)) : ℝ) : EReal) = _
    rw [show 128 * 0 + (l.val - 0) = l.val by omega]

/-- Queries that come no later than a key give it nothing. -/
theorem cb_zero (Q D KV : ℕ → ℕ → ℝ) (T h s l : ℕ) (hs : T + 128 ≤ s + 1) : cb Q D KV T h s l = 0 := by
  unfold cb dzh dz wt
  rw [Finset.sum_eq_zero, Finset.sum_eq_zero, add_zero]
  · intro r hr
    rw [Finset.mem_range] at hr
    rw [if_neg (by omega), zero_mul]
  · intro r hr
    rw [Finset.mem_range] at hr
    rw [if_neg (by omega), zero_mul]

/-- Keys from a query on give it nothing. -/
theorem dqk_all (Q D KV : ℕ → ℕ → ℝ) (h n t l : ℕ) (hn : t ≤ n) (hn' : n ≤ 4096) :
    dqk Q D KV h n t l = dqk Q D KV h 4096 t l := by
  unfold dqk
  refine Finset.sum_subset (Finset.range_mono hn') fun s _ hs => ?_
  rw [Finset.mem_range] at hs
  unfold dzh dz
  rw [if_neg (by omega), zero_mul]

/-- The cleared gradient reads zeros. -/
theorem cleared (arg7 : Memref sig .tc .vmem S4096x1024 .f32) :
    arg7.view.read (Elt Ideal) (arg7.view.writes (Elt Ideal) arg7.view.junk clear)
      = (M2 (fun _ _ => 0) : FVec Ideal S4096x1024 .f32) := by
  refine eq_M2 fun s l => ?_
  refine (View.read_writes_cons_unit_of_mem arg7.view _ _ _ _ (ValueIdx.ix2 s l) (ValueIdx.ix2 s l) rfl (fun a => ?_)).trans ?_
  · fin_cases a
    · show s.val = 0 + s.val; omega
    · show l.val = 0 + l.val; omega
  · exact congrFun (broadcast_zero_M2 (n := 4096) (m := 1024)) _

section point

variable (c : Dev nD) (i : grid0.Coords)
  (arg2 : Memref sig .tc .vmem S128x512 .bf16) (harg2 : arg2.IsWhole)
  (arg3 : Memref sig .tc .vmem S4096x1024 .bf16) (harg3 : arg3.IsWhole)
  (arg4 : Memref sig .tc .vmem S128x512 .bf16) (harg4 : arg4.IsWhole)
  (arg5 : Memref sig .tc .vmem S8x1x16x1x128 .f32) (harg5 : arg5.IsWhole)
  (arg6 : Memref sig .tc .vmem S128x512 .bf16) (harg6 : arg6.IsWhole)
  (arg7 : Memref sig .tc .vmem S4096x1024 .f32) (harg7 : arg7.IsWhole)
  (x2 : Vec Ideal S128x512 .bf16) (x3 : Vec Ideal S4096x1024 .bf16) (x4 : Vec Ideal S128x512 .bf16)
  (x5 : Vec Ideal S8x1x16x1x128 .f32)
  (Q D KV : ℕ → ℕ → ℝ)
  (hx2 : x2 = (M2 (fun r l => Q (128 * (i 1).val + r) l) : FVec Ideal S128x512 .bf16))
  (hx3 : x3 = (M2 KV : FVec Ideal S4096x1024 .bf16))
  (hx4 : x4 = (M2 (fun r l => D (128 * (i 1).val + r) l) : FVec Ideal S128x512 .bf16))
  (hx5 : ∀ (h : Fin 8) (k : Fin 16) (r : Fin 128), x5 (ValueIdx.ix5 h 0 k 0 r)
    = ((rem (zh Q KV h.val) (128 * (i 1).val + r.val) (256 * k.val + 255) : ℝ) : EReal))

include hx2 in
theorem qPair0_M2 : qPair0 arg2 harg2 x2 = (M2 (fun r l => Q (128 * (i 1).val + r) (128 * 0 + l)) : FVec Ideal S128x128 .bf16) :=
  readPair_M2 arg2.view _ (fun r l => Q (128 * (i 1).val + r) l) ((harg2.read_unread x2).trans hx2) 0 inb_S128x512_S128x128_0_0
include hx4 in
theorem dPair0_M2 : dPair0 arg4 harg4 x4 = (M2 (fun r l => D (128 * (i 1).val + r) (128 * 0 + l)) : FVec Ideal S128x128 .bf16) :=
  readPair_M2 arg4.view _ (fun r l => D (128 * (i 1).val + r) l) ((harg4.read_unread x4).trans hx4) 0 inb_S128x512_S128x128_0_0
include hx2 in
theorem qPair1_M2 : qPair1 arg2 harg2 x2 = (M2 (fun r l => Q (128 * (i 1).val + r) (128 * 1 + l)) : FVec Ideal S128x128 .bf16) :=
  readPair_M2 arg2.view _ (fun r l => Q (128 * (i 1).val + r) l) ((harg2.read_unread x2).trans hx2) 1 inb_S128x512_S128x128_0_128
include hx4 in
theorem dPair1_M2 : dPair1 arg4 harg4 x4 = (M2 (fun r l => D (128 * (i 1).val + r) (128 * 1 + l)) : FVec Ideal S128x128 .bf16) :=
  readPair_M2 arg4.view _ (fun r l => D (128 * (i 1).val + r) l) ((harg4.read_unread x4).trans hx4) 1 inb_S128x512_S128x128_0_128
include hx2 in
theorem qPair2_M2 : qPair2 arg2 harg2 x2 = (M2 (fun r l => Q (128 * (i 1).val + r) (128 * 2 + l)) : FVec Ideal S128x128 .bf16) :=
  readPair_M2 arg2.view _ (fun r l => Q (128 * (i 1).val + r) l) ((harg2.read_unread x2).trans hx2) 2 inb_S128x512_S128x128_0_256
include hx4 in
theorem dPair2_M2 : dPair2 arg4 harg4 x4 = (M2 (fun r l => D (128 * (i 1).val + r) (128 * 2 + l)) : FVec Ideal S128x128 .bf16) :=
  readPair_M2 arg4.view _ (fun r l => D (128 * (i 1).val + r) l) ((harg4.read_unread x4).trans hx4) 2 inb_S128x512_S128x128_0_256
include hx2 in
theorem qPair3_M2 : qPair3 arg2 harg2 x2 = (M2 (fun r l => Q (128 * (i 1).val + r) (128 * 3 + l)) : FVec Ideal S128x128 .bf16) :=
  readPair_M2 arg2.view _ (fun r l => Q (128 * (i 1).val + r) l) ((harg2.read_unread x2).trans hx2) 3 inb_S128x512_S128x128_0_384
include hx4 in
theorem dPair3_M2 : dPair3 arg4 harg4 x4 = (M2 (fun r l => D (128 * (i 1).val + r) (128 * 3 + l)) : FVec Ideal S128x128 .bf16) :=
  readPair_M2 arg4.view _ (fun r l => D (128 * (i 1).val + r) l) ((harg4.read_unread x4).trans hx4) 3 inb_S128x512_S128x128_0_384

include hx2 in
theorem q0_M2 : lowHalf (plainPair (qPair0 arg2 harg2 x2)) = (M2 (fun r l => qh Q 0 (128 * (i 1).val + r) l) : FVec Ideal S128x128 .bf16) :=
  qEven_M2 Q _ 0 _ (qPair0_M2 i arg2 harg2 x2 Q hx2) 0 rfl
include hx4 in
theorem d0_M2 : highHalf (turnedPair (dPair0 arg4 harg4 x4)) = (M2 (fun r l => dh D 0 (128 * (i 1).val + r) l) : FVec Ideal S128x128 .bf16) :=
  dEven_M2 D _ 0 _ (dPair0_M2 i arg4 harg4 x4 D hx4) 0 rfl
include hx2 in
theorem q1_M2 : lowHalf (turnedPair (qPair0 arg2 harg2 x2)) = (M2 (fun r l => qh Q 1 (128 * (i 1).val + r) l) : FVec Ideal S128x128 .bf16) :=
  qOdd_M2 Q _ 0 _ (qPair0_M2 i arg2 harg2 x2 Q hx2) 1 rfl
include hx4 in
theorem d1_M2 : highHalf (plainPair (dPair0 arg4 harg4 x4)) = (M2 (fun r l => dh D 1 (128 * (i 1).val + r) l) : FVec Ideal S128x128 .bf16) :=
  dOdd_M2 D _ 0 _ (dPair0_M2 i arg4 harg4 x4 D hx4) 1 rfl
include hx2 in
theorem q2_M2 : lowHalf (plainPair (qPair1 arg2 harg2 x2)) = (M2 (fun r l => qh Q 2 (128 * (i 1).val + r) l) : FVec Ideal S128x128 .bf16) :=
  qEven_M2 Q _ 1 _ (qPair1_M2 i arg2 harg2 x2 Q hx2) 2 rfl
include hx4 in
theorem d2_M2 : highHalf (turnedPair (dPair1 arg4 harg4 x4)) = (M2 (fun r l => dh D 2 (128 * (i 1).val + r) l) : FVec Ideal S128x128 .bf16) :=
  dEven_M2 D _ 1 _ (dPair1_M2 i arg4 harg4 x4 D hx4) 2 rfl
include hx2 in
theorem q3_M2 : lowHalf (turnedPair (qPair1 arg2 harg2 x2)) = (M2 (fun r l => qh Q 3 (128 * (i 1).val + r) l) : FVec Ideal S128x128 .bf16) :=
  qOdd_M2 Q _ 1 _ (qPair1_M2 i arg2 harg2 x2 Q hx2) 3 rfl
include hx4 in
theorem d3_M2 : highHalf (plainPair (dPair1 arg4 harg4 x4)) = (M2 (fun r l => dh D 3 (128 * (i 1).val + r) l) : FVec Ideal S128x128 .bf16) :=
  dOdd_M2 D _ 1 _ (dPair1_M2 i arg4 harg4 x4 D hx4) 3 rfl
include hx2 in
theorem q4_M2 : lowHalf (plainPair (qPair2 arg2 harg2 x2)) = (M2 (fun r l => qh Q 4 (128 * (i 1).val + r) l) : FVec Ideal S128x128 .bf16) :=
  qEven_M2 Q _ 2 _ (qPair2_M2 i arg2 harg2 x2 Q hx2) 4 rfl
include hx4 in
theorem d4_M2 : highHalf (turnedPair (dPair2 arg4 harg4 x4)) = (M2 (fun r l => dh D 4 (128 * (i 1).val + r) l) : FVec Ideal S128x128 .bf16) :=
  dEven_M2 D _ 2 _ (dPair2_M2 i arg4 harg4 x4 D hx4) 4 rfl
include hx2 in
theorem q5_M2 : lowHalf (turnedPair (qPair2 arg2 harg2 x2)) = (M2 (fun r l => qh Q 5 (128 * (i 1).val + r) l) : FVec Ideal S128x128 .bf16) :=
  qOdd_M2 Q _ 2 _ (qPair2_M2 i arg2 harg2 x2 Q hx2) 5 rfl
include hx4 in
theorem d5_M2 : highHalf (plainPair (dPair2 arg4 harg4 x4)) = (M2 (fun r l => dh D 5 (128 * (i 1).val + r) l) : FVec Ideal S128x128 .bf16) :=
  dOdd_M2 D _ 2 _ (dPair2_M2 i arg4 harg4 x4 D hx4) 5 rfl
include hx2 in
theorem q6_M2 : lowHalf (plainPair (qPair3 arg2 harg2 x2)) = (M2 (fun r l => qh Q 6 (128 * (i 1).val + r) l) : FVec Ideal S128x128 .bf16) :=
  qEven_M2 Q _ 3 _ (qPair3_M2 i arg2 harg2 x2 Q hx2) 6 rfl
include hx4 in
theorem d6_M2 : highHalf (turnedPair (dPair3 arg4 harg4 x4)) = (M2 (fun r l => dh D 6 (128 * (i 1).val + r) l) : FVec Ideal S128x128 .bf16) :=
  dEven_M2 D _ 3 _ (dPair3_M2 i arg4 harg4 x4 D hx4) 6 rfl
include hx2 in
theorem q7_M2 : lowHalf (turnedPair (qPair3 arg2 harg2 x2)) = (M2 (fun r l => qh Q 7 (128 * (i 1).val + r) l) : FVec Ideal S128x128 .bf16) :=
  qOdd_M2 Q _ 3 _ (qPair3_M2 i arg2 harg2 x2 Q hx2) 7 rfl
include hx4 in
theorem d7_M2 : highHalf (plainPair (dPair3 arg4 harg4 x4)) = (M2 (fun r l => dh D 7 (128 * (i 1).val + r) l) : FVec Ideal S128x128 .bf16) :=
  dOdd_M2 D _ 3 _ (dPair3_M2 i arg4 harg4 x4 D hx4) 7 rfl

omit hx2 hx3 hx4 hx5 in
/-- The loop begins with zeros. -/
theorem init0_M2 (T : ℕ) : (init0 : Carry Ideal) = carryAt Q D KV T 0 := by
  have h1 : ∀ h, (broadcast S128x1 (Scalar.ofBits (F := Ideal) .f32 0x00000000#32) : FVec Ideal S128x1 .f32)
      = M2 (fun r _ => pfx (zh Q KV h) (wh D KV h) (T + r) 0) := fun h => broadcast_zero_M2
  have h2 : ∀ h, (broadcast S128x128 (Scalar.ofBits (F := Ideal) .f32 0x00000000#32) : FVec Ideal S128x128 .f32)
      = M2 (fun r l => dqk Q D KV h 0 (T + r) l) := fun h => broadcast_zero_M2
  refine congrArg₂ Prod.mk (h1 0) ?_
  refine congrArg₂ Prod.mk (h1 1) ?_
  refine congrArg₂ Prod.mk (h1 2) ?_
  refine congrArg₂ Prod.mk (h1 3) ?_
  refine congrArg₂ Prod.mk (h1 4) ?_
  refine congrArg₂ Prod.mk (h1 5) ?_
  refine congrArg₂ Prod.mk (h1 6) ?_
  refine congrArg₂ Prod.mk (h1 7) ?_
  refine congrArg₂ Prod.mk (h2 0) ?_
  refine congrArg₂ Prod.mk (h2 1) ?_
  refine congrArg₂ Prod.mk (h2 2) ?_
  refine congrArg₂ Prod.mk (h2 3) ?_
  refine congrArg₂ Prod.mk (h2 4) ?_
  refine congrArg₂ Prod.mk (h2 5) ?_
  refine congrArg₂ Prod.mk (h2 6) ?_
  exact h2 7

include hx2 hx3 hx4 hx5

/-- When the loop ends. -/
theorem afterLoop_M2 (G7 : BufTy.Contents (Elt Ideal) arg7.view.ty) (g : ℕ → ℕ → ℝ)
    (hG : arg7.view.read (Elt Ideal) G7 = (M2 g : FVec Ideal S4096x1024 .f32)) :
    (afterLoop c i arg2 harg2 arg3 harg3 arg4 harg4 arg5 harg5 arg6 harg6 arg7 harg7 x2 x3 x4 x5 G7).1 = carryAt Q D KV (128 * (i 1).val) (256 * ((i 1).val / 2))
    ∧ arg7.view.read (Elt Ideal) (arg7.view.writes (Elt Ideal) G7 (afterLoop c i arg2 harg2 arg3 harg3 arg4 harg4 arg5 harg5 arg6 harg6 arg7 harg7 x2 x3 x4 x5 G7).2)
      = (M2 (fun s l => if s < 256 * ((i 1).val / 2) then g s l + cb Q D KV (128 * (i 1).val) (l / 128) s (l % 128) else g s l) : FVec Ideal S4096x1024 .f32) := by
  have hi : (i 1).val < 32 := (i 1).isLt
  have ht := trips_eq i
  have := state_M2 Variants.none c none i arg2 harg2 arg3 harg3 arg4 harg4 arg5 harg5 arg6 harg6 arg7 harg7 (nfull (qWord i))
      _ _ _ _ _ _ _ _ _ _ _ _ _ _ _ _
      (broadcast S128x1 (Scalar.ofBits .f32 0x00000000#32)) (broadcast S128x1 (Scalar.ofBits .f32 0x00000000#32)) (broadcast S128x1 (Scalar.ofBits .f32 0x00000000#32)) (broadcast S128x1 (Scalar.ofBits .f32 0x00000000#32)) (broadcast S128x1 (Scalar.ofBits .f32 0x00000000#32)) (broadcast S128x1 (Scalar.ofBits .f32 0x00000000#32)) (broadcast S128x1 (Scalar.ofBits .f32 0x00000000#32)) (broadcast S128x1 (Scalar.ofBits .f32 0x00000000#32)) (broadcast S128x128 (Scalar.ofBits .f32 0x00000000#32)) (broadcast S128x128 (Scalar.ofBits .f32 0x00000000#32)) (broadcast S128x128 (Scalar.ofBits .f32 0x00000000#32)) (broadcast S128x128 (Scalar.ofBits .f32 0x00000000#32)) (broadcast S128x128 (Scalar.ofBits .f32 0x00000000#32)) (broadcast S128x128 (Scalar.ofBits .f32 0x00000000#32)) (Scalar.ofBits .f32 0x00000000#32) (harg3.unread x3) (harg5.unread x5) G7 init0 Q D KV (128 * (i 1).val)
      (q0_M2 i arg2 harg2 x2 Q hx2) (d0_M2 i arg4 harg4 x4 D hx4)
      (q1_M2 i arg2 harg2 x2 Q hx2) (d1_M2 i arg4 harg4 x4 D hx4)
      (q2_M2 i arg2 harg2 x2 Q hx2) (d2_M2 i arg4 harg4 x4 D hx4)
      (q3_M2 i arg2 harg2 x2 Q hx2) (d3_M2 i arg4 harg4 x4 D hx4)
      (q4_M2 i arg2 harg2 x2 Q hx2) (d4_M2 i arg4 harg4 x4 D hx4)
      (q5_M2 i arg2 harg2 x2 Q hx2) (d5_M2 i arg4 harg4 x4 D hx4)
      (q6_M2 i arg2 harg2 x2 Q hx2) (d6_M2 i arg4 harg4 x4 D hx4)
      (q7_M2 i arg2 harg2 x2 Q hx2) (d7_M2 i arg4 harg4 x4 D hx4)
      ((harg3.read_unread x3).trans hx3) (fun h k r => by rw [harg5.read_unread x5]; exact hx5 h k r)
      g hG (init0_M2 Q D KV _) (by omega) (by omega) (k0_t1_loop i).trips le_rfl
  rw [ht] at this
  rw [afterLoop, ht]
  exact this

/-- The last block's stores. -/
theorem lastStores_M2 (B : BufTy.Contents (Elt Ideal) arg7.view.ty) (L : Pieces Ideal) (g : ℕ → ℕ → ℝ)
    (hL : arg7.view.read (Elt Ideal) (arg7.view.writes (Elt Ideal) B L) = (M2 g : FVec Ideal S4096x1024 .f32)) :
    arg7.view.read (Elt Ideal) (arg7.view.writes (Elt Ideal) B
      (lastStores i arg2 harg2 arg3 harg3 arg4 harg4 arg5 harg5 arg7 x2 x3 x4 x5
        (carryAt Q D KV (128 * (i 1).val) (256 * ((i 1).val / 2))) B L))
      = (M2 (grow (256 * ((i 1).val / 2)) (cb Q D KV (128 * (i 1).val)) 8 g) : FVec Ideal S4096x1024 .f32) := by
  have hi : (i 1).val < 32 := (i 1).isLt
  have hS : 256 * ((i 1).val / 2) + 256 ≤ 4096 := by omega
  have hX3 := (harg3.read_unread x3).trans hx3
  have hX5 : ∀ (h : Fin 8) (k : Fin 16) (r : Fin 128), arg5.view.read (Elt Ideal) (harg5.unread x5) (ValueIdx.ix5 h 0 k 0 r)
      = ((rem (zh Q KV h.val) (128 * (i 1).val + r.val) (256 * k.val + 255) : ℝ) : EReal) :=
    fun h k r => by rw [harg5.read_unread x5]; exact hx5 h k r
  have step : ∀ (h : ℕ) (L : Pieces Ideal) (off : Fin 2 → ℕ) (inb : ∀ a, off a + S256x128.size a ≤ S4096x1024.size a)
      (off5 : Fin 5 → ℕ) (inb5 : ∀ a, off5 a + S1x1x1x1x128.size a ≤ S8x1x16x1x128.size a)
      (ho : off = ![256 * ((i 1).val / 2), 128 * h]) (ho5 : off5 = ![h, 0, (i 1).val / 2, 0, 0])
      (q d : FVec Ideal S128x128 .bf16) (pre : FVec Ideal S128x1 .f32)
      (hq : q = (M2 (fun r l => qh Q h (128 * (i 1).val + r) l) : FVec Ideal S128x128 .bf16))
      (hd : d = (M2 (fun r l => dh D h (128 * (i 1).val + r) l) : FVec Ideal S128x128 .bf16))
      (hpre : pre = (M2 (fun r _ => pfx (zh Q KV h) (wh D KV h) (128 * (i 1).val + r) (256 * ((i 1).val / 2))) : FVec Ideal S128x1 .f32))
      (hL : arg7.view.read (Elt Ideal) (arg7.view.writes (Elt Ideal) B L)
        = (M2 (grow (256 * ((i 1).val / 2)) (cb Q D KV (128 * (i 1).val)) h g) : FVec Ideal S4096x1024 .f32)),
      arg7.view.read (Elt Ideal) (arg7.view.writes (Elt Ideal) B
        (lastStore i arg3 harg3 arg5 harg5 arg7 x3 x5 off inb off5 inb5 q d pre B L))
        = (M2 (grow (256 * ((i 1).val / 2)) (cb Q D KV (128 * (i 1).val)) (h + 1) g) : FVec Ideal S4096x1024 .f32) := by
    intro h L off inb off5 inb5 ho ho5 q d pre hq hd hpre hL
    refine store_M2 arg7.view B L _ h (cb Q D KV (128 * (i 1).val)) g off inb ho _ hL
      (head_pay Q D KV (masked (qWord i)) (128 * (i 1).val) (256 * ((i 1).val / 2)) h (masked_M2 (i 1)) hS q d _ _ pre hq hd
        (readKv_M2 arg3.view _ KV hX3 _ h _ _ ho)
        (readRc arg5.view _ (fun h k r => rem (zh Q KV h) (128 * (i 1).val + r) (256 * k + 255)) hX5 h ((i 1).val / 2) _ _ ho5) hpre g _
        ((readAcc_M2 arg7.view _ _ hL _ h _ _ ho).trans (M2_congr fun c _ l _ => ?_)))
    unfold grow; exact if_neg (by omega)
  refine step 7 _ (k0_off40 i) (k0_off40_inb i) (k0_off48 i) (k0_off48_inb i) (off40_eq i) (off48_eq i) _ _ _
    (q7_M2 i arg2 harg2 x2 Q hx2) (d7_M2 i arg4 harg4 x4 D hx4) rfl ?_
  refine step 6 _ (k0_off39 i) (k0_off39_inb i) (k0_off47 i) (k0_off47_inb i) (off39_eq i) (off47_eq i) _ _ _
    (q6_M2 i arg2 harg2 x2 Q hx2) (d6_M2 i arg4 harg4 x4 D hx4) rfl ?_
  refine step 5 _ (k0_off38 i) (k0_off38_inb i) (k0_off46 i) (k0_off46_inb i) (off38_eq i) (off46_eq i) _ _ _
    (q5_M2 i arg2 harg2 x2 Q hx2) (d5_M2 i arg4 harg4 x4 D hx4) rfl ?_
  refine step 4 _ (k0_off37 i) (k0_off37_inb i) (k0_off45 i) (k0_off45_inb i) (off37_eq i) (off45_eq i) _ _ _
    (q4_M2 i arg2 harg2 x2 Q hx2) (d4_M2 i arg4 harg4 x4 D hx4) rfl ?_
  refine step 3 _ (k0_off36 i) (k0_off36_inb i) (k0_off44 i) (k0_off44_inb i) (off36_eq i) (off44_eq i) _ _ _
    (q3_M2 i arg2 harg2 x2 Q hx2) (d3_M2 i arg4 harg4 x4 D hx4) rfl ?_
  refine step 2 _ (k0_off35 i) (k0_off35_inb i) (k0_off43 i) (k0_off43_inb i) (off35_eq i) (off43_eq i) _ _ _
    (q2_M2 i arg2 harg2 x2 Q hx2) (d2_M2 i arg4 harg4 x4 D hx4) rfl ?_
  refine step 1 _ (k0_off34 i) (k0_off34_inb i) (k0_off42 i) (k0_off42_inb i) (off34_eq i) (off42_eq i) _ _ _
    (q1_M2 i arg2 harg2 x2 Q hx2) (d1_M2 i arg4 harg4 x4 D hx4) rfl ?_
  refine step 0 _ (k0_off33 i) (k0_off33_inb i) (k0_off41 i) (k0_off41_inb i) (off33_eq i) (off41_eq i) _ _ _
    (q0_M2 i arg2 harg2 x2 Q hx2) (d0_M2 i arg4 harg4 x4 D hx4) rfl ?_
  rw [grow_zero]; exact hL

/-- The stores into the query gradient. -/
theorem lastDqs_M2 (v : View sig .tc .vmem S128x512 .bf16) (B : BufTy.Contents (Elt Ideal) v.ty) :
    v.read (Elt Ideal) (v.writes (Elt Ideal) B
      (lastDqs i arg2 harg2 arg3 harg3 arg4 harg4 arg5 harg5 x2 x3 x4 x5
        (carryAt Q D KV (128 * (i 1).val) (256 * ((i 1).val / 2)))))
      = (M2 (fun r l => dqk Q D KV (l / 64) 4096 (128 * (i 1).val + r) (l % 64) * 0.125) : FVec Ideal S128x512 .bf16) := by
  have hi : (i 1).val < 32 := (i 1).isLt
  have hS : 256 * ((i 1).val / 2) + 256 ≤ 4096 := by omega
  have hX3 := (harg3.read_unread x3).trans hx3
  have hX5 : ∀ (h : Fin 8) (k : Fin 16) (r : Fin 128), arg5.view.read (Elt Ideal) (harg5.unread x5) (ValueIdx.ix5 h 0 k 0 r)
      = ((rem (zh Q KV h.val) (128 * (i 1).val + r.val) (256 * k.val + 255) : ℝ) : EReal) :=
    fun h k r => by rw [harg5.read_unread x5]; exact hx5 h k r
  have step : ∀ (h : ℕ) (off : Fin 2 → ℕ) (inb : ∀ a, off a + S256x128.size a ≤ S4096x1024.size a)
      (off5 : Fin 5 → ℕ) (inb5 : ∀ a, off5 a + S1x1x1x1x128.size a ≤ S8x1x16x1x128.size a)
      (ho : off = ![256 * ((i 1).val / 2), 128 * h]) (ho5 : off5 = ![h, 0, (i 1).val / 2, 0, 0])
      (q d : FVec Ideal S128x128 .bf16) (pre : FVec Ideal S128x1 .f32) (dq : FVec Ideal S128x128 .f32)
      (hq : q = (M2 (fun r l => qh Q h (128 * (i 1).val + r) l) : FVec Ideal S128x128 .bf16))
      (hd : d = (M2 (fun r l => dh D h (128 * (i 1).val + r) l) : FVec Ideal S128x128 .bf16))
      (hpre : pre = (M2 (fun r _ => pfx (zh Q KV h) (wh D KV h) (128 * (i 1).val + r) (256 * ((i 1).val / 2))) : FVec Ideal S128x1 .f32))
      (hdq : dq = (M2 (fun r l => dqk Q D KV h (256 * ((i 1).val / 2)) (128 * (i 1).val + r) l) : FVec Ideal S128x128 .f32)),
      lastDq i arg3 harg3 arg5 harg5 x3 x5 off inb off5 inb5 q d pre dq
        = (M2 (fun r l => dqk Q D KV h (256 * ((i 1).val / 2) + 256) (128 * (i 1).val + r) l) : FVec Ideal S128x128 .f32) := by
    intro h off inb off5 inb5 ho ho5 q d pre dq hq hd hpre hdq
    exact head_dq Q D KV (masked (qWord i)) (128 * (i 1).val) (256 * ((i 1).val / 2)) h (masked_M2 (i 1)) hS q d _ _ pre hq hd
        (readKv_M2 arg3.view _ KV hX3 _ h _ _ ho)
        (readRc arg5.view _ (fun h k r => rem (zh Q KV h) (128 * (i 1).val + r) (256 * k + 255)) hX5 h ((i 1).val / 2) _ _ ho5) hpre dq hdq
  refine (fourPairs_M2 v B (fun r l => dqk Q D KV (l / 64) (256 * ((i 1).val / 2) + 256) (128 * (i 1).val + r) (l % 64) * 0.125) _ _ _ _
    (pair_M2 Q D KV _ _ 0 _ _ (step 0 (k0_off33 i) (k0_off33_inb i) (k0_off41 i) (k0_off41_inb i) (off33_eq i) (off41_eq i) _ _ _ _ (q0_M2 i arg2 harg2 x2 Q hx2) (d0_M2 i arg4 harg4 x4 D hx4) rfl rfl)
      (step 1 (k0_off34 i) (k0_off34_inb i) (k0_off42 i) (k0_off42_inb i) (off34_eq i) (off42_eq i) _ _ _ _ (q1_M2 i arg2 harg2 x2 Q hx2) (d1_M2 i arg4 harg4 x4 D hx4) rfl rfl))
    (pair_M2 Q D KV _ _ 1 _ _ (step 2 (k0_off35 i) (k0_off35_inb i) (k0_off43 i) (k0_off43_inb i) (off35_eq i) (off43_eq i) _ _ _ _ (q2_M2 i arg2 harg2 x2 Q hx2) (d2_M2 i arg4 harg4 x4 D hx4) rfl rfl)
      (step 3 (k0_off36 i) (k0_off36_inb i) (k0_off44 i) (k0_off44_inb i) (off36_eq i) (off44_eq i) _ _ _ _ (q3_M2 i arg2 harg2 x2 Q hx2) (d3_M2 i arg4 harg4 x4 D hx4) rfl rfl))
    (pair_M2 Q D KV _ _ 2 _ _ (step 4 (k0_off37 i) (k0_off37_inb i) (k0_off45 i) (k0_off45_inb i) (off37_eq i) (off45_eq i) _ _ _ _ (q4_M2 i arg2 harg2 x2 Q hx2) (d4_M2 i arg4 harg4 x4 D hx4) rfl rfl)
      (step 5 (k0_off38 i) (k0_off38_inb i) (k0_off46 i) (k0_off46_inb i) (off38_eq i) (off46_eq i) _ _ _ _ (q5_M2 i arg2 harg2 x2 Q hx2) (d5_M2 i arg4 harg4 x4 D hx4) rfl rfl))
    (pair_M2 Q D KV _ _ 3 _ _ (step 6 (k0_off39 i) (k0_off39_inb i) (k0_off47 i) (k0_off47_inb i) (off39_eq i) (off47_eq i) _ _ _ _ (q6_M2 i arg2 harg2 x2 Q hx2) (d6_M2 i arg4 harg4 x4 D hx4) rfl rfl)
      (step 7 (k0_off40 i) (k0_off40_inb i) (k0_off48 i) (k0_off48_inb i) (off40_eq i) (off48_eq i) _ _ _ _ (q7_M2 i arg2 harg2 x2 Q hx2) (d7_M2 i arg4 harg4 x4 D hx4) rfl rfl))
    ).trans (M2_congr fun r hr l _ => ?_)
  rw [dqk_all _ _ _ _ _ _ _ (by omega) hS]

omit hx2 hx3 hx4 hx5 in
/-- The loop's part and the last block's part together. -/
theorem both_parts (g : ℕ → ℕ → ℝ) :
    (M2 (grow (256 * ((i 1).val / 2)) (cb Q D KV (128 * (i 1).val)) 8
      (fun s l => if s < 256 * ((i 1).val / 2) then g s l + cb Q D KV (128 * (i 1).val) (l / 128) s (l % 128) else g s l)) : FVec Ideal S4096x1024 .f32)
      = M2 (fun s l => g s l + cb Q D KV (128 * (i 1).val) (l / 128) s (l % 128)) :=
  M2_congr fun s _ l hl => by
    unfold grow
    dsimp only
    by_cases hs : s < 256 * ((i 1).val / 2) + 256
    · split_ifs <;> first | rfl | omega
    · simp only [cb_zero Q D KV (128 * (i 1).val) (l / 128) s (l % 128) (by omega), add_zero, ite_self]

/-- The query gradient after a first point. -/
theorem first_dq_M2 (hc : isFirst i) (v : View sig .tc .vmem S128x512 .bf16) (B : BufTy.Contents (Elt Ideal) v.ty) :
    v.read (Elt Ideal) (v.writes (Elt Ideal) B
      (runFirst (F := Ideal) c i arg2 harg2 arg3 harg3 arg4 harg4 arg5 harg5 arg6 harg6 arg7 harg7 hc x2 x3 x4 x5).1)
      = (M2 (fun r l => dqk Q D KV (l / 64) 4096 (128 * (i 1).val + r) (l % 64) * 0.125) : FVec Ideal S128x512 .bf16) := by
  rw [runFirst_dq, (afterLoop_M2 c i arg2 harg2 arg3 harg3 arg4 harg4 arg5 harg5 arg6 harg6 arg7 harg7 x2 x3 x4 x5 Q D KV hx2 hx3 hx4 hx5 _ (fun _ _ => 0) (cleared arg7)).1]
  exact lastDqs_M2 i arg2 harg2 arg3 harg3 arg4 harg4 arg5 harg5 x2 x3 x4 x5 Q D KV hx2 hx3 hx4 hx5 v B

/-- The key/value gradient after a first point. -/
theorem first_dkv_M2 (hc : isFirst i) :
    arg7.view.read (Elt Ideal) (arg7.view.writes (Elt Ideal) arg7.view.junk
      (runFirst (F := Ideal) c i arg2 harg2 arg3 harg3 arg4 harg4 arg5 harg5 arg6 harg6 arg7 harg7 hc x2 x3 x4 x5).2.1)
      = (M2 (fun s l => 0 + cb Q D KV (128 * (i 1).val) (l / 128) s (l % 128)) : FVec Ideal S4096x1024 .f32) := by
  have h := afterLoop_M2 c i arg2 harg2 arg3 harg3 arg4 harg4 arg5 harg5 arg6 harg6 arg7 harg7 x2 x3 x4 x5 Q D KV hx2 hx3 hx4 hx5 _ (fun _ _ => 0) (cleared arg7)
  rw [runFirst_dkv, h.1, ← both_parts i Q D KV (fun _ _ => 0)]
  refine lastStores_M2 i arg2 harg2 arg3 harg3 arg4 harg4 arg5 harg5 arg7 x2 x3 x4 x5 Q D KV hx2 hx3 hx4 hx5 _ _ _ ?_
  rw [View.writes_append]; exact h.2

/-- The query gradient after a later point. -/
theorem later_dq_M2 (hc : ¬ isFirst i) (x7 : Vec Ideal S4096x1024 .f32) (g : ℕ → ℕ → ℝ)
    (hx7 : x7 = (M2 g : FVec Ideal S4096x1024 .f32)) (v : View sig .tc .vmem S128x512 .bf16) (B : BufTy.Contents (Elt Ideal) v.ty) :
    v.read (Elt Ideal) (v.writes (Elt Ideal) B
      (runLater (F := Ideal) c i arg2 harg2 arg3 harg3 arg4 harg4 arg5 harg5 arg6 harg6 arg7 harg7 hc x2 x3 x4 x5 x7).1)
      = (M2 (fun r l => dqk Q D KV (l / 64) 4096 (128 * (i 1).val + r) (l % 64) * 0.125) : FVec Ideal S128x512 .bf16) := by
  rw [runLater_dq, (afterLoop_M2 c i arg2 harg2 arg3 harg3 arg4 harg4 arg5 harg5 arg6 harg6 arg7 harg7 x2 x3 x4 x5 Q D KV hx2 hx3 hx4 hx5 _ g ((harg7.read_unread x7).trans hx7)).1]
  exact lastDqs_M2 i arg2 harg2 arg3 harg3 arg4 harg4 arg5 harg5 x2 x3 x4 x5 Q D KV hx2 hx3 hx4 hx5 v B

/-- The key/value gradient after a later point. -/
theorem later_dkv_M2 (hc : ¬ isFirst i) (x7 : Vec Ideal S4096x1024 .f32) (g : ℕ → ℕ → ℝ)
    (hx7 : x7 = (M2 g : FVec Ideal S4096x1024 .f32)) :
    arg7.view.read (Elt Ideal) (arg7.view.writes (Elt Ideal) (harg7.unread x7)
      (runLater (F := Ideal) c i arg2 harg2 arg3 harg3 arg4 harg4 arg5 harg5 arg6 harg6 arg7 harg7 hc x2 x3 x4 x5 x7).2.1)
      = (M2 (fun s l => g s l + cb Q D KV (128 * (i 1).val) (l / 128) s (l % 128)) : FVec Ideal S4096x1024 .f32) := by
  have h := afterLoop_M2 c i arg2 harg2 arg3 harg3 arg4 harg4 arg5 harg5 arg6 harg6 arg7 harg7 x2 x3 x4 x5 Q D KV hx2 hx3 hx4 hx5 _ g ((harg7.read_unread x7).trans hx7)
  rw [runLater_dkv, h.1, ← both_parts i Q D KV g]
  exact lastStores_M2 i arg2 harg2 arg3 harg3 arg4 harg4 arg5 harg5 arg7 x2 x3 x4 x5 Q D KV hx2 hx3 hx4 hx5 _ _ _ h.2

end point

end Cert.Proof.KernelIdeal

end
-- ==== Proof.GridValue.lean ====
module

public import proofs.«01_k».proof.Proof.PointValue
public import proofs.«01_k».proof.Proof.Frame
public import Idealize.ShloMosaic.Lib.Pipeline.ValueKit

/-!
The whole grid over real numbers: the two outputs' arrays after the run, from the four arrays the kernel reads.
-/

@[expose] public section

set_option maxHeartbeats 4000000

noncomputable section

namespace Cert.Proof.KernelIdeal

open Idealize.ShloMosaic Idealize.ShloMosaic.TcCoe Idealize.ShloMosaic.Tactic
open Cert.KernelIdeal Cert.KernelIdeal.Gen
open Cert.Proof.RealMat Cert.Proof.Model
open scoped BigOperators

/-- The head group of a point, and its query block. -/
theorem coords_eq : ∀ t : Fin cfg0.N, (grid0.coords t 0).val = t.val / 32 ∧ (grid0.coords t 1).val = t.val % 32 := by
  decide +kernel

/-- Where each window's block lies. -/
theorem index_eq : ∀ t : Fin cfg0.N, win0_0.index t = ![t.val % 32, t.val / 32] ∧ win0_1.index t = ![0, t.val / 32]
    ∧ win0_2.index t = ![t.val % 32, t.val / 32] ∧ win0_3.index t = ![t.val / 32, t.val % 32, 0, 0, 0]
    ∧ win0_4.index t = ![t.val % 32, t.val / 32] ∧ win0_5.index t = ![0, t.val / 32] := by decide +kernel

/-- The columns of one head group, of `w` columns each. -/
def grp (w a : ℕ) (f : ℕ → ℕ → ℝ) : ℕ → ℕ → ℝ := fun t l => f t (w * a + l)

/-- A group's heads are heads of the whole. -/
theorem qh_grp (Q : ℕ → ℕ → ℝ) (a h t l : ℕ) : qh (grp 512 a Q) h t l = qh Q (8 * a + h) t l := by
  unfold qh grp; split_ifs
  · congr 1; omega
  · rfl
/-- The same of the output's gradient. -/
theorem dh_grp (D : ℕ → ℕ → ℝ) (a h t l : ℕ) : dh (grp 512 a D) h t l = dh D (8 * a + h) t l := by
  unfold dh grp; split_ifs
  · congr 1; omega
  · rfl
/-- The same of the keys and values. -/
theorem kh_grp (KV : ℕ → ℕ → ℝ) (a h s l : ℕ) : kh (grp 1024 a KV) h s l = kh KV (8 * a + h) s l := by
  unfold kh grp; congr 1; omega
/-- The same of the scores. -/
theorem zh_grp (Q KV : ℕ → ℕ → ℝ) (a h : ℕ) : zh (grp 512 a Q) (grp 1024 a KV) h = zh Q KV (8 * a + h) := by
  funext t s; unfold zh; simp only [qh_grp, kh_grp]
/-- The same of the products with the values. -/
theorem wh_grp (D KV : ℕ → ℕ → ℝ) (a h : ℕ) : wh (grp 512 a D) (grp 1024 a KV) h = wh D KV (8 * a + h) := by
  funext t s; unfold wh; simp only [dh_grp, kh_grp]
/-- The same of the scores' gradient. -/
theorem dzh_grp (Q D KV : ℕ → ℕ → ℝ) (a h t s : ℕ) :
    dzh (grp 512 a Q) (grp 512 a D) (grp 1024 a KV) h t s = dzh Q D KV (8 * a + h) t s := by
  unfold dzh; rw [zh_grp, wh_grp]
/-- The same of what a query block gives to the key/value gradient. -/
theorem cb_grp (Q D KV : ℕ → ℕ → ℝ) (a T h s l : ℕ) :
    cb (grp 512 a Q) (grp 512 a D) (grp 1024 a KV) T h s l = cb Q D KV T (8 * a + h) s l := by
  unfold cb; simp only [dzh_grp, qh_grp, dh_grp, zh_grp]
/-- The same of the query gradient. -/
theorem dqk_grp (Q D KV : ℕ → ℕ → ℝ) (a h n t l : ℕ) :
    dqk (grp 512 a Q) (grp 512 a D) (grp 1024 a KV) h n t l = dqk Q D KV (8 * a + h) n t l := by
  unfold dqk; simp only [dzh_grp, kh_grp]

section grid

variable (m : (ℓ : Loc nD τ sig) → Buf (Elt Ideal) ℓ) (c : Dev nD) (Q D KV : ℕ → ℕ → ℝ)

/-- The query block at a point. -/
theorem iblk0_M2 (h : V m c main_v27 = (M2 Q : FVec Ideal S4096x1024 .bf16)) (t : Fin cfg0.N) :
    iblk m c 0 t = (M2 (fun r l => grp 512 (t.val / 32) Q (128 * (grid0.coords t 1).val + r) l) : FVec Ideal S128x512 .bf16) := by
  refine eq_M2 fun r l => ?_
  show V m c main_v27 ((((cfg0.win 0).blk t).view.emb (ValueIdx.ix2 r l : S128x512.Idx))) = _
  rw [h, (coords_eq t).2]
  show ((Q ((((cfg0.win 0).blk t).view.emb (ValueIdx.ix2 r l : S128x512.Idx)) 0).val ((((cfg0.win 0).blk t).view.emb (ValueIdx.ix2 r l : S128x512.Idx)) 1).val : ℝ) : EReal) = _
  blk_simp [(index_eq t).1]
  rw [mul_comm _ 128, mul_comm _ 512]; rfl

/-- The output gradient's block at a point. -/
theorem iblk2_M2 (h : V m c main_v29 = (M2 D : FVec Ideal S4096x1024 .bf16)) (t : Fin cfg0.N) :
    iblk m c 2 t = (M2 (fun r l => grp 512 (t.val / 32) D (128 * (grid0.coords t 1).val + r) l) : FVec Ideal S128x512 .bf16) := by
  refine eq_M2 fun r l => ?_
  show V m c main_v29 ((((cfg0.win 2).blk t).view.emb (ValueIdx.ix2 r l : S128x512.Idx))) = _
  rw [h, (coords_eq t).2]
  show ((D ((((cfg0.win 2).blk t).view.emb (ValueIdx.ix2 r l : S128x512.Idx)) 0).val ((((cfg0.win 2).blk t).view.emb (ValueIdx.ix2 r l : S128x512.Idx)) 1).val : ℝ) : EReal) = _
  blk_simp [(index_eq t).2.2.1]
  rw [mul_comm _ 128, mul_comm _ 512]; rfl

/-- The keys and values at a point. -/
theorem iblk1_M2 (h : V m c main_v28 = (M2 KV : FVec Ideal S4096x2048 .bf16)) (t : Fin cfg0.N) :
    iblk m c 1 t = (M2 (grp 1024 (t.val / 32) KV) : FVec Ideal S4096x1024 .bf16) := by
  refine eq_M2 fun r l => ?_
  show V m c main_v28 ((((cfg0.win 1).blk t).view.emb (ValueIdx.ix2 r l : S4096x1024.Idx))) = _
  rw [h]
  show ((KV ((((cfg0.win 1).blk t).view.emb (ValueIdx.ix2 r l : S4096x1024.Idx)) 0).val ((((cfg0.win 1).blk t).view.emb (ValueIdx.ix2 r l : S4096x1024.Idx)) 1).val : ℝ) : EReal) = _
  blk_simp [(index_eq t).2.1]
  rw [mul_comm _ 1024]; rfl

/-- The row sums at a point. -/
theorem iblk3_at (R : ℕ → ℕ → ℕ → ℕ → ℝ)
    (hR : ∀ (h : Fin 16) (b : Fin 32) (k : Fin 16) (r : Fin 128), V m c main_v24 (ValueIdx.ix5 h b k 0 r : S16x32x16x1x128.Idx)
      = ((R h.val b.val k.val r.val : ℝ) : EReal)) (t : Fin cfg0.N) (h : Fin 8) (k : Fin 16) (r : Fin 128) :
    iblk m c 3 t (ValueIdx.ix5 h 0 k 0 r : S8x1x16x1x128.Idx)
      = ((R (8 * (t.val / 32) + h.val) (t.val % 32) k.val r.val : ℝ) : EReal) := by
  have ht : t.val < 64 := lt_of_lt_of_eq t.isLt N_0
  refine Eq.trans ?_ (hR ⟨8 * (t.val / 32) + h.val, by omega⟩ ⟨t.val % 32, by omega⟩ k r)
  show V m c main_v24 ((((cfg0.win 3).blk t).view.emb (ValueIdx.ix5 h 0 k 0 r : S8x1x16x1x128.Idx))) = _
  congr 1
  funext a
  apply Fin.ext
  blk_simp [(index_eq t).2.2.2.1]
  fin_cases a
  · show t.val / 32 * 8 + h.val = 8 * (t.val / 32) + h.val; omega
  · show t.val % 32 * 1 + 0 = t.val % 32; omega
  · show 0 * 16 + k.val = k.val; omega
  · rfl
  · show 0 * 128 + r.val = r.val; omega

/-- Both outputs at a point. -/
def dqAt (n r l : ℕ) : ℝ := dqk Q D KV (8 * (n / 32) + l / 64) 4096 (128 * (n % 32) + r) (l % 64) * 0.125
/-- The accumulated gradient. -/
def dkvAt (n s l : ℕ) : ℝ := ∑ b ∈ Finset.range (n % 32 + 1), cb Q D KV (128 * b) (8 * (n / 32) + l / 128) s (l % 128)

variable (h27 : V m c main_v27 = (M2 Q : FVec Ideal S4096x1024 .bf16))
  (h28 : V m c main_v28 = (M2 KV : FVec Ideal S4096x2048 .bf16))
  (h29 : V m c main_v29 = (M2 D : FVec Ideal S4096x1024 .bf16))
  (h24 : ∀ (h : Fin 16) (b : Fin 32) (k : Fin 16) (r : Fin 128), V m c main_v24 (ValueIdx.ix5 h b k 0 r : S16x32x16x1x128.Idx)
      = ((rem (zh Q KV h.val) (128 * b.val + r.val) (256 * k.val + 255) : ℝ) : EReal))

include h24 in
/-- The row sums at a point are those of the group's heads. -/
theorem rows_at (t : Fin cfg0.N) (h : Fin 8) (k : Fin 16) (r : Fin 128) :
    iblk m c 3 t (ValueIdx.ix5 h 0 k 0 r : S8x1x16x1x128.Idx)
      = ((rem (zh (grp 512 (t.val / 32) Q) (grp 1024 (t.val / 32) KV) h.val) (128 * (grid0.coords t 1).val + r.val) (256 * k.val + 255) : ℝ) : EReal) := by
  rw [zh_grp, (coords_eq t).2]
  exact iblk3_at m c (fun h b k r => rem (zh Q KV h) (128 * b + r) (256 * k + 255)) h24 t h k r

include h27 h28 h29 h24

/-- Both outputs after a first point. -/
theorem outFirst_M2 (t : Fin cfg0.N) (h : t.val % 32 = 0) :
    outFirst m c t h = ((M2 (dqAt Q D KV t.val) : FVec Ideal S128x512 .bf16), (M2 (dkvAt Q D KV t.val) : FVec Ideal S4096x1024 .f32)) := by
  unfold outFirst
  refine congrArg₂ Prod.mk ?_ ?_
  · refine (first_dq_M2 c (grid0.coords t) (ms0 t) (hs0 t) (ms1 t) (hs1 t) (ms2 t) (hs2 t) (ms3 t) (hs3 t) (ms4 t) (hs4 t) (ms5 t) (hs5 t)
      (iblk m c 0 t) (iblk m c 1 t) (iblk m c 2 t) (iblk m c 3 t) _ _ _ (iblk0_M2 m c Q h27 t) (iblk1_M2 m c KV h28 t) (iblk2_M2 m c D h29 t)
      (rows_at m c Q KV h24 t) ((isFirst_iff t).mpr h) VO6 _).trans (M2_congr fun r _ l _ => ?_)
    rw [dqk_grp, (coords_eq t).2]; rfl
  · refine (View.read_writes_of_cover _ _ (ms5 t).view _ _ (cover7_first m c t h)).trans
      ((first_dkv_M2 c (grid0.coords t) (ms0 t) (hs0 t) (ms1 t) (hs1 t) (ms2 t) (hs2 t) (ms3 t) (hs3 t) (ms4 t) (hs4 t) (ms5 t) (hs5 t)
      (iblk m c 0 t) (iblk m c 1 t) (iblk m c 2 t) (iblk m c 3 t) _ _ _ (iblk0_M2 m c Q h27 t) (iblk1_M2 m c KV h28 t) (iblk2_M2 m c D h29 t)
      (rows_at m c Q KV h24 t) ((isFirst_iff t).mpr h)).trans (M2_congr fun s _ l _ => ?_))
    rw [cb_grp, (coords_eq t).2]; unfold dkvAt; rw [h, Finset.sum_range_succ, Finset.sum_range_zero]

/-- Both outputs after a later point. -/
theorem outLater_M2 (t : Fin cfg0.N) (h : ¬ t.val % 32 = 0) (x7 : Vec Ideal S4096x1024 .f32)
    (hx7 : x7 = (M2 (dkvAt Q D KV (t.val - 1)) : FVec Ideal S4096x1024 .f32)) :
    outLater m c t h x7 = ((M2 (dqAt Q D KV t.val) : FVec Ideal S128x512 .bf16), (M2 (dkvAt Q D KV t.val) : FVec Ideal S4096x1024 .f32)) := by
  unfold outLater
  refine congrArg₂ Prod.mk ?_ ?_
  · refine (later_dq_M2 c (grid0.coords t) (ms0 t) (hs0 t) (ms1 t) (hs1 t) (ms2 t) (hs2 t) (ms3 t) (hs3 t) (ms4 t) (hs4 t) (ms5 t) (hs5 t)
      (iblk m c 0 t) (iblk m c 1 t) (iblk m c 2 t) (iblk m c 3 t) _ _ _ (iblk0_M2 m c Q h27 t) (iblk1_M2 m c KV h28 t) (iblk2_M2 m c D h29 t)
      (rows_at m c Q KV h24 t) (fun hf => h ((isFirst_iff t).mp hf)) x7 _ hx7 VO6 _).trans (M2_congr fun r _ l _ => ?_)
    rw [dqk_grp, (coords_eq t).2]; rfl
  · refine (later_dkv_M2 c (grid0.coords t) (ms0 t) (hs0 t) (ms1 t) (hs1 t) (ms2 t) (hs2 t) (ms3 t) (hs3 t) (ms4 t) (hs4 t) (ms5 t) (hs5 t)
      (iblk m c 0 t) (iblk m c 1 t) (iblk m c 2 t) (iblk m c 3 t) _ _ _ (iblk0_M2 m c Q h27 t) (iblk1_M2 m c KV h28 t) (iblk2_M2 m c D h29 t)
      (rows_at m c Q KV h24 t) (fun hf => h ((isFirst_iff t).mp hf)) x7 _ hx7).trans (M2_congr fun s _ l _ => ?_)
    rw [cb_grp, (coords_eq t).2]; unfold dkvAt
    rw [show (t.val - 1) % 32 + 1 = t.val % 32 by omega, show (t.val - 1) / 32 = t.val / 32 by omega, Finset.sum_range_succ]

/-- Both outputs after every point. -/
theorem outs_M2 (n : ℕ) (hn : n < cfg0.N) :
    outs m c n hn = ((M2 (dqAt Q D KV n) : FVec Ideal S128x512 .bf16), (M2 (dkvAt Q D KV n) : FVec Ideal S4096x1024 .f32)) := by
  induction n with
  | zero => exact (outs_first m c ⟨0, hn⟩ rfl).trans (outFirst_M2 m c Q D KV h27 h28 h29 h24 ⟨0, hn⟩ rfl)
  | succ n ih =>
    by_cases h : (n + 1) % 32 = 0
    · exact (outs_first m c ⟨n + 1, hn⟩ h).trans (outFirst_M2 m c Q D KV h27 h28 h29 h24 ⟨n + 1, hn⟩ h)
    · exact (outs_later m c ⟨n + 1, hn⟩ h).trans (outLater_M2 m c Q D KV h27 h28 h29 h24 ⟨n + 1, hn⟩ h _ (congrArg Prod.snd (ih _)))

/-- The query gradient's array after the run. -/
theorem arr4_M2 : (dats m 0 c).arrAt 4 cfg0.N
    = (M2 (fun t l => dqk Q D KV (l / 64) 4096 t (l % 64) * 0.125) : FVec Ideal S4096x1024 .bf16) := by
  refine (dats m 0 c).arrAt_eq_of_covers 4 _ (by decide +kernel) fun t hf y => ?_
  have ht : t.val < 64 := lt_of_lt_of_eq t.isLt N_0
  have e0 : ((((cfg0.win 4).blk t).view.emb y) 0).val = 128 * (t.val % 32) + (y 0).val := by
    blk_simp [(index_eq t).2.2.2.2.1]; rw [mul_comm]
  have e1 : ((((cfg0.win 4).blk t).view.emb y) 1).val = 512 * (t.val / 32) + (y 1).val := by
    blk_simp [(index_eq t).2.2.2.2.1]; rw [mul_comm]
  rw [after4, outs_M2 m c Q D KV h27 h28 h29 h24]
  show ((dqAt Q D KV t.val (y 0).val (y 1).val : ℝ) : EReal)
    = ((dqk Q D KV (((((cfg0.win 4).blk t).view.emb y) 1).val / 64) 4096 ((((cfg0.win 4).blk t).view.emb y) 0).val
        (((((cfg0.win 4).blk t).view.emb y) 1).val % 64) * 0.125 : ℝ) : EReal)
  rw [e0, e1]
  unfold dqAt
  rw [show (512 * (t.val / 32) + (y 1).val) / 64 = 8 * (t.val / 32) + (y 1).val / 64 by omega,
    show (512 * (t.val / 32) + (y 1).val) % 64 = (y 1).val % 64 by omega]

/-- The key/value gradient's array after the run. -/
theorem arr5_M2 : (dats m 0 c).arrAt 5 cfg0.N
    = (M2 (fun s l => ∑ b ∈ Finset.range 32, cb Q D KV (128 * b) (l / 128) s (l % 128)) : FVec Ideal S4096x2048 .f32) := by
  refine (dats m 0 c).arrAt_eq_of_covers 5 _ (by decide +kernel) fun t hf y => ?_
  have ht : t.val < 64 := lt_of_lt_of_eq t.isLt N_0
  have hl : t.val % 32 = 31 := (flush0_5 t).mp hf
  have e0 : ((((cfg0.win 5).blk t).view.emb y) 0).val = (y 0).val := by
    blk_simp [(index_eq t).2.2.2.2.2]
  have e1 : ((((cfg0.win 5).blk t).view.emb y) 1).val = 1024 * (t.val / 32) + (y 1).val := by
    blk_simp [(index_eq t).2.2.2.2.2]; rw [mul_comm]
  rw [after5, outs_M2 m c Q D KV h27 h28 h29 h24]
  show ((dkvAt Q D KV t.val (y 0).val (y 1).val : ℝ) : EReal)
    = ((∑ b ∈ Finset.range 32, cb Q D KV (128 * b) (((((cfg0.win 5).blk t).view.emb y) 1).val / 128) ((((cfg0.win 5).blk t).view.emb y) 0).val
        (((((cfg0.win 5).blk t).view.emb y) 1).val % 128) : ℝ) : EReal)
  rw [e0, e1]
  unfold dkvAt
  rw [hl, show (1024 * (t.val / 32) + (y 1).val) / 128 = 8 * (t.val / 32) + (y 1).val / 128 by omega,
    show (1024 * (t.val / 32) + (y 1).val) % 128 = (y 1).val % 128 by omega]

end grid

end Cert.Proof.KernelIdeal

end
-- ==== Proof.RealCube.lean ====
module

public import proofs.«01_k».proof.Proof.RealMat
public import proofs.«01_k».proof.Proof.Model
public import Idealize.ShloMosaic.Lib.Pointwise

/-!
The same for arrays of three axes (head, query, key): the host operations of the attention, over arrays whose entries
are real numbers.
-/

@[expose] public section

noncomputable section

namespace Cert.Proof.RealCube

open Idealize.ShloMosaic
open Cert.Proof.RealMat Cert.Proof.Model
open scoped BigOperators

/-- The array of the real numbers `f i j k`. -/
def M3 {a b c : ℕ} {φ : FTy} (f : ℕ → ℕ → ℕ → ℝ) : FVec Ideal ⟨3, ![a, b, c]⟩ φ :=
  fun i => ((f (i 0).val (i 1).val (i 2).val : ℝ) : EReal)

variable {a b c : ℕ} {φ : FTy}

/-- Its entries. -/
theorem M3_ix3 (f : ℕ → ℕ → ℕ → ℝ) (i : Fin a) (j : Fin b) (k : Fin c) :
    (M3 f : FVec Ideal ⟨3, ![a, b, c]⟩ φ) (ValueIdx.ix3 i j k) = ((f i.val j.val k.val : ℝ) : EReal) := rfl

/-- An array is such an array when its entries are. -/
theorem eq_M3 {x : FVec Ideal ⟨3, ![a, b, c]⟩ φ} {f : ℕ → ℕ → ℕ → ℝ}
    (h : ∀ (i : Fin a) (j : Fin b) (k : Fin c), x (ValueIdx.ix3 i j k) = ((f i.val j.val k.val : ℝ) : EReal)) : x = M3 f :=
  funext fun i => by rw [ValueIdx.eq_ix3 i]; exact h _ _ _

/-- Two such arrays agree when the numbers do. -/
theorem M3_congr {f g : ℕ → ℕ → ℕ → ℝ} (h : ∀ i < a, ∀ j < b, ∀ k < c, f i j k = g i j k) :
    (M3 f : FVec Ideal ⟨3, ![a, b, c]⟩ φ) = M3 g :=
  eq_M3 fun i j k => by rw [M3_ix3, h _ i.isLt _ j.isLt _ k.isLt]

/-- Sums, entry by entry. -/
theorem addf_M3 (f g : ℕ → ℕ → ℕ → ℝ) :
    addf (M3 f : FVec Ideal ⟨3, ![a, b, c]⟩ φ) (M3 g) = M3 (fun i j k => f i j k + g i j k) :=
  funext fun _ => (EReal.coe_add _ _).symm
/-- Differences. -/
theorem subf_M3 (f g : ℕ → ℕ → ℕ → ℝ) :
    subf (M3 f : FVec Ideal ⟨3, ![a, b, c]⟩ φ) (M3 g) = M3 (fun i j k => f i j k - g i j k) :=
  funext fun _ => (EReal.coe_sub _ _).symm
/-- Products. -/
theorem mulf_M3 (f g : ℕ → ℕ → ℕ → ℝ) :
    mulf (M3 f : FVec Ideal ⟨3, ![a, b, c]⟩ φ) (M3 g) = M3 (fun i j k => f i j k * g i j k) :=
  funext fun _ => (EReal.coe_mul _ _).symm
/-- The larger of two. -/
theorem maximumf_M3 (f g : ℕ → ℕ → ℕ → ℝ) :
    maximumf (M3 f : FVec Ideal ⟨3, ![a, b, c]⟩ φ) (M3 g) = M3 (fun i j k => max (f i j k) (g i j k)) :=
  funext fun _ => (EReal.coe_strictMono.monotone.map_max).symm
/-- Negatives. -/
theorem negf_M3 (f : ℕ → ℕ → ℕ → ℝ) :
    Host.negf (M3 f : FVec Ideal ⟨3, ![a, b, c]⟩ φ) = M3 (fun i j k => - f i j k) :=
  funext fun _ => (EReal.coe_neg _).symm
/-- Absolute values. -/
theorem absf_M3 (f : ℕ → ℕ → ℕ → ℝ) :
    Host.absf (M3 f : FVec Ideal ⟨3, ![a, b, c]⟩ φ) = M3 (fun i j k => |f i j k|) :=
  funext fun _ => (congrArg _ (EReal.coe_neg _).symm).trans (EReal.coe_strictMono.monotone.map_max).symm
/-- Exponentials. -/
theorem exp_M3 (f : ℕ → ℕ → ℕ → ℝ) :
    Host.exp (M3 f : FVec Ideal ⟨3, ![a, b, c]⟩ φ) = M3 (fun i j k => Real.exp (f i j k)) := rfl
/-- Logarithms of one more than a nonnegative number. -/
theorem log1p_M3 (f : ℕ → ℕ → ℕ → ℝ) (h : ∀ i j k, 0 ≤ f i j k) :
    Host.log1p (M3 f : FVec Ideal ⟨3, ![a, b, c]⟩ φ) = M3 (fun i j k => Real.log (1 + f i j k)) :=
  funext fun i => by
    show Ideal.log (1 + ((f _ _ _ : ℝ) : EReal)) = _
    rw [show (1 + ((f (i 0).val (i 1).val (i 2).val : ℝ) : EReal)) = ((1 + f (i 0).val (i 1).val (i 2).val : ℝ) : EReal) from
      (EReal.coe_add 1 _).symm]
    exact if_neg (not_le.mpr (by have := h (i 0).val (i 1).val (i 2).val; linarith))
/-- The array of zeros. -/
theorem zero_M3 (h : (⟨0, ![]⟩ : Shape).BroadcastsInDim ⟨3, ![a, b, c]⟩ (![] : Fin 0 → Fin 3)) :
    (broadcastInDim ⟨3, ![a, b, c]⟩ ![] h (constant ⟨0, ![]⟩ .f32 0x00000000#32 : FVec Ideal ⟨0, ![]⟩ .f32)
      : FVec Ideal ⟨3, ![a, b, c]⟩ .f32) = M3 (fun _ _ _ => 0) := funext fun _ => by
  show Ideal.ofBits .f32 0x00000000#32 = ((0 : ℝ) : EReal)
  simp [Ideal.ofBits, Ideal.ieee]
/-- The array of eighths. -/
theorem eighth_M3 (h : (⟨0, ![]⟩ : Shape).BroadcastsInDim ⟨3, ![a, b, c]⟩ (![] : Fin 0 → Fin 3)) :
    (broadcastInDim ⟨3, ![a, b, c]⟩ ![] h (constant ⟨0, ![]⟩ .f32 0x3E000000#32 : FVec Ideal ⟨0, ![]⟩ .f32)
      : FVec Ideal ⟨3, ![a, b, c]⟩ .f32) = M3 (fun _ _ _ => 0.125) := funext fun _ => by
  show Ideal.ofBits .f32 0x3E000000#32 = ((0.125 : ℝ) : EReal)
  simp [Ideal.ofBits, Ideal.ieee, -EReal.coe_mul]; norm_num
/-- A selection by whether an array differs from itself takes the second choice. -/
theorem select_une_M3 (f : ℕ → ℕ → ℕ → ℝ) (x y : FVec Ideal ⟨3, ![a, b, c]⟩ φ) :
    select (cmpf .une (M3 f : FVec Ideal ⟨3, ![a, b, c]⟩ φ) (M3 f)) x y = y := funext fun i => by
  show Scalar.select (BitVec.ofBool (decide ¬ M3 f i = M3 f i)) _ _ = _
  rw [decide_eq_false (not_not_intro rfl)]; rfl
/-- A selection by whether a real number is the infinity takes the second choice. -/
theorem select_top_M3 (f : ℕ → ℕ → ℕ → ℝ) (x y : FVec Ideal ⟨3, ![a, b, c]⟩ .f32)
    (h : (⟨0, ![]⟩ : Shape).BroadcastsInDim ⟨3, ![a, b, c]⟩ (![] : Fin 0 → Fin 3)) :
    select (cmpf .oeq (M3 f : FVec Ideal ⟨3, ![a, b, c]⟩ .f32)
      (broadcastInDim ⟨3, ![a, b, c]⟩ ![] h (constant ⟨0, ![]⟩ .f32 0x7F800000#32 : FVec Ideal ⟨0, ![]⟩ .f32))) x y = y :=
  funext fun i => by
    show Scalar.select (BitVec.ofBool (decide
      (((f (i 0).val (i 1).val (i 2).val : ℝ) : EReal) = Ideal.ofBits .f32 0x7F800000#32))) _ _ = _
    rw [show Ideal.ofBits .f32 0x7F800000#32 = ⊤ by simp [Ideal.ofBits, Ideal.ieee], decide_eq_false (EReal.coe_ne_top _)]
    rfl
/-- A selection by a condition on the position. -/
theorem select_M3 (P : ℕ → ℕ → ℕ → Prop) [∀ i j k, Decidable (P i j k)] (m : IVec ⟨3, ![a, b, c]⟩ 1)
    (hm : ∀ (i : Fin a) (j : Fin b) (k : Fin c), m (ValueIdx.ix3 i j k) = BitVec.ofBool (decide (P i.val j.val k.val)))
    (f g : ℕ → ℕ → ℕ → ℝ) :
    select m (M3 f : FVec Ideal ⟨3, ![a, b, c]⟩ φ) (M3 g) = M3 (fun i j k => if P i j k then f i j k else g i j k) :=
  eq_M3 fun i j k => by
    rw [show select m (M3 f : FVec Ideal ⟨3, ![a, b, c]⟩ φ) (M3 g) (ValueIdx.ix3 i j k)
      = Scalar.select (m (ValueIdx.ix3 i j k)) _ _ from rfl, hm, M3_ix3, M3_ix3]
    by_cases hp : P i.val j.val k.val <;> simp [hp, Scalar.select]

/-- A fold of additions is the sum. -/
theorem foldl_add {N : ℕ} (g : Fin N → EReal) (v : EReal) :
    (List.finRange N).foldl (fun r n => r + g n) v = v + ∑ n, g n := by
  have h : ∀ (l : List (Fin N)) (v : EReal), l.foldl (fun r n => r + g n) v = v + (l.map g).sum := by
    intro l
    induction l with
    | nil => intro v; simp
    | cons x l ih => intro v; rw [List.foldl_cons, ih, List.map_cons, List.sum_cons, add_assoc]
  rw [h, Fin.sum_univ_def]

/-- A sum over a window along the last axis is the sum over its positions there. -/
theorem sum_window {N : ℕ} (G : (⟨3, ![1, 1, N]⟩ : Shape).Idx → EReal) :
    (∑ n, G ((Shape.rowMajor ⟨3, ![1, 1, N]⟩).symm n)) = ∑ n : Fin N, G (ValueIdx.ix3 0 0 n) := by
  refine (Equiv.sum_comp (Shape.rowMajor ⟨3, ![1, 1, N]⟩).symm G).trans ?_
  refine (Fintype.sum_equiv (κ := Fin N) ⟨fun w => (w 2 : Fin N), fun n => (ValueIdx.ix3 0 0 n : (⟨3, ![1, 1, N]⟩ : Shape).Idx), fun w => ?_, fun n => rfl⟩ _ _ fun w => ?_)
  · funext d; fin_cases d
    · exact Subsingleton.elim (α := Fin 1) _ _
    · exact Subsingleton.elim (α := Fin 1) _ _
    · rfl
  · refine congrArg G ?_
    funext d; fin_cases d
    · exact Subsingleton.elim (α := Fin 1) _ _
    · exact Subsingleton.elim (α := Fin 1) _ _
    · rfl

/-- A host sum over windows along the last axis, from zero: the sum over the window's positions. -/
theorem window_apply {N lo hi : ℕ} (f : ℕ → ℕ → ℕ → ℝ) (init : FVec Ideal ⟨0, ![]⟩ .f32)
    (hinit : ∀ i, init i = 0) (h) (hu) (i : Fin a) (j : Fin b) (k : Fin N) :
    (Host.reduceWindowAdd (s := ⟨3, ![a, b, N]⟩) (t := ⟨3, ![a, b, N]⟩) (φ := .f32) (F := Ideal) ![1, 1, N] ![1, 1, 1] ![0, 0, lo]
        ![0, 0, hi] (M3 f) init h hu : FVec Ideal ⟨3, ![a, b, N]⟩ .f32) (ValueIdx.ix3 i j k)
      = ((∑ n ∈ Finset.range N, if lo ≤ k.val + n ∧ k.val + n - lo < N then f i.val j.val (k.val + n - lo) else 0 : ℝ) : EReal) := by
  unfold Host.reduceWindowAdd
  show Ideal.hostReduceWindowAdd _ _ _ _ _ _ _ _ = _
  unfold Ideal.hostReduceWindowAdd Host.reduceWindow
  dsimp only
  rw [hinit, foldl_add, zero_add, coe_sum_range]
  refine (sum_window (fun w : (⟨3, ![1, 1, N]⟩ : Shape).Idx =>
    @dite EReal (∀ d : Fin 3, (![0, 0, lo] : Fin 3 → ℕ) d ≤ (ValueIdx.ix3 i j k : (⟨3, ![a, b, N]⟩ : Shape).Idx) (d.cast h.1.symm) * (![1, 1, 1] : Fin 3 → ℕ) d + (w d).val
        ∧ (ValueIdx.ix3 i j k : (⟨3, ![a, b, N]⟩ : Shape).Idx) (d.cast h.1.symm) * (![1, 1, 1] : Fin 3 → ℕ) d + (w d).val - (![0, 0, lo] : Fin 3 → ℕ) d < (![a, b, N] : Fin 3 → ℕ) d)
      (Nat.decidableForallFin _) (fun hin => (M3 f : FVec Ideal ⟨3, ![a, b, N]⟩ .f32) (fun d => ⟨_, (hin d).2⟩))
      (fun _ => 0))).trans ?_
  refine Finset.sum_congr rfl fun n _ => ?_
  by_cases hc : lo ≤ k.val + n.val ∧ k.val + n.val - lo < N
  · rw [if_pos hc, dif_pos]
    · show ((f (i.val * 1 + 0 - 0) (j.val * 1 + 0 - 0) (k.val * 1 + n.val - lo) : ℝ) : EReal) = _
      simp only [mul_one, add_zero, Nat.sub_zero]
    · intro d; fin_cases d
      · show 0 ≤ i.val * 1 + 0 ∧ i.val * 1 + 0 - 0 < a
        have := i.isLt; omega
      · show 0 ≤ j.val * 1 + 0 ∧ j.val * 1 + 0 - 0 < b
        have := j.isLt; omega
      · show lo ≤ k.val * 1 + n.val ∧ k.val * 1 + n.val - lo < N
        rwa [mul_one]
  · rw [if_neg hc, dif_neg]
    · rfl
    · intro hh
      have := hh 2
      change lo ≤ k.val * 1 + n.val ∧ k.val * 1 + n.val - lo < N at this
      rw [mul_one] at this
      exact hc this

/-- The sums from each position on. -/
theorem cumsum_back_M3 {N hi : ℕ} (f : ℕ → ℕ → ℕ → ℝ) (init : FVec Ideal ⟨0, ![]⟩ .f32) (hinit : ∀ i, init i = 0) (h) (hu) :
    (Host.reduceWindowAdd (s := ⟨3, ![a, b, N]⟩) (t := ⟨3, ![a, b, N]⟩) (φ := .f32) (F := Ideal) ![1, 1, N] ![1, 1, 1] ![0, 0, 0]
        ![0, 0, hi] (M3 f) init h hu : FVec Ideal ⟨3, ![a, b, N]⟩ .f32)
      = M3 (fun i j k => ∑ n ∈ Finset.Ico k N, f i j n) := eq_M3 fun i j k => by
  rw [window_apply f init hinit]
  congr 1
  rw [Finset.sum_Ico_eq_sum_range, ← Finset.sum_filter]
  refine Finset.sum_congr ?_ fun n _ => rfl
  ext n
  simp only [Finset.mem_filter, Finset.mem_range]
  omega

/-- The sums up to each position. -/
theorem cumsum_M3 {N lo : ℕ} (hN : lo + 1 = N) (f : ℕ → ℕ → ℕ → ℝ) (init : FVec Ideal ⟨0, ![]⟩ .f32)
    (hinit : ∀ i, init i = 0) (h) (hu) :
    (Host.reduceWindowAdd (s := ⟨3, ![a, b, N]⟩) (t := ⟨3, ![a, b, N]⟩) (φ := .f32) (F := Ideal) ![1, 1, N] ![1, 1, 1] ![0, 0, lo]
        ![0, 0, 0] (M3 f) init h hu : FVec Ideal ⟨3, ![a, b, N]⟩ .f32)
      = M3 (fun i j k => ∑ n ∈ Finset.range (k + 1), f i j n) := eq_M3 fun i j k => by
  rw [window_apply f init hinit]
  congr 1
  have hk := k.isLt
  rw [← Finset.sum_filter]
  refine Finset.sum_nbij' (fun n => k.val + n - lo) (fun n => n + lo - k.val) ?_ ?_ ?_ ?_ fun n _ => rfl <;>
    intro n hn <;> simp only [Finset.mem_filter, Finset.mem_range] at hn ⊢ <;> omega

end Cert.Proof.RealCube
-- ==== Proof.RefValue.lean ====
module

public import proofs.«01_k».proof.Proof.Gen.ReferenceIdeal.Run
public import proofs.«01_k».proof.Proof.HeadModel
public import proofs.«01_k».proof.Proof.RealCube

/-!
The reference over real numbers: every array of the attention and of its gradient, entry by entry, in the words of the
model of one head.
-/

@[expose] public section

noncomputable section

namespace Cert.Proof.Model

open scoped BigOperators

/-- Half the lanes are enough for the scores. -/
theorem zh_half (Q KV : ℕ → ℕ → ℝ) (h t s : ℕ) :
    zh Q KV h t s = ∑ l ∈ Finset.range 64, Q t (64 * h + l) * KV s (128 * h + l) := by
  unfold zh
  rw [show (128 : ℕ) = 64 + 64 from rfl, Finset.sum_range_add, Finset.sum_eq_zero (s := Finset.range 64)
    (f := fun l => qh Q h t (64 + l) * kh KV h s (64 + l)), add_zero]
  · refine Finset.sum_congr rfl fun l hl => ?_
    rw [qh, if_pos (Finset.mem_range.mp hl)]; rfl
  · intro l _
    rw [qh, if_neg (by omega), zero_mul]

/-- And the other half for the products with the values. -/
theorem wh_half (D KV : ℕ → ℕ → ℝ) (h t s : ℕ) :
    wh D KV h t s = ∑ l ∈ Finset.range 64, D t (64 * h + l) * KV s (128 * h + 64 + l) := by
  unfold wh
  rw [show (128 : ℕ) = 64 + 64 from rfl, Finset.sum_range_add, Finset.sum_eq_zero (s := Finset.range 64)
    (f := fun l => dh D h t l * kh KV h s l), zero_add]
  · refine Finset.sum_congr rfl fun l _ => ?_
    rw [dh, if_pos (by omega), Nat.add_sub_cancel_left]
    show _ * KV s ((64 + 64) * h + (64 + l)) = _
    rw [add_assoc]
  · intro l hl
    rw [dh, if_neg (by have := Finset.mem_range.mp hl; omega), zero_mul]

/-- The logarithm of the logistic function, in both of its forms. -/
theorem neg_softplus (x : ℝ) :
    -(max (-x) 0 + Real.log (1 + Real.exp (-|-x - 0|))) = x - sp x := by
  unfold sp
  rw [sub_zero, abs_neg, zero_sub]
  rcases le_total 0 x with h | h
  · rw [max_eq_right (by linarith : -x ≤ 0), max_eq_left h]; ring
  · rw [max_eq_left (by linarith : 0 ≤ -x), max_eq_right h]; ring

/-- One more than the exponential, from its logarithm. -/
theorem exp_sp (x : ℝ) : Real.exp (sp x) = 1 + Real.exp x := by
  unfold sp
  rw [Real.exp_add, Real.exp_log (by positivity), zero_sub, mul_add, mul_one, ← Real.exp_add]
  rcases le_total 0 x with h | h
  · rw [max_eq_left h, abs_of_nonneg h, add_neg_cancel, Real.exp_zero, add_comm]
  · rw [max_eq_right h, abs_of_nonpos h, neg_neg, zero_add, Real.exp_zero]

/-- The logistic function and its complement. -/
theorem exp_neg_sp (x : ℝ) : Real.exp (-sp x) = 1 - Real.exp (x - sp x) := by
  have h := exp_sp x
  have hp := Real.exp_pos x
  rw [Real.exp_sub, Real.exp_neg, h]
  field_simp
  ring

/-- A sum over blocks of 128 positions is the sum over all of them. -/
theorem sum_blocks (f : ℕ → ℝ) (n : ℕ) :
    (∑ b ∈ Finset.range n, ∑ r ∈ Finset.range 128, f (128 * b + r)) = ∑ t ∈ Finset.range (128 * n), f t := by
  induction n with
  | zero => simp
  | succ n ih => rw [Finset.sum_range_succ, ih, Nat.mul_succ, Finset.sum_range_add]

/-- The scores' gradient from the two sums. -/
theorem dz_sums (z w : ℕ → ℕ → ℝ) (t s : ℕ) :
    -(if s < t then pfx z w t s else 0)
      + -(-(da z w t s + if s < t then pfx z w t s else 0) * Real.exp (-sp (z t s))) = dz z w t s := by
  unfold dz
  split_ifs with h
  · rw [exp_neg_sp]; unfold lb; ring
  · rw [show da z w t s = 0 by unfold da wt; rw [if_neg h, mul_zero]]; ring

end Cert.Proof.Model

namespace Cert.Proof.ReferenceIdeal

open Idealize.ShloMosaic Idealize.ShloMosaic.TcCoe Idealize.ShloMosaic.StableHlo
open Cert.ReferenceIdeal Cert.ReferenceIdeal.Gen Cert.ReferenceIdeal.Value
open Cert.Proof.RealMat Cert.Proof.RealCube Cert.Proof.Model
open scoped BigOperators

variable (V0 : Valuation τ sig (Elt Ideal)) (Q KV D : ℕ → ℕ → ℝ)

/-- A matrix of 16 heads side by side, one head after another. -/
theorem heads_M3 (f : ℕ → ℕ → ℝ) :
    (transpose S16x4096x64 [1, 0, 2] (shapeCast S4096x16x64 (M2 f : FVec Ideal S4096x1024 .f32) shapeCasts_S4096x1024_S4096x16x64)
      transposes_S4096x16x64_S16x4096x64_1_0_2 : FVec Ideal S16x4096x64 .f32)
      = M3 (fun h t d => f t (64 * h + d)) := eq_M3 fun h t d => by
  pointwise
  show ((f t.val (h.val * 64 + d.val) : ℝ) : EReal) = _
  rw [mul_comm]

/-- The keys out of the keys and values. -/
theorem keys_M3 (f : ℕ → ℕ → ℝ) :
    (transpose S16x4096x64 [1, 0, 2] (shapeCast S4096x16x64 (extractStridedSlice S4096x16x1x64 ![0, 0, 0, 0]
      (shapeCast S4096x16x2x64 (M2 f : FVec Ideal S4096x2048 .f32) shapeCasts_S4096x2048_S4096x16x2x64)
      slices_S4096x16x2x64_S4096x16x1x64_0_0_0_0) shapeCasts_S4096x16x1x64_S4096x16x64)
      transposes_S4096x16x64_S16x4096x64_1_0_2 : FVec Ideal S16x4096x64 .f32)
      = M3 (fun h t d => f t (128 * h + d)) := eq_M3 fun h t d => by
  pointwise
  show ((f t.val (h.val * 128 + d.val) : ℝ) : EReal) = _
  rw [mul_comm]

/-- The values out of them. -/
theorem vals_M3 (f : ℕ → ℕ → ℝ) :
    (transpose S16x4096x64 [1, 0, 2] (shapeCast S4096x16x64 (extractStridedSlice S4096x16x1x64 ![0, 0, 1, 0]
      (shapeCast S4096x16x2x64 (M2 f : FVec Ideal S4096x2048 .f32) shapeCasts_S4096x2048_S4096x16x2x64)
      slices_S4096x16x2x64_S4096x16x1x64_0_0_1_0) shapeCasts_S4096x16x1x64_S4096x16x64)
      transposes_S4096x16x64_S16x4096x64_1_0_2 : FVec Ideal S16x4096x64 .f32)
      = M3 (fun h t d => f t (128 * h + 64 + d)) := eq_M3 fun h t d => by
  pointwise
  show ((f t.val (h.val * 128 + 64 + d.val) : ℝ) : EReal) = _
  rw [mul_comm]

/-- Products of rows of one head. -/
theorem dot_rows_M3 (f g : ℕ → ℕ → ℕ → ℝ) :
    (Host.dotGeneral dot_S16x4096x64_S16x4096x64_S16x4096x4096_2_2_1_1_0_0 none (M3 f : FVec Ideal S16x4096x64 .f32)
      (M3 g : FVec Ideal S16x4096x64 .f32) : FVec Ideal S16x4096x4096 .f32)
      = M3 (fun h t s => ∑ d ∈ Finset.range 64, f h t d * g h s d) := eq_M3 fun h t s => by
  pointwise
  rw [coe_sum_range]
  exact Finset.sum_congr rfl fun k _ => (EReal.coe_mul _ _).symm

/-- Comparing two positions. -/
theorem slt_4096 (a b : ℕ) (ha : a < 4096) (hb : b < 4096) :
    BitVec.slt (BitVec.ofNat 32 a) (BitVec.ofNat 32 b) = decide (a < b) := by
  rw [BitVec.slt, BitVec.toInt_ofNat', BitVec.toInt_ofNat', Int.bmod, Int.bmod]
  congr 1; apply propext; split <;> split <;> omega

/-- The causal mask. -/
theorem mask_apply (h : Fin 16) (t s : Fin 4096) :
    broadcastInDim S16x4096x4096 ![1, 2] bcast_S4096x4096_S16x4096x4096_1_2 (res_main_v15 V0) (ValueIdx.ix3 h t s)
      = BitVec.ofBool (decide (s.val < t.val)) := by
  unfold res_main_v15
  pointwise
  exact congrArg BitVec.ofBool (slt_4096 _ _ (by have := s.isLt; show s.val < _; omega) (by have := t.isLt; show t.val < _; omega))

/-- The query gradient: sums over the keys. -/
theorem dot_keys_M3 (f g : ℕ → ℕ → ℕ → ℝ) :
    (Host.dotGeneral dot_S16x4096x4096_S16x4096x64_S16x4096x64_2_1_1_2_0_0 none (M3 f : FVec Ideal S16x4096x4096 .f32)
      (M3 g : FVec Ideal S16x4096x64 .f32) : FVec Ideal S16x4096x64 .f32)
      = M3 (fun h t d => ∑ s ∈ Finset.range 4096, f h t s * g h s d) := eq_M3 fun h t s => by
  pointwise
  rw [coe_sum_range]
  exact Finset.sum_congr rfl fun k _ => (EReal.coe_mul _ _).symm

/-- The key gradient: sums over the queries. -/
theorem dot_queries_M3 (f g : ℕ → ℕ → ℕ → ℝ) :
    (Host.dotGeneral dot_S16x4096x4096_S16x4096x64_S16x4096x64_1_1_2_2_0_0 none (M3 f : FVec Ideal S16x4096x4096 .f32)
      (M3 g : FVec Ideal S16x4096x64 .f32) : FVec Ideal S16x4096x64 .f32)
      = M3 (fun h s d => ∑ t ∈ Finset.range 4096, f h t s * g h t d) := eq_M3 fun h t s => by
  pointwise
  rw [coe_sum_range]
  exact Finset.sum_congr rfl fun k _ => (EReal.coe_mul _ _).symm

/-- The value gradient: sums over the queries. -/
theorem dot_values_M3 (f g : ℕ → ℕ → ℕ → ℝ) :
    (transpose S16x4096x64 [0, 2, 1] (Host.dotGeneral dot_S16x4096x64_S16x4096x4096_S16x64x4096_1_1_2_2_0_0 none (M3 f : FVec Ideal S16x4096x64 .f32)
      (M3 g : FVec Ideal S16x4096x4096 .f32)) transposes_S16x64x4096_S16x4096x64_0_2_1 : FVec Ideal S16x4096x64 .f32)
      = M3 (fun h s d => ∑ t ∈ Finset.range 4096, f h t d * g h t s) := eq_M3 fun h t s => by
  pointwise
  rw [coe_sum_range]
  exact Finset.sum_congr rfl fun k _ => (EReal.coe_mul _ _).symm

/-- The result's query gradient. -/
theorem dq_M2 (f : ℕ → ℕ → ℕ → ℝ) :
    (truncf .bf16 (shapeCast S4096x1024 (transpose S4096x16x64 [1, 0, 2] (M3 f : FVec Ideal S16x4096x64 .f32) transposes_S16x4096x64_S4096x16x64_1_0_2) shapeCasts_S4096x16x64_S4096x1024 : FVec Ideal S4096x1024 .f32) bitsLt_bf16_f32 : FVec Ideal S4096x1024 .bf16)
      = M2 (fun t l => f (l / 64) t (l % 64)) := eq_M2 fun t l => by
  pointwise
  rfl

/-- The result's key and value gradients, one next to the other in each head. -/
theorem dkv_M2 (f g : ℕ → ℕ → ℕ → ℝ) :
    (addf (shapeCast S4096x2048 (pad S4096x16x2x64 ![0, 0, 1, 0] ![0, 0, 0, 0] ![0, 0, 0, 0] (broadcastInDim S4096x16x1x64 ![0, 1, 3] bcast_S4096x16x64_S4096x16x1x64_0_1_3 (transpose S4096x16x64 [1, 0, 2] (M3 f : FVec Ideal S16x4096x64 .f32) transposes_S16x4096x64_S4096x16x64_1_0_2)) (constant S_ .f32 0x00000000#32) pads_S4096x16x1x64_S4096x16x2x64_000_000_100_000 h_S_) shapeCasts_S4096x16x2x64_S4096x2048) (shapeCast S4096x2048 (pad S4096x16x2x64 ![0, 0, 0, 0] ![0, 0, 1, 0] ![0, 0, 0, 0] (broadcastInDim S4096x16x1x64 ![0, 1, 3] bcast_S4096x16x64_S4096x16x1x64_0_1_3 (transpose S4096x16x64 [1, 0, 2] (M3 g : FVec Ideal S16x4096x64 .f32) transposes_S16x4096x64_S4096x16x64_1_0_2)) (constant S_ .f32 0x00000000#32) pads_S4096x16x1x64_S4096x16x2x64_000_000_010_000 h_S_) shapeCasts_S4096x16x2x64_S4096x2048) : FVec Ideal S4096x2048 .f32)
      = M2 (fun s l => if l % 128 < 64 then g (l / 128) s (l % 128) else f (l / 128) s (l % 128 - 64)) := eq_M2 fun s l => by
  pointwise
  have hl := l.isLt
  change (dite (l.val / 128 < 16 ∧ (1 ≤ l.val / 64 % 2 ∧ l.val / 64 % 2 - 1 < 1) ∧ l.val % 64 < 64)
      (fun _ => ((f (l.val / 128) s.val (l.val % 64) : ℝ) : EReal)) (fun _ => 0)
    + dite (l.val / 128 < 16 ∧ l.val / 64 % 2 < 1 ∧ l.val % 64 < 64)
      (fun _ => ((g (l.val / 128) s.val (l.val % 64) : ℝ) : EReal)) (fun _ => 0)) = _
  generalize l.val = l at hl ⊢
  by_cases hc : l % 128 < 64
  · rw [if_pos hc, dif_neg (by omega), dif_pos (by omega), zero_add, show l % 64 = l % 128 by omega]
  · rw [if_neg hc, dif_pos (by omega), dif_neg (by omega), add_zero, show l % 64 = l % 128 - 64 by omega]

section arrays

variable (hq : V0 (Proc.devRef .tc main_arg0) = (M2 Q : FVec Ideal S4096x1024 .f32))
  (hkv : V0 (Proc.devRef .tc main_arg1) = (M2 KV : FVec Ideal S4096x2048 .f32))
  (hd : V0 (Proc.devRef .tc main_arg2) = (M2 D : FVec Ideal S4096x1024 .f32))

/-- The scaled queries. -/
abbrev qs (Q : ℕ → ℕ → ℝ) : ℕ → ℕ → ℝ := fun t l => Q t l * 0.125

include hq in
/-- The scaled queries of the heads. -/
theorem v3_M3 : res_main_v3 V0 = (M3 (fun h t d => qs Q t (64 * h + d)) : FVec Ideal S16x4096x64 .f32) := by
  unfold res_main_v3
  rw [hq]
  refine (congrArg₂ mulf (heads_M3 Q) (eighth_M3 _)).trans (mulf_M3 _ _)

include hkv in
/-- The keys. -/
theorem v7_M3 : res_main_v7 V0 = (M3 (fun h s d => KV s (128 * h + d)) : FVec Ideal S16x4096x64 .f32) := by
  unfold res_main_v7
  rw [hkv]
  exact keys_M3 KV

include hkv in
/-- The values. -/
theorem v24_M3 : res_main_v24 V0 = (M3 (fun h s d => KV s (128 * h + 64 + d)) : FVec Ideal S16x4096x64 .f32) := by
  unfold res_main_v24
  rw [hkv]
  exact vals_M3 KV

include hd in
/-- The output's gradient. -/
theorem v32_M3 : res_main_v32 V0 = (M3 (fun h t d => D t (64 * h + d)) : FVec Ideal S16x4096x64 .f32) := by
  unfold res_main_v32
  rw [hd]
  exact heads_M3 D

include hq hkv

/-- The scores. -/
theorem v8_M3 : res_main_v8 V0 = (M3 (fun h t s => zh (qs Q) KV h t s) : FVec Ideal S16x4096x4096 .f32) := by
  unfold res_main_v8
  rw [v3_M3 V0 Q hq, v7_M3 V0 KV hkv]
  refine (dot_rows_M3 _ _).trans ?_
  exact M3_congr fun h _ t _ s _ => (zh_half _ _ _ _ _).symm

/-- Their negatives. -/
theorem call0_v0_M3 : res_main_call0_v0 V0 = (M3 (fun h t s => - zh (qs Q) KV h t s) : FVec Ideal S16x4096x4096 .f32) := by
  unfold res_main_call0_v0
  rw [v8_M3 V0 Q KV hq hkv]
  exact negf_M3 _

omit hq hkv in
/-- The array of zeros. -/
theorem zeros_M3 : (broadcastInDim S16x4096x4096 ![] bcast_S_S16x4096x4096 (res_main_call0_call0_cst V0) : FVec Ideal S16x4096x4096 .f32)
    = M3 (fun _ _ _ => 0) := zero_M3 _

/-- The negatives less zero. -/
theorem call0_call0_v3_M3 : res_main_call0_call0_v3 V0
    = (M3 (fun h t s => - zh (qs Q) KV h t s - 0) : FVec Ideal S16x4096x4096 .f32) := by
  unfold res_main_call0_call0_v3
  rw [call0_v0_M3 V0 Q KV hq hkv]
  exact (congrArg₂ subf rfl (zeros_M3 V0)).trans (subf_M3 _ _)

/-- The logarithms of one more than their exponentials. -/
theorem call0_v1_0_M3 : res_main_call0_v1_0 V0
    = (M3 (fun h t s => max (- zh (qs Q) KV h t s) 0 + Real.log (1 + Real.exp (-|- zh (qs Q) KV h t s - 0|)))
        : FVec Ideal S16x4096x4096 .f32) := by
  unfold res_main_call0_v1_0
  rw [call0_call0_v3_M3 V0 Q KV hq hkv, call0_v0_M3 V0 Q KV hq hkv]
  refine (select_une_M3 _ _ _).trans ?_
  refine (congrArg₂ addf ((congrArg₂ maximumf rfl (zeros_M3 V0)).trans (maximumf_M3 _ _)) ?_).trans (addf_M3 _ _)
  refine (congrArg Host.log1p ((congrArg Host.exp ((congrArg Host.negf (absf_M3 _)).trans (negf_M3 _))).trans (exp_M3 _))).trans ?_
  exact log1p_M3 _ fun _ _ _ => (Real.exp_pos _).le

/-- The logarithms of the gates. -/
theorem v16_0_M3 : res_main_v16_0 V0 = (M3 (fun h t s => lb (zh (qs Q) KV h) t s) : FVec Ideal S16x4096x4096 .f32) := by
  unfold res_main_v16_0
  rw [call0_v1_0_M3 V0 Q KV hq hkv]
  exact (negf_M3 _).trans (M3_congr fun h _ t _ s _ => neg_softplus _)

omit hq hkv in
/-- A selection by the causal mask. -/
theorem causal_M3 (f g : ℕ → ℕ → ℕ → ℝ) :
    (select (broadcastInDim S16x4096x4096 ![1, 2] bcast_S4096x4096_S16x4096x4096_1_2 (res_main_v15 V0))
      (M3 f : FVec Ideal S16x4096x4096 .f32) (M3 g) : FVec Ideal S16x4096x4096 .f32)
      = M3 (fun h t s => if s < t then f h t s else g h t s) :=
  select_M3 (fun _ t s => s < t) _ (mask_apply V0) f g

/-- The logarithms of the gates' complements, zero where not causal. -/
theorem v18_0_M3 : res_main_v18_0 V0 = (M3 (fun h t s => lom (zh (qs Q) KV h) t s) : FVec Ideal S16x4096x4096 .f32) := by
  unfold res_main_v18_0 res_main_v18_1
  rw [v16_0_M3 V0 Q KV hq hkv, v8_M3 V0 Q KV hq hkv]
  refine (congrArg₂ (select _) (subf_M3 _ _) (zeros_M3 V0)).trans ((causal_M3 V0 _ _).trans (M3_congr fun h _ t _ s _ => ?_))
  unfold lom lb
  split_ifs
  · ring
  · rfl

omit hq hkv in
/-- The host's zero. -/
theorem zero_init (i : S_.Idx) : (broadcastInDim S_ ![] bcast_S_S_ (constant S_ .f32 0x00000000#32) : FVec Ideal S_ .f32) i = 0 := by
  show Ideal.ofBits .f32 0x00000000#32 = 0
  simp [Ideal.ofBits, Ideal.ieee]

/-- Their sums over the later keys. -/
theorem rem_M3 : (subf (Host.reduceWindowAdd ![1, 1, 4096] ![1, 1, 1] ![0, 0, 0] ![0, 0, 4095] (res_main_v18_0 V0)
      (broadcastInDim S_ ![] bcast_S_S_ (constant S_ .f32 0x00000000#32))
      reduceWindows_S16x4096x4096_S16x4096x4096_w1s1p0_0_w1s1p0_0_w4096s1p0_4095 h_S_) (res_main_v18_0 V0) : FVec Ideal S16x4096x4096 .f32)
    = M3 (fun h t s => rem (zh (qs Q) KV h) t s) := by
  rw [v18_0_M3 V0 Q KV hq hkv]
  refine (congrArg₂ subf (cumsum_back_M3 _ _ zero_init _ _) rfl).trans ((subf_M3 _ _).trans (M3_congr fun h _ t _ s hs => ?_))
  rw [Finset.sum_eq_sum_Ico_succ_bot hs, add_sub_cancel_left]
  rfl

/-- The attention's weights, before the mask. -/
theorem v26_M3 : res_main_v26 V0 = (M3 (fun h t s => Real.exp (lb (zh (qs Q) KV h) t s + rem (zh (qs Q) KV h) t s))
    : FVec Ideal S16x4096x4096 .f32) := by
  unfold res_main_v26
  rw [v16_0_M3 V0 Q KV hq hkv]
  exact (congrArg Host.exp ((congrArg₂ addf rfl (rem_M3 V0 Q KV hq hkv)).trans (addf_M3 _ _))).trans (exp_M3 _)

/-- The attention's weights. -/
theorem v27_0_M3 : res_main_v27_0 V0 = (M3 (fun h t s => wt (zh (qs Q) KV h) t s) : FVec Ideal S16x4096x4096 .f32) := by
  unfold res_main_v27_0 res_main_v27_1
  rw [v26_M3 V0 Q KV hq hkv]
  exact (congrArg₂ (select _) rfl (zeros_M3 V0)).trans (causal_M3 V0 _ _)

include hd

/-- The weights times their gradients. -/
theorem v37_M3 : res_main_v37 V0 = (M3 (fun h t s => da (zh (qs Q) KV h) (wh D KV h) t s) : FVec Ideal S16x4096x4096 .f32) := by
  unfold res_main_v37 res_main_v27_1
  rw [v26_M3 V0 Q KV hq hkv, v32_M3 V0 D hd, v24_M3 V0 KV hkv]
  refine (congrArg₂ mulf ((congrArg₂ (select _) (dot_rows_M3 _ _) (zeros_M3 V0)).trans (causal_M3 V0 _ _)) rfl).trans
    ((mulf_M3 _ _).trans (M3_congr fun h _ t _ s _ => ?_))
  unfold da wt
  rw [wh_half]
  split_ifs
  · rfl
  · rw [zero_mul, mul_zero]

/-- Their sums over the earlier keys. -/
theorem v45_M3 : res_main_v45 V0 = (M3 (fun h t s => if s < t then pfx (zh (qs Q) KV h) (wh D KV h) t s else 0)
    : FVec Ideal S16x4096x4096 .f32) := by
  unfold res_main_v45 res_main_v18_1
  rw [v37_M3 V0 Q KV D hq hkv hd]
  refine (congrArg₂ (select _) ((congrArg₂ addf (negf_M3 _) (cumsum_M3 rfl _ _ zero_init _ _)).trans (addf_M3 _ _))
    (zeros_M3 V0)).trans ((causal_M3 V0 _ _).trans (M3_congr fun h _ t _ s _ => ?_))
  rw [Finset.sum_range_succ, neg_add_eq_sub, add_sub_cancel_right]
  rfl

/-- The scores' gradient. -/
theorem v49_M3 : res_main_v49 V0 = (M3 (fun h t s => dzh (qs Q) D KV h t s) : FVec Ideal S16x4096x4096 .f32) := by
  unfold res_main_v49
  rw [v37_M3 V0 Q KV D hq hkv hd, v45_M3 V0 Q KV D hq hkv hd, call0_v0_M3 V0 Q KV hq hkv, call0_v1_0_M3 V0 Q KV hq hkv]
  refine (congrArg₂ addf (negf_M3 _) ((congrArg Host.negf ((congrArg₂ mulf ((congrArg Host.negf (addf_M3 _ _)).trans (negf_M3 _))
    ((congrArg Host.exp ((congrArg₂ subf (select_top_M3 _ _ _ _) (select_top_M3 _ _ _ _)).trans (subf_M3 _ _))).trans
      (exp_M3 _))).trans (mulf_M3 _ _))).trans (negf_M3 _))).trans ((addf_M3 _ _).trans (M3_congr fun h _ t _ s _ => ?_))
  refine Eq.trans ?_ (dz_sums (zh (qs Q) KV h) (wh D KV h) t s)
  have he := neg_softplus (zh (qs Q) KV h t s)
  rw [show - zh (qs Q) KV h t s - (max (- zh (qs Q) KV h t s) 0 + Real.log (1 + Real.exp (-|- zh (qs Q) KV h t s - 0|)))
    = - sp (zh (qs Q) KV h t s) by linarith]

/-- The query gradient. -/
theorem ref_dq : (truncf .bf16 (shapeCast S4096x1024 (transpose S4096x16x64 [1, 0, 2] (mulf (Host.dotGeneral (φ₁ := .f32) (φ₂ := .f32) dot_S16x4096x4096_S16x4096x64_S16x4096x64_2_1_1_2_0_0 none (res_main_v49 V0) (res_main_v7 V0)) (broadcastInDim S16x4096x64 ![] bcast_S_S16x4096x64 (constant S_ .f32 0x3E000000#32))) transposes_S16x4096x64_S4096x16x64_1_0_2) shapeCasts_S4096x16x64_S4096x1024 : FVec Ideal S4096x1024 .f32) bitsLt_bf16_f32 : FVec Ideal S4096x1024 .bf16)
    = M2 (fun t l => dqk (qs Q) D KV (l / 64) 4096 t (l % 64) * 0.125) := by
  rw [v49_M3 V0 Q KV D hq hkv hd, v7_M3 V0 KV hkv, dot_keys_M3, eighth_M3, mulf_M3]
  exact dq_M2 _

/-- The key and value gradients. -/
theorem ref_dkv : (addf (shapeCast S4096x2048 (pad S4096x16x2x64 ![0, 0, 1, 0] ![0, 0, 0, 0] ![0, 0, 0, 0] (broadcastInDim S4096x16x1x64 ![0, 1, 3] bcast_S4096x16x64_S4096x16x1x64_0_1_3 (transpose S4096x16x64 [1, 0, 2] (transpose S16x4096x64 [0, 2, 1] (Host.dotGeneral (φ₁ := .f32) (φ₂ := .f32) dot_S16x4096x64_S16x4096x4096_S16x64x4096_1_1_2_2_0_0 none (res_main_v32 V0) (res_main_v27_0 V0)) transposes_S16x64x4096_S16x4096x64_0_2_1) transposes_S16x4096x64_S4096x16x64_1_0_2)) (constant S_ .f32 0x00000000#32) pads_S4096x16x1x64_S4096x16x2x64_000_000_100_000 h_S_) shapeCasts_S4096x16x2x64_S4096x2048) (shapeCast S4096x2048 (pad S4096x16x2x64 ![0, 0, 0, 0] ![0, 0, 1, 0] ![0, 0, 0, 0] (broadcastInDim S4096x16x1x64 ![0, 1, 3] bcast_S4096x16x64_S4096x16x1x64_0_1_3 (transpose S4096x16x64 [1, 0, 2] (Host.dotGeneral (φ₁ := .f32) (φ₂ := .f32) dot_S16x4096x4096_S16x4096x64_S16x4096x64_1_1_2_2_0_0 none (res_main_v49 V0) (res_main_v3 V0)) transposes_S16x4096x64_S4096x16x64_1_0_2)) (constant S_ .f32 0x00000000#32) pads_S4096x16x1x64_S4096x16x2x64_000_000_010_000 h_S_) shapeCasts_S4096x16x2x64_S4096x2048) : FVec Ideal S4096x2048 .f32)
    = M2 (fun s l => ∑ b ∈ Finset.range 32, cb (qs Q) D KV (128 * b) (l / 128) s (l % 128)) := by
  rw [v49_M3 V0 Q KV D hq hkv hd, v3_M3 V0 Q hq, v32_M3 V0 D hd, v27_0_M3 V0 Q KV hq hkv, dot_values_M3, dot_queries_M3]
  refine (dkv_M2 _ _).trans (M2_congr fun s _ l _ => ?_)
  unfold cb
  rw [Finset.sum_add_distrib, sum_blocks (fun t => dzh (qs Q) D KV (l / 128) t s * qh (qs Q) (l / 128) t (l % 128)) 32,
    sum_blocks (fun t => wt (zh (qs Q) KV (l / 128)) t s * dh D (l / 128) t (l % 128)) 32]
  by_cases hc : l % 128 < 64
  · rw [if_pos hc]
    rw [Finset.sum_eq_zero (f := fun t => wt _ t s * _) (fun t _ => by rw [dh, if_neg (by omega), mul_zero]), add_zero]
    exact Finset.sum_congr rfl fun t _ => by rw [qh, if_pos hc]
  · rw [if_neg hc]
    rw [Finset.sum_eq_zero (f := fun t => dzh _ _ _ _ t s * _) (fun t _ => by rw [qh, if_neg hc, mul_zero]), zero_add]
    exact Finset.sum_congr rfl fun t _ => by rw [dh, if_pos (by omega), mul_comm]

end arrays

end Cert.Proof.ReferenceIdeal
-- ==== Proof.HostValue.lean ====
module

public import proofs.«01_k».proof.Proof.GridValue
public import proofs.«01_k».proof.Proof.RefValue
public import Idealize.ShloMosaic.Lib.Claim

/-!
What the kernel's host code hands to the kernel, over real numbers: the scaled queries, the keys and values, the output's
gradient, and for each query the sums over the keys after each block of 256.
-/

@[expose] public section

noncomputable section

namespace Cert.Proof.KernelIdeal

open Idealize.ShloMosaic Idealize.ShloMosaic.TcCoe
open Cert.KernelIdeal Cert.KernelIdeal.Gen
open Cert.Proof.RealMat Cert.Proof.RealCube Cert.Proof.Model
open Cert.Proof.ReferenceIdeal (qs)

variable (m : (ℓ : Loc nD τ sig) → Buf (Elt Ideal) ℓ) (c : Dev nD) (Q D KV : ℕ → ℕ → ℝ)

/-- The keys and values. -/
theorem V_v28 (h : m ((c.tc : Thread nD τ).loc main_arg1) = (M2 KV : FVec Ideal S4096x2048 .f32)) :
    V m c main_v28 = (M2 KV : FVec Ideal S4096x2048 .bf16) := by
  entry_read
  exact h

/-- The output's gradient. -/
theorem V_v29 (h : m ((c.tc : Thread nD τ).loc main_arg2) = (M2 D : FVec Ideal S4096x1024 .f32)) :
    V m c main_v29 = (M2 D : FVec Ideal S4096x1024 .bf16) := by
  entry_read
  exact h

/-- The scaled queries. -/
theorem V_v27 (h : m ((c.tc : Thread nD τ).loc main_arg0) = (M2 Q : FVec Ideal S4096x1024 .f32)) :
    V m c main_v27 = (M2 (qs Q) : FVec Ideal S4096x1024 .bf16) := by
  unfold V
  simp only [List.flatten_cons, List.flatten_nil, List.append_nil, StableHlo.after_append]
  simp only [hostOps0_5, hostOps0_4, hostOps0_3, hostOps0_2, hostOps0_1, hostOps0, StableHlo.TRef.binary,
    StableHlo.TRef.nullary, StableHlo.TRef.unary, StableHlo.TRef.ternary, StableHlo.TRef.toBuf, StableHlo.TRef.ofBuf, cast_eq]
  after_results_simp
  rw [show m (c, Proc.devRef .tc main_arg0) = (M2 Q : FVec Ideal S4096x1024 .f32) from h]
  show truncf .bf16 (mulf (M2 Q : FVec Ideal S4096x1024 .f32) (broadcast S4096x1024 (Scalar.ofBits (F := Ideal) .f32 0x3E000000#32))) _ = _
  rw [broadcast_eighth_M2, mulf_M2]
  rfl

/-- The array of the sums over the later keys, as the reference's own host operations write it. -/
theorem V_v24 (V0 : Valuation Cert.ReferenceIdeal.τ Cert.ReferenceIdeal.sig (Elt Ideal))
    (h0 : V0 (Proc.devRef .tc Cert.ReferenceIdeal.main_arg0) = m ((c.tc : Thread nD τ).loc main_arg0))
    (h1 : V0 (Proc.devRef .tc Cert.ReferenceIdeal.main_arg1) = m ((c.tc : Thread nD τ).loc main_arg1)) :
    V m c main_v24 = broadcastInDim S16x32x16x1x128 ![0, 1, 2, 4] bcast_S16x32x16x128_S16x32x16x1x128_0_1_2_4
      (transpose S16x32x16x128 [0, 1, 3, 2] (shapeCast S16x32x128x16 (Host.slice S16x4096x16 ![0, 0, 255] ![1, 1, 256]
        (subf (Host.reduceWindowAdd ![1, 1, 4096] ![1, 1, 1] ![0, 0, 0] ![0, 0, 4095] (Cert.ReferenceIdeal.Value.res_main_v18_0 V0)
          (broadcastInDim Cert.ReferenceIdeal.S_ ![] Cert.ReferenceIdeal.Gen.bcast_S_S_ (constant Cert.ReferenceIdeal.S_ .f32 0x00000000#32))
          Cert.ReferenceIdeal.Gen.reduceWindows_S16x4096x4096_S16x4096x4096_w1s1p0_0_w1s1p0_0_w4096s1p0_4095
          Cert.ReferenceIdeal.Gen.h_S_) (Cert.ReferenceIdeal.Value.res_main_v18_0 V0) : FVec Ideal S16x4096x4096 .f32)
        slicesBy_S16x4096x4096_S16x4096x16_0s1_0s1_255s256) shapeCasts_S16x4096x16_S16x32x128x16)
        transposes_S16x32x128x16_S16x32x16x128_0_1_3_2) := by
  unfold V
  simp only [List.flatten_cons, List.flatten_nil, List.append_nil, StableHlo.after_append]
  simp only [hostOps0_5, hostOps0_4, hostOps0_3, hostOps0_2, hostOps0_1, hostOps0, StableHlo.TRef.binary,
    StableHlo.TRef.nullary, StableHlo.TRef.unary, StableHlo.TRef.ternary, StableHlo.TRef.toBuf, StableHlo.TRef.ofBuf, cast_eq]
  after_results_simp
  simp only [show m (c, Proc.devRef .tc main_arg0) = V0 (Proc.devRef .tc Cert.ReferenceIdeal.main_arg0) from h0.symm,
    show m (c, Proc.devRef .tc main_arg1) = V0 (Proc.devRef .tc Cert.ReferenceIdeal.main_arg1) from h1.symm]
  unfold Cert.ReferenceIdeal.Value.res_main_v18_0 Cert.ReferenceIdeal.Value.res_main_v18_1
    Cert.ReferenceIdeal.Value.res_main_v16_0 Cert.ReferenceIdeal.Value.res_main_call0_v1_0
    Cert.ReferenceIdeal.Value.res_main_call0_call0_v3 Cert.ReferenceIdeal.Value.res_main_call0_v0
    Cert.ReferenceIdeal.Value.res_main_v8 Cert.ReferenceIdeal.Value.res_main_v3 Cert.ReferenceIdeal.Value.res_main_v7
    Cert.ReferenceIdeal.Value.res_main_v15 Cert.ReferenceIdeal.Value.res_main_call0_call0_cst
  rfl

/-- Its entries. -/
theorem V_v24_M2 (V0 : Valuation Cert.ReferenceIdeal.τ Cert.ReferenceIdeal.sig (Elt Ideal))
    (h0 : V0 (Proc.devRef .tc Cert.ReferenceIdeal.main_arg0) = m ((c.tc : Thread nD τ).loc main_arg0))
    (h1 : V0 (Proc.devRef .tc Cert.ReferenceIdeal.main_arg1) = m ((c.tc : Thread nD τ).loc main_arg1))
    (hq : m ((c.tc : Thread nD τ).loc main_arg0) = (M2 Q : FVec Ideal S4096x1024 .f32))
    (hkv : m ((c.tc : Thread nD τ).loc main_arg1) = (M2 KV : FVec Ideal S4096x2048 .f32))
    (h : Fin 16) (b : Fin 32) (k : Fin 16) (r : Fin 128) :
    V m c main_v24 (ValueIdx.ix5 h b k 0 r : S16x32x16x1x128.Idx)
      = ((rem (zh (qs Q) KV h.val) (128 * b.val + r.val) (256 * k.val + 255) : ℝ) : EReal) := by
  rw [V_v24 m c V0 h0 h1, Cert.Proof.ReferenceIdeal.rem_M3 V0 Q KV (h0.trans hq) (h1.trans hkv)]
  pointwise
  show ((rem (zh (qs Q) KV h.val) (b.val * 128 + r.val) (255 + 256 * k.val) : ℝ) : EReal) = _
  rw [mul_comm, add_comm 255]

end Cert.Proof.KernelIdeal
-- ==== Proof.Finite.lean ====
module

public import proofs.«01_k».proof.Pre_finite
public import proofs.«01_k».proof.Proof.RealMat
public import Idealize.ShloMosaic.Lib.ReduceAll

/-!
The precondition: inputs of finite entries are matrices of real numbers.
-/

@[expose] public section

noncomputable section

namespace Cert.Proof.Finite

open Idealize.ShloMosaic
open Cert.Proof.RealMat

/-- The side conditions that the precondition states. -/
theorem facts : Cert.Pre_finite.Facts where
  bcast_S_S4096x1024 := by decide
  reducesTo_S4096x1024_S_d0_1 := by decide
  h_S_ := by decide
  bcast_S_S4096x2048 := by decide
  reducesTo_S4096x2048_S_d0_1 := by decide

attribute [local instance] facts

/-- An extended real of absolute value below infinity is a real number. -/
theorem real_of_abs_lt (x : EReal) (h : Ideal.cmp .olt (max x (-x)) (Ideal.ofBits .f32 0x7F800000#32) = 1#1) :
    ∃ r : ℝ, x = (r : EReal) := by
  rw [show Ideal.ofBits .f32 0x7F800000#32 = ⊤ by simp [Ideal.ofBits, Ideal.ieee]] at h
  induction x using EReal.rec with
  | bot => exfalso; revert h; simp [Ideal.cmp]
  | coe r => exact ⟨r, rfl⟩
  | top => exfalso; revert h; simp [Ideal.cmp]

/-- A matrix whose entries are real numbers. -/
theorem exists_M2 {n m : ℕ} (x : FVec Ideal ⟨2, ![n, m]⟩ .f32) (h : ∀ i, ∃ r : ℝ, x i = (r : EReal)) :
    ∃ f : ℕ → ℕ → ℝ, x = M2 f := by
  choose g hg using h
  refine ⟨fun a b => if hab : a < n ∧ b < m then g (ValueIdx.ix2 ⟨a, hab.1⟩ ⟨b, hab.2⟩) else 0, eq_M2 fun r c => ?_⟩
  rw [hg, dif_pos ⟨r.isLt, c.isLt⟩]

/-- What the precondition says of the three inputs. -/
theorem of_finite (q : FVec Ideal ⟨2, ![4096, 1024]⟩ .f32) (kv : FVec Ideal ⟨2, ![4096, 2048]⟩ .f32)
    (d : FVec Ideal ⟨2, ![4096, 1024]⟩ .f32) (h : Cert.Pre_finite.fn (F := Ideal) q kv d = fun _ => 1#1) :
    (∃ f, q = M2 f) ∧ (∃ f, kv = M2 f) ∧ ∃ f, d = M2 f := by
  have h0 := congrFun h (fun a => a.elim0)
  unfold Cert.Pre_finite.fn at h0
  obtain ⟨h1, h2⟩ := IntOp.andi_eq_one.1 h0
  obtain ⟨h3, h4⟩ := IntOp.andi_eq_one.1 h1
  haveI : Subsingleton (Cert.Pre_finite.S_.Idx) := ⟨fun a b => funext fun i => i.elim0⟩
  exact ⟨exists_M2 q fun i => real_of_abs_lt _ (Host.reduce_andi_all _ _ _ _ _ h3 i),
    exists_M2 kv fun i => real_of_abs_lt _ (Host.reduce_andi_all _ _ _ _ _ h4 i),
    exists_M2 d fun i => real_of_abs_lt _ (Host.reduce_andi_all _ _ _ _ _ h2 i)⟩

end Cert.Proof.Finite
-- ==== Proof.FfnDh.lean ====
module

public import proofs.«01_k».proof.Defs
public import proofs.«01_k».proof.Proof.Gen.Kernel2
public import proofs.«01_k».proof.Proof.Gen.Kernel2Ideal.Value
public import proofs.«01_k».proof.Proof.Gen.Reference2Ideal.Run
public import Idealize.ShloMosaic.Lib.Claim
public import Idealize.ShloMosaic.Lib.Pipeline.ValueKit
public import Idealize.ShloMosaic.Lib.Pointwise

/-! The gradient of a feed-forward layer's up projection with respect to its input: the kernel computes the product block by block, a block of rows of its result from
a block of rows of either operand. -/

@[expose] public section

namespace Cert.Proof.FfnDh

open Idealize.ShloMosaic Idealize.ShloMosaic.TcCoe Idealize.ShloMosaic.Tactic Idealize.SL.Sem
open Cert.Kernel2Ideal Cert.Kernel2Ideal.Gen

/-- The blocks that grid point `t` works on. -/
theorem idx : ∀ t : Fin cfg0.N, win0_0.index t = ![t.val / 2, 0]
    ∧ win0_1.index t = ![t.val % 2, 0]
    ∧ win0_2.index t = ![t.val / 2, t.val % 2] := by decide +kernel

/-- The kernel's frame at the machine's own formats: its text is its idealization's, whose run is over any floats. -/
theorem frame_kernel : Cert.quiescent_Kernel2 := by
  intro m ρ _
  have hb : (Cert.Kernel2.defs₀ (F := Bits)) = defs₀ := congrArg Defs.onTc (funext fun l => match l with | 0 => rfl)
  have hd : (Cert.Kernel2.defs (F := Bits)) = defs := by
    unfold Cert.Kernel2.defs Cert.Kernel2Ideal.defs
    rw [hb]
    rfl
  rw [hd, show (Cert.Kernel2.main (F := Bits)) = main from rfl]
  exact Gen.frame (F := Bits) m ρ

/-- The idealized kernel's frame. -/
theorem frame_ideal : Cert.quiescent_Kernel2Ideal := fun m ρ _ => Gen.frame (F := Ideal) m ρ

/-- The reference's frame: host operations only, and no semaphore declared. -/
theorem frame_reference : Cert.quiescent_Reference2Ideal := fun m ρ _ =>
  (θ_run Cert.Reference2Ideal.defs _ _).mono
    (fun _ h => ⟨fun c => (h c).2, funext fun s => by rcases s with ⟨_, s | s⟩ <;> exact s.elim0⟩)
    (Cert.Reference2Ideal.Value.run (F := Ideal) m ρ)

set_option maxRecDepth 65536 in
/-- Each block of the kernel's result is the block of the reference's: the same sums of products. -/
theorem algebraic : Cert.algebraic_Kernel2Ideal_Reference2Ideal := by
  pair_intro
  · run_from Value.run_blocks (F := Ideal) m g & Gen.frame (F := Ideal) m g
  · run_from Cert.Reference2Ideal.Value.run (F := Ideal) m' g'
    refine ((dats m 0 c).arrAt_eq_of_covers 2 _ (by decide +kernel) fun t hf y => ?_).symm
    blk_simp
    rw [after0_2]
    frame_out
    pointwise [k0_pay1]
    blk_point [iblk, V, (idx t).1, (idx t).2.1, (idx t).2.2]

end Cert.Proof.FfnDh
-- ==== Proof.FfnDwUp.lean ====
module

public import proofs.«01_k».proof.Defs
public import proofs.«01_k».proof.Proof.Gen.Kernel3
public import proofs.«01_k».proof.Proof.Gen.Kernel3Ideal.Value
public import proofs.«01_k».proof.Proof.Gen.Reference3Ideal.Run
public import Idealize.ShloMosaic.Lib.Claim
public import Idealize.ShloMosaic.Lib.Pipeline.ValueKit
public import Idealize.ShloMosaic.Lib.Pointwise

/-! The gradient of a feed-forward layer's up projection with respect to its weights: the kernel computes the product block by block, a block of rows of its result from
a block of columns of either operand. -/

@[expose] public section

namespace Cert.Proof.FfnDwUp

open Idealize.ShloMosaic Idealize.ShloMosaic.TcCoe Idealize.ShloMosaic.Tactic Idealize.SL.Sem
open Cert.Kernel3Ideal Cert.Kernel3Ideal.Gen

/-- The blocks that grid point `t` works on. -/
theorem idx : ∀ t : Fin cfg0.N, win0_0.index t = ![0, t.val / 11]
    ∧ win0_1.index t = ![0, t.val % 11]
    ∧ win0_2.index t = ![t.val / 11, t.val % 11] := by decide +kernel

/-- The kernel's frame at the machine's own formats: its text is its idealization's, whose run is over any floats. -/
theorem frame_kernel : Cert.quiescent_Kernel3 := by
  intro m ρ _
  have hb : (Cert.Kernel3.defs₀ (F := Bits)) = defs₀ := congrArg Defs.onTc (funext fun l => match l with | 0 => rfl)
  have hd : (Cert.Kernel3.defs (F := Bits)) = defs := by
    unfold Cert.Kernel3.defs Cert.Kernel3Ideal.defs
    rw [hb]
    rfl
  rw [hd, show (Cert.Kernel3.main (F := Bits)) = main from rfl]
  exact Gen.frame (F := Bits) m ρ

/-- The idealized kernel's frame. -/
theorem frame_ideal : Cert.quiescent_Kernel3Ideal := fun m ρ _ => Gen.frame (F := Ideal) m ρ

/-- The reference's frame: host operations only, and no semaphore declared. -/
theorem frame_reference : Cert.quiescent_Reference3Ideal := fun m ρ _ =>
  (θ_run Cert.Reference3Ideal.defs _ _).mono
    (fun _ h => ⟨fun c => (h c).2, funext fun s => by rcases s with ⟨_, s | s⟩ <;> exact s.elim0⟩)
    (Cert.Reference3Ideal.Value.run (F := Ideal) m ρ)

set_option maxRecDepth 65536 in
/-- Each block of the kernel's result is the block of the reference's: the same sums of products. -/
theorem algebraic : Cert.algebraic_Kernel3Ideal_Reference3Ideal := by
  pair_intro
  · run_from Value.run_blocks (F := Ideal) m g & Gen.frame (F := Ideal) m g
  · run_from Cert.Reference3Ideal.Value.run (F := Ideal) m' g'
    refine ((dats m 0 c).arrAt_eq_of_covers 2 _ (by decide +kernel) fun t hf y => ?_).symm
    blk_simp
    rw [after0_2]
    frame_out
    pointwise [k0_pay1]
    refine (Finset.sum_congr (M := EReal) rfl fun k _ => EReal.mul_comm _ _).trans ?_
    blk_point [iblk, V, (idx t).1, (idx t).2.1, (idx t).2.2]

end Cert.Proof.FfnDwUp
-- ==== Proof.FfnDgate.lean ====
module

public import proofs.«01_k».proof.Defs
public import proofs.«01_k».proof.Proof.Gen.Kernel4
public import proofs.«01_k».proof.Proof.Gen.Kernel4Ideal.Value
public import proofs.«01_k».proof.Proof.Gen.Reference4Ideal.Run
public import Idealize.ShloMosaic.Lib.Claim
public import Idealize.ShloMosaic.Lib.Pipeline.ValueKit
public import Idealize.ShloMosaic.Lib.Pointwise

/-! The gradient of a feed-forward layer's down projection with respect to its input: the kernel computes the product block by block, a block of rows of its result from
a block of rows of either operand. -/

@[expose] public section

namespace Cert.Proof.FfnDgate

open Idealize.ShloMosaic Idealize.ShloMosaic.TcCoe Idealize.ShloMosaic.Tactic Idealize.SL.Sem
open Cert.Kernel4Ideal Cert.Kernel4Ideal.Gen

/-- The blocks that grid point `t` works on. -/
theorem idx : ∀ t : Fin cfg0.N, win0_0.index t = ![t.val / 2, 0]
    ∧ win0_1.index t = ![t.val % 2, 0]
    ∧ win0_2.index t = ![t.val / 2, t.val % 2] := by decide +kernel

/-- The kernel's frame at the machine's own formats: its text is its idealization's, whose run is over any floats. -/
theorem frame_kernel : Cert.quiescent_Kernel4 := by
  intro m ρ _
  have hb : (Cert.Kernel4.defs₀ (F := Bits)) = defs₀ := congrArg Defs.onTc (funext fun l => match l with | 0 => rfl)
  have hd : (Cert.Kernel4.defs (F := Bits)) = defs := by
    unfold Cert.Kernel4.defs Cert.Kernel4Ideal.defs
    rw [hb]
    rfl
  rw [hd, show (Cert.Kernel4.main (F := Bits)) = main from rfl]
  exact Gen.frame (F := Bits) m ρ

/-- The idealized kernel's frame. -/
theorem frame_ideal : Cert.quiescent_Kernel4Ideal := fun m ρ _ => Gen.frame (F := Ideal) m ρ

/-- The reference's frame: host operations only, and no semaphore declared. -/
theorem frame_reference : Cert.quiescent_Reference4Ideal := fun m ρ _ =>
  (θ_run Cert.Reference4Ideal.defs _ _).mono
    (fun _ h => ⟨fun c => (h c).2, funext fun s => by rcases s with ⟨_, s | s⟩ <;> exact s.elim0⟩)
    (Cert.Reference4Ideal.Value.run (F := Ideal) m ρ)

set_option maxRecDepth 65536 in
/-- Each block of the kernel's result is the block of the reference's: the same sums of products. -/
theorem algebraic : Cert.algebraic_Kernel4Ideal_Reference4Ideal := by
  pair_intro
  · run_from Value.run_blocks (F := Ideal) m g & Gen.frame (F := Ideal) m g
  · run_from Cert.Reference4Ideal.Value.run (F := Ideal) m' g'
    refine ((dats m 0 c).arrAt_eq_of_covers 2 _ (by decide +kernel) fun t hf y => ?_).symm
    blk_simp
    rw [after0_2]
    frame_out
    pointwise [k0_pay1]
    blk_point [iblk, V, (idx t).1, (idx t).2.1, (idx t).2.2]

end Cert.Proof.FfnDgate
-- ==== Proof.FfnDwDown.lean ====
module

public import proofs.«01_k».proof.Defs
public import proofs.«01_k».proof.Proof.Gen.Kernel5
public import proofs.«01_k».proof.Proof.Gen.Kernel5Ideal.Value
public import proofs.«01_k».proof.Proof.Gen.Reference5Ideal.Run
public import Idealize.ShloMosaic.Lib.Claim
public import Idealize.ShloMosaic.Lib.Pipeline.ValueKit
public import Idealize.ShloMosaic.Lib.Pointwise

/-! The gradient of a feed-forward layer's down projection with respect to its weights: the kernel computes the product block by block, a block of rows of its result from
a block of columns of either operand. -/

@[expose] public section

namespace Cert.Proof.FfnDwDown

open Idealize.ShloMosaic Idealize.ShloMosaic.TcCoe Idealize.ShloMosaic.Tactic Idealize.SL.Sem
open Cert.Kernel5Ideal Cert.Kernel5Ideal.Gen

/-- The blocks that grid point `t` works on. -/
theorem idx : ∀ t : Fin cfg0.N, win0_0.index t = ![0, t.val / 1]
    ∧ win0_1.index t = ![0, t.val % 1]
    ∧ win0_2.index t = ![t.val / 1, t.val % 1] := by decide +kernel

/-- The kernel's frame at the machine's own formats: its text is its idealization's, whose run is over any floats. -/
theorem frame_kernel : Cert.quiescent_Kernel5 := by
  intro m ρ _
  have hb : (Cert.Kernel5.defs₀ (F := Bits)) = defs₀ := congrArg Defs.onTc (funext fun l => match l with | 0 => rfl)
  have hd : (Cert.Kernel5.defs (F := Bits)) = defs := by
    unfold Cert.Kernel5.defs Cert.Kernel5Ideal.defs
    rw [hb]
    rfl
  rw [hd, show (Cert.Kernel5.main (F := Bits)) = main from rfl]
  exact Gen.frame (F := Bits) m ρ

/-- The idealized kernel's frame. -/
theorem frame_ideal : Cert.quiescent_Kernel5Ideal := fun m ρ _ => Gen.frame (F := Ideal) m ρ

/-- The reference's frame: host operations only, and no semaphore declared. -/
theorem frame_reference : Cert.quiescent_Reference5Ideal := fun m ρ _ =>
  (θ_run Cert.Reference5Ideal.defs _ _).mono
    (fun _ h => ⟨fun c => (h c).2, funext fun s => by rcases s with ⟨_, s | s⟩ <;> exact s.elim0⟩)
    (Cert.Reference5Ideal.Value.run (F := Ideal) m ρ)

set_option maxRecDepth 65536 in
/-- Each block of the kernel's result is the block of the reference's: the same sums of products. -/
theorem algebraic : Cert.algebraic_Kernel5Ideal_Reference5Ideal := by
  pair_intro
  · run_from Value.run_blocks (F := Ideal) m g & Gen.frame (F := Ideal) m g
  · run_from Cert.Reference5Ideal.Value.run (F := Ideal) m' g'
    refine ((dats m 0 c).arrAt_eq_of_covers 2 _ (by decide +kernel) fun t hf y => ?_).symm
    blk_simp
    rw [after0_2]
    frame_out
    pointwise [k0_pay1]
    refine (Finset.sum_congr (M := EReal) rfl fun k _ => EReal.mul_comm _ _).trans ?_
    blk_point [iblk, V, (idx t).1, (idx t).2.1, (idx t).2.2]

end Cert.Proof.FfnDwDown
-- ==== Proof.AttnDo.lean ====
module

public import proofs.«01_k».proof.Defs
public import proofs.«01_k».proof.Proof.Gen.Kernel6
public import proofs.«01_k».proof.Proof.Gen.Kernel6Ideal.Value
public import proofs.«01_k».proof.Proof.Gen.Reference6Ideal.Run
public import Idealize.ShloMosaic.Lib.Claim
public import Idealize.ShloMosaic.Lib.Pipeline.ValueKit
public import Idealize.ShloMosaic.Lib.Pointwise

/-! The gradient of the attention's output projection with respect to its input: the kernel computes the product block by block, a block of rows of its result from
a block of rows of either operand. -/

@[expose] public section

namespace Cert.Proof.AttnDo

open Idealize.ShloMosaic Idealize.ShloMosaic.TcCoe Idealize.ShloMosaic.Tactic Idealize.SL.Sem
open Cert.Kernel6Ideal Cert.Kernel6Ideal.Gen

/-- The blocks that grid point `t` works on. -/
theorem idx : ∀ t : Fin cfg0.N, win0_0.index t = ![t.val / 1, 0]
    ∧ win0_1.index t = ![t.val % 1, 0]
    ∧ win0_2.index t = ![t.val / 1, t.val % 1] := by decide +kernel

/-- The kernel's frame at the machine's own formats: its text is its idealization's, whose run is over any floats. -/
theorem frame_kernel : Cert.quiescent_Kernel6 := by
  intro m ρ _
  have hb : (Cert.Kernel6.defs₀ (F := Bits)) = defs₀ := congrArg Defs.onTc (funext fun l => match l with | 0 => rfl)
  have hd : (Cert.Kernel6.defs (F := Bits)) = defs := by
    unfold Cert.Kernel6.defs Cert.Kernel6Ideal.defs
    rw [hb]
    rfl
  rw [hd, show (Cert.Kernel6.main (F := Bits)) = main from rfl]
  exact Gen.frame (F := Bits) m ρ

/-- The idealized kernel's frame. -/
theorem frame_ideal : Cert.quiescent_Kernel6Ideal := fun m ρ _ => Gen.frame (F := Ideal) m ρ

/-- The reference's frame: host operations only, and no semaphore declared. -/
theorem frame_reference : Cert.quiescent_Reference6Ideal := fun m ρ _ =>
  (θ_run Cert.Reference6Ideal.defs _ _).mono
    (fun _ h => ⟨fun c => (h c).2, funext fun s => by rcases s with ⟨_, s | s⟩ <;> exact s.elim0⟩)
    (Cert.Reference6Ideal.Value.run (F := Ideal) m ρ)

set_option maxRecDepth 65536 in
/-- Each block of the kernel's result is the block of the reference's: the same sums of products. -/
theorem algebraic : Cert.algebraic_Kernel6Ideal_Reference6Ideal := by
  pair_intro
  · run_from Value.run_blocks (F := Ideal) m g & Gen.frame (F := Ideal) m g
  · run_from Cert.Reference6Ideal.Value.run (F := Ideal) m' g'
    refine ((dats m 0 c).arrAt_eq_of_covers 2 _ (by decide +kernel) fun t hf y => ?_).symm
    blk_simp
    rw [after0_2]
    frame_out
    pointwise [k0_pay1]
    blk_point [iblk, V, (idx t).1, (idx t).2.1, (idx t).2.2]

end Cert.Proof.AttnDo
-- ==== Proof.SquareDw.lean ====
module

public import proofs.«01_k».proof.Defs
public import proofs.«01_k».proof.Proof.Gen.Kernel7
public import proofs.«01_k».proof.Proof.Gen.Kernel7Ideal.Value
public import proofs.«01_k».proof.Proof.Gen.Reference7Ideal.Run
public import Idealize.ShloMosaic.Lib.Claim
public import Idealize.ShloMosaic.Lib.Pipeline.ValueKit
public import Idealize.ShloMosaic.Lib.Pointwise

/-! The gradient of a square projection with respect to its weights: the kernel computes the product block by block, a block of rows of its result from
a block of columns of either operand. -/

@[expose] public section

namespace Cert.Proof.SquareDw

open Idealize.ShloMosaic Idealize.ShloMosaic.TcCoe Idealize.ShloMosaic.Tactic Idealize.SL.Sem
open Cert.Kernel7Ideal Cert.Kernel7Ideal.Gen

/-- The blocks that grid point `t` works on. -/
theorem idx : ∀ t : Fin cfg0.N, win0_0.index t = ![0, t.val / 1]
    ∧ win0_1.index t = ![0, t.val % 1]
    ∧ win0_2.index t = ![t.val / 1, t.val % 1] := by decide +kernel

/-- The kernel's frame at the machine's own formats: its text is its idealization's, whose run is over any floats. -/
theorem frame_kernel : Cert.quiescent_Kernel7 := by
  intro m ρ _
  have hb : (Cert.Kernel7.defs₀ (F := Bits)) = defs₀ := congrArg Defs.onTc (funext fun l => match l with | 0 => rfl)
  have hd : (Cert.Kernel7.defs (F := Bits)) = defs := by
    unfold Cert.Kernel7.defs Cert.Kernel7Ideal.defs
    rw [hb]
    rfl
  rw [hd, show (Cert.Kernel7.main (F := Bits)) = main from rfl]
  exact Gen.frame (F := Bits) m ρ

/-- The idealized kernel's frame. -/
theorem frame_ideal : Cert.quiescent_Kernel7Ideal := fun m ρ _ => Gen.frame (F := Ideal) m ρ

/-- The reference's frame: host operations only, and no semaphore declared. -/
theorem frame_reference : Cert.quiescent_Reference7Ideal := fun m ρ _ =>
  (θ_run Cert.Reference7Ideal.defs _ _).mono
    (fun _ h => ⟨fun c => (h c).2, funext fun s => by rcases s with ⟨_, s | s⟩ <;> exact s.elim0⟩)
    (Cert.Reference7Ideal.Value.run (F := Ideal) m ρ)

set_option maxRecDepth 65536 in
/-- Each block of the kernel's result is the block of the reference's: the same sums of products. -/
theorem algebraic : Cert.algebraic_Kernel7Ideal_Reference7Ideal := by
  pair_intro
  · run_from Value.run_blocks (F := Ideal) m g & Gen.frame (F := Ideal) m g
  · run_from Cert.Reference7Ideal.Value.run (F := Ideal) m' g'
    refine ((dats m 0 c).arrAt_eq_of_covers 2 _ (by decide +kernel) fun t hf y => ?_).symm
    blk_simp
    rw [after0_2]
    frame_out
    pointwise [k0_pay1]
    refine (Finset.sum_congr (M := EReal) rfl fun k _ => EReal.mul_comm _ _).trans ?_
    blk_point [iblk, V, (idx t).1, (idx t).2.1, (idx t).2.2]

end Cert.Proof.SquareDw
-- ==== Proof.SquareDh.lean ====
module

public import proofs.«01_k».proof.Defs
public import proofs.«01_k».proof.Proof.Gen.Kernel8
public import proofs.«01_k».proof.Proof.Gen.Kernel8Ideal.Value
public import proofs.«01_k».proof.Proof.Gen.Reference8Ideal.Run
public import Idealize.ShloMosaic.Lib.Claim
public import Idealize.ShloMosaic.Lib.Pipeline.ValueKit
public import Idealize.ShloMosaic.Lib.Pointwise

/-! The gradient of a square projection with respect to its input: the kernel computes the product block by block, a block of rows of its result from
a block of rows of either operand. -/

@[expose] public section

namespace Cert.Proof.SquareDh

open Idealize.ShloMosaic Idealize.ShloMosaic.TcCoe Idealize.ShloMosaic.Tactic Idealize.SL.Sem
open Cert.Kernel8Ideal Cert.Kernel8Ideal.Gen

/-- The blocks that grid point `t` works on. -/
theorem idx : ∀ t : Fin cfg0.N, win0_0.index t = ![t.val / 1, 0]
    ∧ win0_1.index t = ![t.val % 1, 0]
    ∧ win0_2.index t = ![t.val / 1, t.val % 1] := by decide +kernel

/-- The kernel's frame at the machine's own formats: its text is its idealization's, whose run is over any floats. -/
theorem frame_kernel : Cert.quiescent_Kernel8 := by
  intro m ρ _
  have hb : (Cert.Kernel8.defs₀ (F := Bits)) = defs₀ := congrArg Defs.onTc (funext fun l => match l with | 0 => rfl)
  have hd : (Cert.Kernel8.defs (F := Bits)) = defs := by
    unfold Cert.Kernel8.defs Cert.Kernel8Ideal.defs
    rw [hb]
    rfl
  rw [hd, show (Cert.Kernel8.main (F := Bits)) = main from rfl]
  exact Gen.frame (F := Bits) m ρ

/-- The idealized kernel's frame. -/
theorem frame_ideal : Cert.quiescent_Kernel8Ideal := fun m ρ _ => Gen.frame (F := Ideal) m ρ

/-- The reference's frame: host operations only, and no semaphore declared. -/
theorem frame_reference : Cert.quiescent_Reference8Ideal := fun m ρ _ =>
  (θ_run Cert.Reference8Ideal.defs _ _).mono
    (fun _ h => ⟨fun c => (h c).2, funext fun s => by rcases s with ⟨_, s | s⟩ <;> exact s.elim0⟩)
    (Cert.Reference8Ideal.Value.run (F := Ideal) m ρ)

set_option maxRecDepth 65536 in
/-- Each block of the kernel's result is the block of the reference's: the same sums of products. -/
theorem algebraic : Cert.algebraic_Kernel8Ideal_Reference8Ideal := by
  pair_intro
  · run_from Value.run_blocks (F := Ideal) m g & Gen.frame (F := Ideal) m g
  · run_from Cert.Reference8Ideal.Value.run (F := Ideal) m' g'
    refine ((dats m 0 c).arrAt_eq_of_covers 2 _ (by decide +kernel) fun t hf y => ?_).symm
    blk_simp
    rw [after0_2]
    frame_out
    pointwise [k0_pay1]
    blk_point [iblk, V, (idx t).1, (idx t).2.1, (idx t).2.2]

end Cert.Proof.SquareDh
-- ==== Proof.KvDw.lean ====
module

public import proofs.«01_k».proof.Defs
public import proofs.«01_k».proof.Proof.Gen.Kernel9
public import proofs.«01_k».proof.Proof.Gen.Kernel9Ideal.Value
public import proofs.«01_k».proof.Proof.Gen.Reference9Ideal.Run
public import Idealize.ShloMosaic.Lib.Claim
public import Idealize.ShloMosaic.Lib.Pipeline.ValueKit
public import Idealize.ShloMosaic.Lib.Pointwise

/-! The gradient of the keys' and values' projection with respect to its weights: the kernel computes the product block by block, a block of rows of its result from
a block of columns of either operand. -/

@[expose] public section

namespace Cert.Proof.KvDw

open Idealize.ShloMosaic Idealize.ShloMosaic.TcCoe Idealize.ShloMosaic.Tactic Idealize.SL.Sem
open Cert.Kernel9Ideal Cert.Kernel9Ideal.Gen

/-- The blocks that grid point `t` works on. -/
theorem idx : ∀ t : Fin cfg0.N, win0_0.index t = ![0, t.val / 4]
    ∧ win0_1.index t = ![0, t.val % 4]
    ∧ win0_2.index t = ![t.val / 4, t.val % 4] := by decide +kernel

/-- The kernel's frame at the machine's own formats: its text is its idealization's, whose run is over any floats. -/
theorem frame_kernel : Cert.quiescent_Kernel9 := by
  intro m ρ _
  have hb : (Cert.Kernel9.defs₀ (F := Bits)) = defs₀ := congrArg Defs.onTc (funext fun l => match l with | 0 => rfl)
  have hd : (Cert.Kernel9.defs (F := Bits)) = defs := by
    unfold Cert.Kernel9.defs Cert.Kernel9Ideal.defs
    rw [hb]
    rfl
  rw [hd, show (Cert.Kernel9.main (F := Bits)) = main from rfl]
  exact Gen.frame (F := Bits) m ρ

/-- The idealized kernel's frame. -/
theorem frame_ideal : Cert.quiescent_Kernel9Ideal := fun m ρ _ => Gen.frame (F := Ideal) m ρ

/-- The reference's frame: host operations only, and no semaphore declared. -/
theorem frame_reference : Cert.quiescent_Reference9Ideal := fun m ρ _ =>
  (θ_run Cert.Reference9Ideal.defs _ _).mono
    (fun _ h => ⟨fun c => (h c).2, funext fun s => by rcases s with ⟨_, s | s⟩ <;> exact s.elim0⟩)
    (Cert.Reference9Ideal.Value.run (F := Ideal) m ρ)

set_option maxRecDepth 65536 in
/-- Each block of the kernel's result is the block of the reference's: the same sums of products. -/
theorem algebraic : Cert.algebraic_Kernel9Ideal_Reference9Ideal := by
  pair_intro
  · run_from Value.run_blocks (F := Ideal) m g & Gen.frame (F := Ideal) m g
  · run_from Cert.Reference9Ideal.Value.run (F := Ideal) m' g'
    refine ((dats m 0 c).arrAt_eq_of_covers 2 _ (by decide +kernel) fun t hf y => ?_).symm
    blk_simp
    rw [after0_2]
    frame_out
    pointwise [k0_pay1]
    refine (Finset.sum_congr (M := EReal) rfl fun k _ => EReal.mul_comm _ _).trans ?_
    blk_point [iblk, V, (idx t).1, (idx t).2.1, (idx t).2.2]

end Cert.Proof.KvDw
-- ==== Proof.KvDh.lean ====
module

public import proofs.«01_k».proof.Defs
public import proofs.«01_k».proof.Proof.Gen.Kernel10
public import proofs.«01_k».proof.Proof.Gen.Kernel10Ideal.Value
public import proofs.«01_k».proof.Proof.Gen.Reference10Ideal.Run
public import Idealize.ShloMosaic.Lib.Claim
public import Idealize.ShloMosaic.Lib.Pipeline.ValueKit
public import Idealize.ShloMosaic.Lib.Pointwise

/-! The gradient of the keys' and values' projection with respect to its input: the kernel computes the product block by block, a block of rows of its result from
a block of rows of either operand. -/

@[expose] public section

namespace Cert.Proof.KvDh

open Idealize.ShloMosaic Idealize.ShloMosaic.TcCoe Idealize.ShloMosaic.Tactic Idealize.SL.Sem
open Cert.Kernel10Ideal Cert.Kernel10Ideal.Gen

/-- The blocks that grid point `t` works on. -/
theorem idx : ∀ t : Fin cfg0.N, win0_0.index t = ![t.val / 1, 0]
    ∧ win0_1.index t = ![t.val % 1, 0]
    ∧ win0_2.index t = ![t.val / 1, t.val % 1] := by decide +kernel

/-- The kernel's frame at the machine's own formats: its text is its idealization's, whose run is over any floats. -/
theorem frame_kernel : Cert.quiescent_Kernel10 := by
  intro m ρ _
  have hb : (Cert.Kernel10.defs₀ (F := Bits)) = defs₀ := congrArg Defs.onTc (funext fun l => match l with | 0 => rfl)
  have hd : (Cert.Kernel10.defs (F := Bits)) = defs := by
    unfold Cert.Kernel10.defs Cert.Kernel10Ideal.defs
    rw [hb]
    rfl
  rw [hd, show (Cert.Kernel10.main (F := Bits)) = main from rfl]
  exact Gen.frame (F := Bits) m ρ

/-- The idealized kernel's frame. -/
theorem frame_ideal : Cert.quiescent_Kernel10Ideal := fun m ρ _ => Gen.frame (F := Ideal) m ρ

/-- The reference's frame: host operations only, and no semaphore declared. -/
theorem frame_reference : Cert.quiescent_Reference10Ideal := fun m ρ _ =>
  (θ_run Cert.Reference10Ideal.defs _ _).mono
    (fun _ h => ⟨fun c => (h c).2, funext fun s => by rcases s with ⟨_, s | s⟩ <;> exact s.elim0⟩)
    (Cert.Reference10Ideal.Value.run (F := Ideal) m ρ)

set_option maxRecDepth 65536 in
/-- Each block of the kernel's result is the block of the reference's: the same sums of products. -/
theorem algebraic : Cert.algebraic_Kernel10Ideal_Reference10Ideal := by
  pair_intro
  · run_from Value.run_blocks (F := Ideal) m g & Gen.frame (F := Ideal) m g
  · run_from Cert.Reference10Ideal.Value.run (F := Ideal) m' g'
    refine ((dats m 0 c).arrAt_eq_of_covers 2 _ (by decide +kernel) fun t hf y => ?_).symm
    blk_simp
    rw [after0_2]
    frame_out
    pointwise [k0_pay1]
    blk_point [iblk, V, (idx t).1, (idx t).2.1, (idx t).2.2]

end Cert.Proof.KvDh
-- ==== Proof.GluDw.lean ====
module

public import proofs.«01_k».proof.Defs
public import proofs.«01_k».proof.Proof.Gen.Kernel11
public import proofs.«01_k».proof.Proof.Gen.Kernel11Ideal.Value
public import proofs.«01_k».proof.Proof.Gen.Reference11Ideal.Run
public import Idealize.ShloMosaic.Lib.Claim
public import Idealize.ShloMosaic.Lib.Pipeline.ValueKit
public import Idealize.ShloMosaic.Lib.Pointwise

/-! The gradient of the gated output projection with respect to its weights: the kernel computes the product block by block, a block of rows of its result from
a block of columns of either operand. -/

@[expose] public section

namespace Cert.Proof.GluDw

open Idealize.ShloMosaic Idealize.ShloMosaic.TcCoe Idealize.ShloMosaic.Tactic Idealize.SL.Sem
open Cert.Kernel11Ideal Cert.Kernel11Ideal.Gen

/-- The blocks that grid point `t` works on. -/
theorem idx : ∀ t : Fin cfg0.N, win0_0.index t = ![0, t.val / 2]
    ∧ win0_1.index t = ![0, t.val % 2]
    ∧ win0_2.index t = ![t.val / 2, t.val % 2] := by decide +kernel

/-- The kernel's frame at the machine's own formats: its text is its idealization's, whose run is over any floats. -/
theorem frame_kernel : Cert.quiescent_Kernel11 := by
  intro m ρ _
  have hb : (Cert.Kernel11.defs₀ (F := Bits)) = defs₀ := congrArg Defs.onTc (funext fun l => match l with | 0 => rfl)
  have hd : (Cert.Kernel11.defs (F := Bits)) = defs := by
    unfold Cert.Kernel11.defs Cert.Kernel11Ideal.defs
    rw [hb]
    rfl
  rw [hd, show (Cert.Kernel11.main (F := Bits)) = main from rfl]
  exact Gen.frame (F := Bits) m ρ

/-- The idealized kernel's frame. -/
theorem frame_ideal : Cert.quiescent_Kernel11Ideal := fun m ρ _ => Gen.frame (F := Ideal) m ρ

/-- The reference's frame: host operations only, and no semaphore declared. -/
theorem frame_reference : Cert.quiescent_Reference11Ideal := fun m ρ _ =>
  (θ_run Cert.Reference11Ideal.defs _ _).mono
    (fun _ h => ⟨fun c => (h c).2, funext fun s => by rcases s with ⟨_, s | s⟩ <;> exact s.elim0⟩)
    (Cert.Reference11Ideal.Value.run (F := Ideal) m ρ)

set_option maxRecDepth 65536 in
/-- Each block of the kernel's result is the block of the reference's: the same sums of products. -/
theorem algebraic : Cert.algebraic_Kernel11Ideal_Reference11Ideal := by
  pair_intro
  · run_from Value.run_blocks (F := Ideal) m g & Gen.frame (F := Ideal) m g
  · run_from Cert.Reference11Ideal.Value.run (F := Ideal) m' g'
    refine ((dats m 0 c).arrAt_eq_of_covers 2 _ (by decide +kernel) fun t hf y => ?_).symm
    blk_simp
    rw [after0_2]
    frame_out
    pointwise [k0_pay1]
    refine (Finset.sum_congr (M := EReal) rfl fun k _ => EReal.mul_comm _ _).trans ?_
    blk_point [iblk, V, (idx t).1, (idx t).2.1, (idx t).2.2]

end Cert.Proof.GluDw
-- ==== Proof.GluDy.lean ====
module

public import proofs.«01_k».proof.Defs
public import proofs.«01_k».proof.Proof.Gen.Kernel12
public import proofs.«01_k».proof.Proof.Gen.Kernel12Ideal.Value
public import proofs.«01_k».proof.Proof.Gen.Reference12Ideal.Run
public import Idealize.ShloMosaic.Lib.Claim
public import Idealize.ShloMosaic.Lib.Pipeline.ValueKit
public import Idealize.ShloMosaic.Lib.Pointwise

/-! The gradient of the gated output projection with respect to its input: the kernel computes the product block by block, a block of rows of its result from
a block of rows of either operand. -/

@[expose] public section

namespace Cert.Proof.GluDy

open Idealize.ShloMosaic Idealize.ShloMosaic.TcCoe Idealize.ShloMosaic.Tactic Idealize.SL.Sem
open Cert.Kernel12Ideal Cert.Kernel12Ideal.Gen

/-- The blocks that grid point `t` works on. -/
theorem idx : ∀ t : Fin cfg0.N, win0_0.index t = ![t.val / 1, 0]
    ∧ win0_1.index t = ![t.val % 1, 0]
    ∧ win0_2.index t = ![t.val / 1, t.val % 1] := by decide +kernel

/-- The kernel's frame at the machine's own formats: its text is its idealization's, whose run is over any floats. -/
theorem frame_kernel : Cert.quiescent_Kernel12 := by
  intro m ρ _
  have hb : (Cert.Kernel12.defs₀ (F := Bits)) = defs₀ := congrArg Defs.onTc (funext fun l => match l with | 0 => rfl)
  have hd : (Cert.Kernel12.defs (F := Bits)) = defs := by
    unfold Cert.Kernel12.defs Cert.Kernel12Ideal.defs
    rw [hb]
    rfl
  rw [hd, show (Cert.Kernel12.main (F := Bits)) = main from rfl]
  exact Gen.frame (F := Bits) m ρ

/-- The idealized kernel's frame. -/
theorem frame_ideal : Cert.quiescent_Kernel12Ideal := fun m ρ _ => Gen.frame (F := Ideal) m ρ

/-- The reference's frame: host operations only, and no semaphore declared. -/
theorem frame_reference : Cert.quiescent_Reference12Ideal := fun m ρ _ =>
  (θ_run Cert.Reference12Ideal.defs _ _).mono
    (fun _ h => ⟨fun c => (h c).2, funext fun s => by rcases s with ⟨_, s | s⟩ <;> exact s.elim0⟩)
    (Cert.Reference12Ideal.Value.run (F := Ideal) m ρ)

set_option maxRecDepth 65536 in
/-- Each block of the kernel's result is the block of the reference's: the same sums of products. -/
theorem algebraic : Cert.algebraic_Kernel12Ideal_Reference12Ideal := by
  pair_intro
  · run_from Value.run_blocks (F := Ideal) m g & Gen.frame (F := Ideal) m g
  · run_from Cert.Reference12Ideal.Value.run (F := Ideal) m' g'
    refine ((dats m 0 c).arrAt_eq_of_covers 2 _ (by decide +kernel) fun t hf y => ?_).symm
    blk_simp
    rw [after0_2]
    frame_out
    pointwise [k0_pay1]
    blk_point [iblk, V, (idx t).1, (idx t).2.1, (idx t).2.2]

end Cert.Proof.GluDy
-- ==== Proof.FfnUp.lean ====
module

public import proofs.«01_k».proof.Defs
public import proofs.«01_k».proof.Proof.Gen.Kernel13
public import proofs.«01_k».proof.Proof.Gen.Kernel13Ideal.Value
public import proofs.«01_k».proof.Proof.Gen.Reference13Ideal.Run
public import Idealize.ShloMosaic.Lib.Claim
public import Idealize.ShloMosaic.Lib.Pipeline.ValueKit
public import Idealize.ShloMosaic.Lib.Pointwise

/-! A feed-forward layer's up projection: the kernel computes the product block by block, a block of rows of its result from
a block of rows of the left operand and a block of columns of the right one. -/

@[expose] public section

namespace Cert.Proof.FfnUp

open Idealize.ShloMosaic Idealize.ShloMosaic.TcCoe Idealize.ShloMosaic.Tactic Idealize.SL.Sem
open Cert.Kernel13Ideal Cert.Kernel13Ideal.Gen

/-- The blocks that grid point `t` works on. -/
theorem idx : ∀ t : Fin cfg0.N, win0_0.index t = ![t.val / 4, 0]
    ∧ win0_1.index t = ![0, t.val % 4]
    ∧ win0_2.index t = ![t.val / 4, t.val % 4] := by decide +kernel

/-- The kernel's frame at the machine's own formats: its text is its idealization's, whose run is over any floats. -/
theorem frame_kernel : Cert.quiescent_Kernel13 := by
  intro m ρ _
  have hb : (Cert.Kernel13.defs₀ (F := Bits)) = defs₀ := congrArg Defs.onTc (funext fun l => match l with | 0 => rfl)
  have hd : (Cert.Kernel13.defs (F := Bits)) = defs := by
    unfold Cert.Kernel13.defs Cert.Kernel13Ideal.defs
    rw [hb]
    rfl
  rw [hd, show (Cert.Kernel13.main (F := Bits)) = main from rfl]
  exact Gen.frame (F := Bits) m ρ

/-- The idealized kernel's frame. -/
theorem frame_ideal : Cert.quiescent_Kernel13Ideal := fun m ρ _ => Gen.frame (F := Ideal) m ρ

/-- The reference's frame: host operations only, and no semaphore declared. -/
theorem frame_reference : Cert.quiescent_Reference13Ideal := fun m ρ _ =>
  (θ_run Cert.Reference13Ideal.defs _ _).mono
    (fun _ h => ⟨fun c => (h c).2, funext fun s => by rcases s with ⟨_, s | s⟩ <;> exact s.elim0⟩)
    (Cert.Reference13Ideal.Value.run (F := Ideal) m ρ)

set_option maxRecDepth 65536 in
/-- Each block of the kernel's result is the block of the reference's: the same sums of products. -/
theorem algebraic : Cert.algebraic_Kernel13Ideal_Reference13Ideal := by
  pair_intro
  · run_from Value.run_blocks (F := Ideal) m g & Gen.frame (F := Ideal) m g
  · run_from Cert.Reference13Ideal.Value.run (F := Ideal) m' g'
    refine ((dats m 0 c).arrAt_eq_of_covers 2 _ (by decide +kernel) fun t hf y => ?_).symm
    blk_simp
    rw [after0_2]
    frame_out
    pointwise [k0_pay1]
    blk_point [iblk, V, (idx t).1, (idx t).2.1, (idx t).2.2]

end Cert.Proof.FfnUp
-- ==== Proof.FfnDown.lean ====
module

public import proofs.«01_k».proof.Defs
public import proofs.«01_k».proof.Proof.Gen.Kernel14
public import proofs.«01_k».proof.Proof.Gen.Kernel14Ideal.Value
public import proofs.«01_k».proof.Proof.Gen.Reference14Ideal.Run
public import Idealize.ShloMosaic.Lib.Claim
public import Idealize.ShloMosaic.Lib.Pipeline.ValueKit
public import Idealize.ShloMosaic.Lib.Pointwise

/-! A feed-forward layer's down projection and its residual sum: the kernel computes the product block by block, a block of rows of its result from
a block of rows of the left operand and a block of columns of the right one. -/

@[expose] public section

namespace Cert.Proof.FfnDown

open Idealize.ShloMosaic Idealize.ShloMosaic.TcCoe Idealize.ShloMosaic.Tactic Idealize.SL.Sem
open Cert.Kernel14Ideal Cert.Kernel14Ideal.Gen

/-- The blocks that grid point `t` works on. -/
theorem idx : ∀ t : Fin cfg0.N, win0_0.index t = ![t.val / 1, 0]
    ∧ win0_1.index t = ![0, t.val % 1]
    ∧ win0_2.index t = ![t.val / 1, t.val % 1]
    ∧ win0_3.index t = ![t.val / 1, t.val % 1] := by decide +kernel

/-- The kernel's frame at the machine's own formats: its text is its idealization's, whose run is over any floats. -/
theorem frame_kernel : Cert.quiescent_Kernel14 := by
  intro m ρ _
  have hb : (Cert.Kernel14.defs₀ (F := Bits)) = defs₀ := congrArg Defs.onTc (funext fun l => match l with | 0 => rfl)
  have hd : (Cert.Kernel14.defs (F := Bits)) = defs := by
    unfold Cert.Kernel14.defs Cert.Kernel14Ideal.defs
    rw [hb]
    rfl
  rw [hd, show (Cert.Kernel14.main (F := Bits)) = main from rfl]
  exact Gen.frame (F := Bits) m ρ

/-- The idealized kernel's frame. -/
theorem frame_ideal : Cert.quiescent_Kernel14Ideal := fun m ρ _ => Gen.frame (F := Ideal) m ρ

/-- The reference's frame: host operations only, and no semaphore declared. -/
theorem frame_reference : Cert.quiescent_Reference14Ideal := fun m ρ _ =>
  (θ_run Cert.Reference14Ideal.defs _ _).mono
    (fun _ h => ⟨fun c => (h c).2, funext fun s => by rcases s with ⟨_, s | s⟩ <;> exact s.elim0⟩)
    (Cert.Reference14Ideal.Value.run (F := Ideal) m ρ)

set_option maxRecDepth 65536 in
/-- Each block of the kernel's result is the block of the reference's: the same sums of products. -/
theorem algebraic : Cert.algebraic_Kernel14Ideal_Reference14Ideal := by
  pair_intro
  · run_from Value.run_blocks (F := Ideal) m g & Gen.frame (F := Ideal) m g
  · run_from Cert.Reference14Ideal.Value.run (F := Ideal) m' g'
    refine ((dats m 0 c).arrAt_eq_of_covers 3 _ (by decide +kernel) fun t hf y => ?_).symm
    blk_simp
    rw [after0_3]
    frame_out
    pointwise [k0_pay1]
    blk_point [iblk, V, (idx t).1, (idx t).2.1, (idx t).2.2.1, (idx t).2.2.2]

end Cert.Proof.FfnDown
-- ==== Proof.S5In.lean ====
module

public import proofs.«01_k».proof.Defs
public import proofs.«01_k».proof.Proof.Gen.Kernel15
public import proofs.«01_k».proof.Proof.Gen.Kernel15Ideal.Value
public import proofs.«01_k».proof.Proof.Gen.Reference15Ideal.Run
public import Idealize.ShloMosaic.Lib.Claim
public import Idealize.ShloMosaic.Lib.Pipeline.ValueKit
public import Idealize.ShloMosaic.Lib.Pointwise

/-! The state-space layer's input projection: the kernel computes the product block by block, a block of rows of its result from
a block of rows of the left operand and a block of columns of the right one. -/

@[expose] public section

namespace Cert.Proof.S5In

open Idealize.ShloMosaic Idealize.ShloMosaic.TcCoe Idealize.ShloMosaic.Tactic Idealize.SL.Sem
open Cert.Kernel15Ideal Cert.Kernel15Ideal.Gen

/-- The blocks that grid point `t` works on. -/
theorem idx : ∀ t : Fin cfg0.N, win0_0.index t = ![t.val / 1, 0]
    ∧ win0_1.index t = ![0, t.val % 1]
    ∧ win0_2.index t = ![t.val / 1, t.val % 1] := by decide +kernel

/-- The kernel's frame at the machine's own formats: its text is its idealization's, whose run is over any floats. -/
theorem frame_kernel : Cert.quiescent_Kernel15 := by
  intro m ρ _
  have hb : (Cert.Kernel15.defs₀ (F := Bits)) = defs₀ := congrArg Defs.onTc (funext fun l => match l with | 0 => rfl)
  have hd : (Cert.Kernel15.defs (F := Bits)) = defs := by
    unfold Cert.Kernel15.defs Cert.Kernel15Ideal.defs
    rw [hb]
    rfl
  rw [hd, show (Cert.Kernel15.main (F := Bits)) = main from rfl]
  exact Gen.frame (F := Bits) m ρ

/-- The idealized kernel's frame. -/
theorem frame_ideal : Cert.quiescent_Kernel15Ideal := fun m ρ _ => Gen.frame (F := Ideal) m ρ

/-- The reference's frame: host operations only, and no semaphore declared. -/
theorem frame_reference : Cert.quiescent_Reference15Ideal := fun m ρ _ =>
  (θ_run Cert.Reference15Ideal.defs _ _).mono
    (fun _ h => ⟨fun c => (h c).2, funext fun s => by rcases s with ⟨_, s | s⟩ <;> exact s.elim0⟩)
    (Cert.Reference15Ideal.Value.run (F := Ideal) m ρ)

set_option maxRecDepth 65536 in
/-- Each block of the kernel's result is the block of the reference's: the same sums of products. -/
theorem algebraic : Cert.algebraic_Kernel15Ideal_Reference15Ideal := by
  pair_intro
  · run_from Value.run_blocks (F := Ideal) m g & Gen.frame (F := Ideal) m g
  · run_from Cert.Reference15Ideal.Value.run (F := Ideal) m' g'
    refine ((dats m 0 c).arrAt_eq_of_covers 2 _ (by decide +kernel) fun t hf y => ?_).symm
    blk_simp
    rw [after0_2]
    frame_out
    pointwise [k0_pay1]
    blk_point [iblk, V, (idx t).1, (idx t).2.1, (idx t).2.2]

end Cert.Proof.S5In
-- ==== Proof.S5Glu.lean ====
module

public import proofs.«01_k».proof.Defs
public import proofs.«01_k».proof.Proof.Gen.Kernel16
public import proofs.«01_k».proof.Proof.Gen.Kernel16Ideal.Value
public import proofs.«01_k».proof.Proof.Gen.Reference16Ideal.Run
public import Idealize.ShloMosaic.Lib.Claim
public import Idealize.ShloMosaic.Lib.Pipeline.ValueKit
public import Idealize.ShloMosaic.Lib.Pointwise

/-! The state-space layer's gated output projection: the kernel computes the product block by block, a block of rows of its result from
a block of rows of the left operand and a block of columns of the right one. -/

@[expose] public section

namespace Cert.Proof.S5Glu

open Idealize.ShloMosaic Idealize.ShloMosaic.TcCoe Idealize.ShloMosaic.Tactic Idealize.SL.Sem
open Cert.Kernel16Ideal Cert.Kernel16Ideal.Gen

/-- The blocks that grid point `t` works on. -/
theorem idx : ∀ t : Fin cfg0.N, win0_0.index t = ![t.val / 2, 0]
    ∧ win0_1.index t = ![0, t.val % 2]
    ∧ win0_2.index t = ![t.val / 2, t.val % 2] := by decide +kernel

/-- The kernel's frame at the machine's own formats: its text is its idealization's, whose run is over any floats. -/
theorem frame_kernel : Cert.quiescent_Kernel16 := by
  intro m ρ _
  have hb : (Cert.Kernel16.defs₀ (F := Bits)) = defs₀ := congrArg Defs.onTc (funext fun l => match l with | 0 => rfl)
  have hd : (Cert.Kernel16.defs (F := Bits)) = defs := by
    unfold Cert.Kernel16.defs Cert.Kernel16Ideal.defs
    rw [hb]
    rfl
  rw [hd, show (Cert.Kernel16.main (F := Bits)) = main from rfl]
  exact Gen.frame (F := Bits) m ρ

/-- The idealized kernel's frame. -/
theorem frame_ideal : Cert.quiescent_Kernel16Ideal := fun m ρ _ => Gen.frame (F := Ideal) m ρ

/-- The reference's frame: host operations only, and no semaphore declared. -/
theorem frame_reference : Cert.quiescent_Reference16Ideal := fun m ρ _ =>
  (θ_run Cert.Reference16Ideal.defs _ _).mono
    (fun _ h => ⟨fun c => (h c).2, funext fun s => by rcases s with ⟨_, s | s⟩ <;> exact s.elim0⟩)
    (Cert.Reference16Ideal.Value.run (F := Ideal) m ρ)

set_option maxRecDepth 65536 in
/-- Each block of the kernel's result is the block of the reference's: the same sums of products. -/
theorem algebraic : Cert.algebraic_Kernel16Ideal_Reference16Ideal := by
  pair_intro
  · run_from Value.run_blocks (F := Ideal) m g & Gen.frame (F := Ideal) m g
  · run_from Cert.Reference16Ideal.Value.run (F := Ideal) m' g'
    refine ((dats m 0 c).arrAt_eq_of_covers 2 _ (by decide +kernel) fun t hf y => ?_).symm
    blk_simp
    rw [after0_2]
    frame_out
    pointwise [k0_pay1]
    blk_point [iblk, V, (idx t).1, (idx t).2.1, (idx t).2.2]

end Cert.Proof.S5Glu
-- ==== Proof.KvProj.lean ====
module

public import proofs.«01_k».proof.Defs
public import proofs.«01_k».proof.Proof.Gen.Kernel17
public import proofs.«01_k».proof.Proof.Gen.Kernel17Ideal.Value
public import proofs.«01_k».proof.Proof.Gen.Reference17Ideal.Run
public import Idealize.ShloMosaic.Lib.Claim
public import Idealize.ShloMosaic.Lib.Pipeline.ValueKit
public import Idealize.ShloMosaic.Lib.Pointwise

/-! The keys' and values' projection: the kernel computes the product block by block, a block of rows of its result from
a block of rows of the left operand and a block of columns of the right one. -/

@[expose] public section

namespace Cert.Proof.KvProj

open Idealize.ShloMosaic Idealize.ShloMosaic.TcCoe Idealize.ShloMosaic.Tactic Idealize.SL.Sem
open Cert.Kernel17Ideal Cert.Kernel17Ideal.Gen

/-- The blocks that grid point `t` works on. -/
theorem idx : ∀ t : Fin cfg0.N, win0_0.index t = ![t.val / 2, 0]
    ∧ win0_1.index t = ![0, t.val % 2]
    ∧ win0_2.index t = ![t.val / 2, t.val % 2] := by decide +kernel

/-- The kernel's frame at the machine's own formats: its text is its idealization's, whose run is over any floats. -/
theorem frame_kernel : Cert.quiescent_Kernel17 := by
  intro m ρ _
  have hb : (Cert.Kernel17.defs₀ (F := Bits)) = defs₀ := congrArg Defs.onTc (funext fun l => match l with | 0 => rfl)
  have hd : (Cert.Kernel17.defs (F := Bits)) = defs := by
    unfold Cert.Kernel17.defs Cert.Kernel17Ideal.defs
    rw [hb]
    rfl
  rw [hd, show (Cert.Kernel17.main (F := Bits)) = main from rfl]
  exact Gen.frame (F := Bits) m ρ

/-- The idealized kernel's frame. -/
theorem frame_ideal : Cert.quiescent_Kernel17Ideal := fun m ρ _ => Gen.frame (F := Ideal) m ρ

/-- The reference's frame: host operations only, and no semaphore declared. -/
theorem frame_reference : Cert.quiescent_Reference17Ideal := fun m ρ _ =>
  (θ_run Cert.Reference17Ideal.defs _ _).mono
    (fun _ h => ⟨fun c => (h c).2, funext fun s => by rcases s with ⟨_, s | s⟩ <;> exact s.elim0⟩)
    (Cert.Reference17Ideal.Value.run (F := Ideal) m ρ)

set_option maxRecDepth 65536 in
/-- Each block of the kernel's result is the block of the reference's: the same sums of products. -/
theorem algebraic : Cert.algebraic_Kernel17Ideal_Reference17Ideal := by
  pair_intro
  · run_from Value.run_blocks (F := Ideal) m g & Gen.frame (F := Ideal) m g
  · run_from Cert.Reference17Ideal.Value.run (F := Ideal) m' g'
    refine ((dats m 0 c).arrAt_eq_of_covers 2 _ (by decide +kernel) fun t hf y => ?_).symm
    blk_simp
    rw [after0_2]
    frame_out
    pointwise [k0_pay1]
    blk_point [iblk, V, (idx t).1, (idx t).2.1, (idx t).2.2]

end Cert.Proof.KvProj
-- ==== Proof.AttnQ.lean ====
module

public import proofs.«01_k».proof.Defs
public import proofs.«01_k».proof.Proof.Gen.Kernel18
public import proofs.«01_k».proof.Proof.Gen.Kernel18Ideal.Value
public import proofs.«01_k».proof.Proof.Gen.Reference18Ideal.Run
public import Idealize.ShloMosaic.Lib.Claim
public import Idealize.ShloMosaic.Lib.Pipeline.ValueKit
public import Idealize.ShloMosaic.Lib.Pointwise

/-! The scaled projection of the queries: the kernel computes the product block by block, a block of rows of its result from
a block of rows of the left operand and a block of columns of the right one. -/

@[expose] public section

namespace Cert.Proof.AttnQ

open Idealize.ShloMosaic Idealize.ShloMosaic.TcCoe Idealize.ShloMosaic.Tactic Idealize.SL.Sem
open Cert.Kernel18Ideal Cert.Kernel18Ideal.Gen

/-- The blocks that grid point `t` works on. -/
theorem idx : ∀ t : Fin cfg0.N, win0_0.index t = ![t.val / 1, 0]
    ∧ win0_1.index t = ![0, t.val % 1]
    ∧ win0_2.index t = ![t.val / 1, t.val % 1] := by decide +kernel

/-- The kernel's frame at the machine's own formats: its text is its idealization's, whose run is over any floats. -/
theorem frame_kernel : Cert.quiescent_Kernel18 := by
  intro m ρ _
  have hb : (Cert.Kernel18.defs₀ (F := Bits)) = defs₀ := congrArg Defs.onTc (funext fun l => match l with | 0 => rfl)
  have hd : (Cert.Kernel18.defs (F := Bits)) = defs := by
    unfold Cert.Kernel18.defs Cert.Kernel18Ideal.defs
    rw [hb]
    rfl
  rw [hd, show (Cert.Kernel18.main (F := Bits)) = main from rfl]
  exact Gen.frame (F := Bits) m ρ

/-- The idealized kernel's frame. -/
theorem frame_ideal : Cert.quiescent_Kernel18Ideal := fun m ρ _ => Gen.frame (F := Ideal) m ρ

/-- The reference's frame: host operations only, and no semaphore declared. -/
theorem frame_reference : Cert.quiescent_Reference18Ideal := fun m ρ _ =>
  (θ_run Cert.Reference18Ideal.defs _ _).mono
    (fun _ h => ⟨fun c => (h c).2, funext fun s => by rcases s with ⟨_, s | s⟩ <;> exact s.elim0⟩)
    (Cert.Reference18Ideal.Value.run (F := Ideal) m ρ)

set_option maxRecDepth 65536 in
/-- Each block of the kernel's result is the block of the reference's: the same sums of products. -/
theorem algebraic : Cert.algebraic_Kernel18Ideal_Reference18Ideal := by
  pair_intro
  · run_from Value.run_blocks (F := Ideal) m g & Gen.frame (F := Ideal) m g
  · run_from Cert.Reference18Ideal.Value.run (F := Ideal) m' g'
    refine ((dats m 0 c).arrAt_eq_of_covers 2 _ (by decide +kernel) fun t hf y => ?_).symm
    blk_simp
    rw [after0_2]
    frame_out
    pointwise [k0_pay1]
    blk_point [iblk, V, (idx t).1, (idx t).2.1, (idx t).2.2]

end Cert.Proof.AttnQ
-- ==== Proof.AttnOut.lean ====
module

public import proofs.«01_k».proof.Defs
public import proofs.«01_k».proof.Proof.Gen.Kernel19
public import proofs.«01_k».proof.Proof.Gen.Kernel19Ideal.Value
public import proofs.«01_k».proof.Proof.Gen.Reference19Ideal.Run
public import Idealize.ShloMosaic.Lib.Claim
public import Idealize.ShloMosaic.Lib.Pipeline.ValueKit
public import Idealize.ShloMosaic.Lib.Pointwise

/-! The attention's output projection and its residual sum: the kernel computes the product block by block, a block of rows of its result from
a block of rows of the left operand and a block of columns of the right one. -/

@[expose] public section

namespace Cert.Proof.AttnOut

open Idealize.ShloMosaic Idealize.ShloMosaic.TcCoe Idealize.ShloMosaic.Tactic Idealize.SL.Sem
open Cert.Kernel19Ideal Cert.Kernel19Ideal.Gen

/-- The blocks that grid point `t` works on. -/
theorem idx : ∀ t : Fin cfg0.N, win0_0.index t = ![t.val / 1, 0]
    ∧ win0_1.index t = ![0, t.val % 1]
    ∧ win0_2.index t = ![t.val / 1, t.val % 1]
    ∧ win0_3.index t = ![t.val / 1, t.val % 1] := by decide +kernel

/-- The kernel's frame at the machine's own formats: its text is its idealization's, whose run is over any floats. -/
theorem frame_kernel : Cert.quiescent_Kernel19 := by
  intro m ρ _
  have hb : (Cert.Kernel19.defs₀ (F := Bits)) = defs₀ := congrArg Defs.onTc (funext fun l => match l with | 0 => rfl)
  have hd : (Cert.Kernel19.defs (F := Bits)) = defs := by
    unfold Cert.Kernel19.defs Cert.Kernel19Ideal.defs
    rw [hb]
    rfl
  rw [hd, show (Cert.Kernel19.main (F := Bits)) = main from rfl]
  exact Gen.frame (F := Bits) m ρ

/-- The idealized kernel's frame. -/
theorem frame_ideal : Cert.quiescent_Kernel19Ideal := fun m ρ _ => Gen.frame (F := Ideal) m ρ

/-- The reference's frame: host operations only, and no semaphore declared. -/
theorem frame_reference : Cert.quiescent_Reference19Ideal := fun m ρ _ =>
  (θ_run Cert.Reference19Ideal.defs _ _).mono
    (fun _ h => ⟨fun c => (h c).2, funext fun s => by rcases s with ⟨_, s | s⟩ <;> exact s.elim0⟩)
    (Cert.Reference19Ideal.Value.run (F := Ideal) m ρ)

set_option maxRecDepth 65536 in
/-- Each block of the kernel's result is the block of the reference's: the same sums of products. -/
theorem algebraic : Cert.algebraic_Kernel19Ideal_Reference19Ideal := by
  pair_intro
  · run_from Value.run_blocks (F := Ideal) m g & Gen.frame (F := Ideal) m g
  · run_from Cert.Reference19Ideal.Value.run (F := Ideal) m' g'
    refine ((dats m 0 c).arrAt_eq_of_covers 3 _ (by decide +kernel) fun t hf y => ?_).symm
    blk_simp
    rw [after0_3]
    frame_out
    pointwise [k0_pay1]
    blk_point [iblk, V, (idx t).1, (idx t).2.1, (idx t).2.2.1, (idx t).2.2.2]

end Cert.Proof.AttnOut
-- ==== Proof.Elementwise.lean ====
module

public import Idealize.ShloMosaic.Lib.Pointwise

/-! The logistic function as the host writes it. -/

@[expose] public section

namespace Cert.Proof

open Idealize.ShloMosaic

/-- The logistic function is `1 / (1 + exp (-x))`, at the infinities as well. -/
theorem logistic_eq (x : EReal) : Ideal.logistic x = Ideal.div 1 (1 + Ideal.exp (-x)) := rfl

/-- The gradient of a gate's product: `d` comes in, `a` is the gated value, `s` and `o` the sigmoid and one minus it. -/
theorem gated_order (d a s o : EReal) : d * a * s * o = a * d * (s * o) := by
  rw [mul_comm d a, mul_assoc]

end Cert.Proof
-- ==== Proof.GluBack.lean ====
module

public import proofs.«01_k».proof.Proof.Elementwise
public import proofs.«01_k».proof.Defs
public import proofs.«01_k».proof.Proof.Gen.Kernel20
public import proofs.«01_k».proof.Proof.Gen.Kernel20Ideal.Value
public import proofs.«01_k».proof.Proof.Gen.Reference20Ideal.Run
public import Idealize.ShloMosaic.Lib.Claim
public import Idealize.ShloMosaic.Lib.Pipeline.ValueKit
public import Idealize.ShloMosaic.Lib.Pointwise

/-! The gradient of the gated output, row by row. -/

@[expose] public section

namespace Cert.Proof.GluBack

open Idealize.ShloMosaic Idealize.ShloMosaic.TcCoe Idealize.ShloMosaic.Tactic Idealize.SL.Sem
open Cert.Kernel20Ideal Cert.Kernel20Ideal.Gen

/-- The blocks that grid point `t` works on. -/
theorem idx : ∀ t : Fin cfg0.N, win0_0.index t = ![t.val, 0]
    ∧ win0_1.index t = ![t.val, 0]
    ∧ win0_2.index t = ![t.val, 0] := by decide +kernel

/-- The kernel's frame at the machine's own formats: its text is its idealization's, whose run is over any floats. -/
theorem frame_kernel : Cert.quiescent_Kernel20 := by
  intro m ρ _
  have hb : (Cert.Kernel20.defs₀ (F := Bits)) = defs₀ := congrArg Defs.onTc (funext fun l => match l with | 0 => rfl)
  have hd : (Cert.Kernel20.defs (F := Bits)) = defs := by
    unfold Cert.Kernel20.defs Cert.Kernel20Ideal.defs
    rw [hb]
    rfl
  rw [hd, show (Cert.Kernel20.main (F := Bits)) = main from rfl]
  exact Gen.frame (F := Bits) m ρ

/-- The idealized kernel's frame. -/
theorem frame_ideal : Cert.quiescent_Kernel20Ideal := fun m ρ _ => Gen.frame (F := Ideal) m ρ

/-- The reference's frame: host operations only, and no semaphore declared. -/
theorem frame_reference : Cert.quiescent_Reference20Ideal := fun m ρ _ =>
  (θ_run Cert.Reference20Ideal.defs _ _).mono
    (fun _ h => ⟨fun c => (h c).2, funext fun s => by rcases s with ⟨_, s | s⟩ <;> exact s.elim0⟩)
    (Cert.Reference20Ideal.Value.run (F := Ideal) m ρ)

set_option maxRecDepth 65536 in
/-- Each block of the kernel's results is the block of the reference's. -/
theorem algebraic : Cert.algebraic_Kernel20Ideal_Reference20Ideal := by
  pair_intro
  · run_from Value.run_blocks (F := Ideal) m g & Gen.frame (F := Ideal) m g
  · run_from Cert.Reference20Ideal.Value.run (F := Ideal) m' g'
    refine ((dats m 0 c).arrAt_eq_of_covers 2 _ (by decide +kernel) fun t hf y => ?_).symm
    blk_simp
    rw [after0_2]
    frame_out
    pointwise [k0_pay1]
    simp only [logistic_eq, gated_order]
    have hy : (((View.whole main_v0).slice (win0_2.rect t)).emb y 1).val = (y 1).val := by
      blk_point [(idx t).1, (idx t).2.1, (idx t).2.2]
    by_cases h : (y 1).val < 1024
    · rw [dif_pos h, dif_pos (hy.trans_lt h)]
      blk_point [iblk, V, (idx t).1, (idx t).2.1, (idx t).2.2]
    · rw [dif_neg h, dif_neg (by rwa [hy])]
      blk_point [iblk, V, (idx t).1, (idx t).2.1, (idx t).2.2]

end Cert.Proof.GluBack
-- ==== Proof.NormMath.lean ====
module

public import Idealize.ShloMosaic.Lib.Pointwise

/-! The gradient of the root-mean-square norm at one entry, over the extended reals. -/

@[expose] public section

namespace Cert.Proof.NormMath

open Idealize.ShloMosaic

/-- The literal 1024. -/
theorem lit_1024 : Ideal.ofBits .f32 1149239296#32 = ((1024 : ℝ) : EReal) := by
  simp [Ideal.ofBits, Ideal.ieee, -EReal.coe_mul]; norm_num

/-- The literal -1/2. -/
theorem lit_half : Ideal.ofBits .f32 3204448256#32 = ((-(1 / 2) : ℝ) : EReal) := by
  simp [Ideal.ofBits, Ideal.ieee, -EReal.coe_mul]; norm_num

/-- The norm's small constant is a positive real. -/
theorem lit_eps : ∃ e : ℝ, 0 < e ∧ Ideal.ofBits .f32 897988541#32 = (e : EReal) := by
  refine ⟨_, ?_, by simp [Ideal.ofBits, Ideal.ieee, -EReal.coe_mul]; rfl⟩
  norm_num

/-- A square isn't negative. -/
theorem sq_nonneg' (a : EReal) : 0 ≤ a * a := by
  rcases le_total 0 a with h | h
  · exact mul_nonneg h h
  · rw [← neg_mul_neg]
    exact mul_nonneg (EReal.neg_nonneg.mpr h) (EReal.neg_nonneg.mpr h)

/-- Dividing by the literal 1024. -/
theorem div_1024 (a : EReal) : Ideal.div a (Ideal.ofBits .f32 1149239296#32) = a * ((1 / 1024 : ℝ) : EReal) := by
  rw [lit_1024, Ideal.div_coe (by norm_num)]

/-- The shifted mean square of a row is a positive real or infinite. -/
theorem mean_square {n : ℕ} (x : Fin n → EReal) :
    Ideal.div (∑ i, x i * x i) (Ideal.ofBits .f32 1149239296#32) + Ideal.ofBits .f32 897988541#32 = ⊤
    ∨ ∃ v : ℝ, 0 < v
      ∧ Ideal.div (∑ i, x i * x i) (Ideal.ofBits .f32 1149239296#32) + Ideal.ofBits .f32 897988541#32 = (v : EReal) := by
  obtain ⟨e, he, hl⟩ := lit_eps
  have h : 0 ≤ Ideal.div (∑ i, x i * x i) (Ideal.ofBits .f32 1149239296#32) := by
    rw [div_1024]
    exact mul_nonneg (Finset.sum_nonneg fun i _ => sq_nonneg' (x i)) (by norm_num)
  rw [hl]
  generalize Ideal.div (∑ i, x i * x i) (Ideal.ofBits .f32 1149239296#32) = a at h
  induction a with
  | bot => simp at h
  | top => left; rfl
  | coe a =>
    right
    have ha : 0 ≤ a := by exact_mod_cast h
    exact ⟨a + e, by positivity, rfl⟩

/-- A nonnegative real goes into a sum. -/
theorem real_mul_sum {n : ℕ} (r : ℝ) (hr : 0 ≤ r) (f : Fin n → EReal) : (r : EReal) * ∑ i, f i = ∑ i, (r : EReal) * f i := by
  have h : ∀ s : Finset (Fin n), (r : EReal) * ∑ i ∈ s, f i = ∑ i ∈ s, (r : EReal) * f i := fun s => by
    induction s using Finset.induction_on with
    | empty => simp
    | insert a s ha ih => rw [Finset.sum_insert ha, Finset.sum_insert ha, EReal.left_distrib_of_nonneg_of_ne_top (EReal.coe_nonneg.mpr hr) (EReal.coe_ne_top r), ih]
  exact h _

/-- Twice a number. -/
theorem add_self (a : EReal) : a + a = ((2 : ℝ) : EReal) * a := by
  induction a with
  | bot => rw [EReal.coe_mul_bot_of_pos (by norm_num)]; rfl
  | top => rw [EReal.coe_mul_top_of_pos (by norm_num)]; rfl
  | coe a => exact_mod_cast (two_mul a).symm

/-- The norm's gradient as the kernel forms it, from the scaled row, is the one that the chain rule gives: `x` the row,
    `w` the incoming gradient times the scale, `j` the entry. -/
theorem grad {n : ℕ} (x w : Fin n → EReal) (j : Fin n) (s : EReal)
    (hs : s = Ideal.div (∑ i, x i * x i) (Ideal.ofBits .f32 1149239296#32) + Ideal.ofBits .f32 897988541#32) :
    Ideal.rsqrt s * (w j - x j * Ideal.rsqrt s
        * Ideal.div (∑ i, w i * (x i * Ideal.rsqrt s)) (Ideal.ofBits .f32 1149239296#32))
      = w j * Ideal.rsqrt s
        + x j * Ideal.div ((∑ i, x i * w i) * (Ideal.ofBits .f32 3204448256#32 * Ideal.div (Ideal.rsqrt s) s))
            (Ideal.ofBits .f32 1149239296#32)
        + Ideal.div ((∑ i, x i * w i) * (Ideal.ofBits .f32 3204448256#32 * Ideal.div (Ideal.rsqrt s) s))
            (Ideal.ofBits .f32 1149239296#32) * x j := by
  simp only [div_1024, lit_half]
  rcases mean_square x with h | ⟨v, hv, h⟩
  · rw [hs, h, Ideal.rsqrt_top]
    have h0 : Ideal.div 0 ⊤ = 0 := by simp [Ideal.div]
    simp [h0]
  · rw [hs, h, Ideal.rsqrt_coe, if_neg (not_lt.mpr hv.le), if_neg hv.ne', Ideal.div_coe hv.ne']
    have hq : (Real.sqrt v)⁻¹ * (Real.sqrt v)⁻¹ = 1 / v := by
      rw [← mul_inv, Real.mul_self_sqrt hv.le, one_div]
    have hr : 0 ≤ (Real.sqrt v)⁻¹ := by positivity
    generalize (Real.sqrt v)⁻¹ = r at hq hr
    rw [show (∑ i, w i * (x i * (r : EReal))) = (r : EReal) * ∑ i, x i * w i by
      rw [real_mul_sum r hr]
      exact Finset.sum_congr rfl fun i _ => by rw [mul_comm (r : EReal), mul_comm (x i) (w i), mul_assoc]]
    generalize (∑ i, x i * w i) = P
    rw [sub_eq_add_neg, EReal.left_distrib_of_nonneg_of_ne_top (EReal.coe_nonneg.mpr hr) (EReal.coe_ne_top r), add_assoc]
    congr 1
    · exact mul_comm _ _
    · rw [mul_comm (P * _ * _) (x j), add_self, ← hq, mul_neg,
        show (r : EReal) * (x j * r * (r * P * ((1 / 1024 : ℝ) : EReal))) = ((r * r * r * (1 / 1024) : ℝ) : EReal) * (x j * P) by
          push_cast; ac_rfl,
        show ((2 : ℝ) : EReal) * (x j * (P * (((-(1 / 2) : ℝ) : EReal) * (r * ((r * r : ℝ) : EReal))) * ((1 / 1024 : ℝ) : EReal)))
          = ((2 * (-(1 / 2)) * (r * (r * r)) * (1 / 1024) : ℝ) : EReal) * (x j * P) by
          simp only [EReal.coe_mul]; ac_rfl,
        ← EReal.neg_mul, ← EReal.coe_neg]
      congr 2
      ring

/-- The same at the entry `i` of arrays: `x` the rows, `d` the incoming gradient, `g` the scale. -/
theorem grad_at {R n : ℕ} (x d : (⟨2, ![R, n]⟩ : Shape).Idx → EReal) (g : (⟨2, ![1, n]⟩ : Shape).Idx → EReal)
    (i : (⟨2, ![R, n]⟩ : Shape).Idx) (s : EReal)
    (hs : s = Ideal.div (∑ k : Fin n, x (ix2 (i 0) k) * x (ix2 (i 0) k)) (Ideal.ofBits .f32 1149239296#32)
      + Ideal.ofBits .f32 897988541#32) :
    Ideal.rsqrt s * (d i * g (ix2 0 (i 1)) - x i * Ideal.rsqrt s
        * Ideal.div (∑ k : Fin n, d (ix2 (i 0) k) * g (ix2 0 k) * (x (ix2 (i 0) k) * Ideal.rsqrt s))
            (Ideal.ofBits .f32 1149239296#32))
      = d i * g (ix2 0 (i 1)) * Ideal.rsqrt s
        + x i * Ideal.div ((∑ k : Fin n, x (ix2 (i 0) k) * (d (ix2 (i 0) k) * g (ix2 0 k)))
            * (Ideal.ofBits .f32 3204448256#32 * Ideal.div (Ideal.rsqrt s) s)) (Ideal.ofBits .f32 1149239296#32)
        + Ideal.div ((∑ k : Fin n, x (ix2 (i 0) k) * (d (ix2 (i 0) k) * g (ix2 0 k)))
            * (Ideal.ofBits .f32 3204448256#32 * Ideal.div (Ideal.rsqrt s) s)) (Ideal.ofBits .f32 1149239296#32) * x i := by
  have e : x i = x (ix2 (n0 := R) (n1 := n) (i 0) (i 1)) := congrArg x (ix2_eta i).symm
  have e' : d i = d (ix2 (n0 := R) (n1 := n) (i 0) (i 1)) := congrArg d (ix2_eta i).symm
  rw [e, e']
  exact grad (fun k => x (ix2 (i 0) k)) (fun k => d (ix2 (i 0) k) * g (ix2 0 k)) (i 1) s hs

/-- The same with `p` added. -/
theorem grad_entry {R n : ℕ} (x d : (⟨2, ![R, n]⟩ : Shape).Idx → EReal) (g : (⟨2, ![1, n]⟩ : Shape).Idx → EReal)
    (i : (⟨2, ![R, n]⟩ : Shape).Idx) (p : EReal) (s : EReal)
    (hs : s = Ideal.div (∑ k : Fin n, x (ix2 (i 0) k) * x (ix2 (i 0) k)) (Ideal.ofBits .f32 1149239296#32)
      + Ideal.ofBits .f32 897988541#32) :
    p + Ideal.rsqrt s * (d i * g (ix2 0 (i 1)) - x i * Ideal.rsqrt s
        * Ideal.div (∑ k : Fin n, d (ix2 (i 0) k) * g (ix2 0 k) * (x (ix2 (i 0) k) * Ideal.rsqrt s))
            (Ideal.ofBits .f32 1149239296#32))
      = p + (d i * g (ix2 0 (i 1)) * Ideal.rsqrt s
        + x i * Ideal.div ((∑ k : Fin n, x (ix2 (i 0) k) * (d (ix2 (i 0) k) * g (ix2 0 k)))
            * (Ideal.ofBits .f32 3204448256#32 * Ideal.div (Ideal.rsqrt s) s)) (Ideal.ofBits .f32 1149239296#32)
        + Ideal.div ((∑ k : Fin n, x (ix2 (i 0) k) * (d (ix2 (i 0) k) * g (ix2 0 k)))
            * (Ideal.ofBits .f32 3204448256#32 * Ideal.div (Ideal.rsqrt s) s)) (Ideal.ofBits .f32 1149239296#32) * x i) :=
  congrArg (p + ·) (grad_at x d g i s hs)

/-- The same where the incoming gradient is the loss's: the error of the scaled row against the target `t`, by 1/1024. -/
theorem grad_loss {R n : ℕ} (x t : (⟨2, ![R, n]⟩ : Shape).Idx → EReal) (g : (⟨2, ![1, n]⟩ : Shape).Idx → EReal)
    (i : (⟨2, ![R, n]⟩ : Shape).Idx) (s : EReal)
    (hs : s = Ideal.div (∑ k : Fin n, x (ix2 (i 0) k) * x (ix2 (i 0) k)) (Ideal.ofBits .f32 1149239296#32)
      + Ideal.ofBits .f32 897988541#32) :
    Ideal.rsqrt s * (((x i * Ideal.rsqrt s * g (ix2 0 (i 1)) - t i) * Ideal.ofBits .f32 981467136#32) * g (ix2 0 (i 1)) - x i * Ideal.rsqrt s
        * Ideal.div (∑ k : Fin n, ((x (ix2 (i 0) k) * Ideal.rsqrt s * g (ix2 0 k) - t (ix2 (i 0) k)) * Ideal.ofBits .f32 981467136#32) * g (ix2 0 k) * (x (ix2 (i 0) k) * Ideal.rsqrt s))
            (Ideal.ofBits .f32 1149239296#32))
      = ((x i * Ideal.rsqrt s * g (ix2 0 (i 1)) - t i) * Ideal.ofBits .f32 981467136#32) * g (ix2 0 (i 1)) * Ideal.rsqrt s
        + x i * Ideal.div ((∑ k : Fin n, x (ix2 (i 0) k) * (((x (ix2 (i 0) k) * Ideal.rsqrt s * g (ix2 0 k) - t (ix2 (i 0) k)) * Ideal.ofBits .f32 981467136#32) * g (ix2 0 k)))
            * (Ideal.ofBits .f32 3204448256#32 * Ideal.div (Ideal.rsqrt s) s)) (Ideal.ofBits .f32 1149239296#32)
        + Ideal.div ((∑ k : Fin n, x (ix2 (i 0) k) * (((x (ix2 (i 0) k) * Ideal.rsqrt s * g (ix2 0 k) - t (ix2 (i 0) k)) * Ideal.ofBits .f32 981467136#32) * g (ix2 0 k)))
            * (Ideal.ofBits .f32 3204448256#32 * Ideal.div (Ideal.rsqrt s) s)) (Ideal.ofBits .f32 1149239296#32) * x i :=
  grad_at x (fun l => (x l * Ideal.rsqrt s * g (ix2 0 (l 1)) - t l) * Ideal.ofBits .f32 981467136#32) g i s hs

/-- The loss's cotangent as the chain rule gives it, half a mean of a square: the error by 1/1024. -/
theorem cotangent (e : EReal) :
    Ideal.div (Ideal.ofBits .f32 1056964608#32) (Ideal.ofBits .f32 1149239296#32) * (Ideal.ofBits .f32 1073741824#32 * e)
      = e * Ideal.ofBits .f32 981467136#32 := by
  have h1 : Ideal.ofBits .f32 1056964608#32 = ((1 / 2 : ℝ) : EReal) := by
    simp [Ideal.ofBits, Ideal.ieee, -EReal.coe_mul]; norm_num
  have h2 : Ideal.ofBits .f32 1073741824#32 = ((2 : ℝ) : EReal) := by
    simp [Ideal.ofBits, Ideal.ieee, -EReal.coe_mul]; norm_num
  have h3 : Ideal.ofBits .f32 981467136#32 = ((1 / 1024 : ℝ) : EReal) := by
    simp [Ideal.ofBits, Ideal.ieee, -EReal.coe_mul]; norm_num
  rw [div_1024, h1, h2, h3, ← mul_assoc, mul_comm e, ← EReal.coe_mul, ← EReal.coe_mul]
  congr 2
  norm_num

/-- A half goes into a sum. -/
theorem half_sum {n : ℕ} (f : Fin n → EReal) :
    ∑ i, Ideal.ofBits .f32 1056964608#32 * f i = Ideal.ofBits .f32 1056964608#32 * ∑ i, f i := by
  have h : Ideal.ofBits .f32 1056964608#32 = ((1 / 2 : ℝ) : EReal) := by
    simp [Ideal.ofBits, Ideal.ieee, -EReal.coe_mul]; norm_num
  rw [h, real_mul_sum _ (by norm_num)]

end Cert.Proof.NormMath
-- ==== Proof.NormBack.lean ====
module

public import proofs.«01_k».proof.Defs
public import proofs.«01_k».proof.Proof.Gen.Kernel21
public import proofs.«01_k».proof.Proof.Gen.Kernel21Ideal.Value
public import proofs.«01_k».proof.Proof.Gen.Reference21Ideal.Run
public import proofs.«01_k».proof.Proof.NormMath
public import Idealize.ShloMosaic.Lib.Claim
public import Idealize.ShloMosaic.Lib.Pipeline.ValueKit
public import Idealize.ShloMosaic.Lib.Pointwise

/-! The gradient of the root-mean-square norm and of the residual stream beside it. -/

@[expose] public section

namespace Cert.Proof.NormBack

open Idealize.ShloMosaic Idealize.ShloMosaic.TcCoe Idealize.ShloMosaic.Tactic Idealize.SL.Sem
open Cert.Kernel21Ideal Cert.Kernel21Ideal.Gen

/-- The blocks that grid point `t` works on. -/
theorem idx : ∀ t : Fin cfg0.N, win0_0.index t = ![t.val, 0]
    ∧ win0_1.index t = ![t.val, 0]
    ∧ win0_2.index t = ![0, 0]
    ∧ win0_3.index t = ![t.val, 0]
    ∧ win0_4.index t = ![t.val, 0]
    ∧ win0_5.index t = ![t.val, 0]
    ∧ win0_6.index t = ![0, 0] := by decide +kernel

/-- The first point is the one whose number divides by the number of points. -/
theorem first (t : Fin cfg0.N) (h : t.val % 8 = 0) : ¬1 ≤ t.val := by
  have h8 : t.val < 8 := t.isLt
  omega

/-- Any later point. -/
theorem later (t : Fin cfg0.N) (h : ¬t.val % 8 = 0) : 1 ≤ t.val := by
  have h8 : t.val < 8 := t.isLt
  omega

/-- What a point leaves of the gradient of `x`. -/
theorem out4 (m : (ℓ : Loc nD τ sig) → Buf (Elt Ideal) ℓ) (c : Dev nD) (t : Fin cfg0.N) :
    (outsAt0 m c t.val t.isLt).1 = k0_pay4 (iblk m c 0 t) (iblk m c 1 t) (iblk m c 2 t) (iblk m c 3 t) := by
  by_cases h : t.val % 8 = 0
  · rw [outsAt0_A m c t h (first t h)]; frame_out
  · rw [outsAt0_B m c t h (later t h)]; frame_out

/-- What a point leaves of its rounded copy. -/
theorem out5 (m : (ℓ : Loc nD τ sig) → Buf (Elt Ideal) ℓ) (c : Dev nD) (t : Fin cfg0.N) :
    (outsAt0 m c t.val t.isLt).2.1 = k0_pay6 (iblk m c 0 t) (iblk m c 1 t) (iblk m c 2 t) (iblk m c 3 t) := by
  by_cases h : t.val % 8 = 0
  · rw [outsAt0_A m c t h (first t h)]; frame_out
  · rw [outsAt0_B m c t h (later t h)]; frame_out

/-- The gradient of the scale after the last point: the points' parts, added. -/
theorem out6 (m : (ℓ : Loc nD τ sig) → Buf (Elt Ideal) ℓ) (c : Dev nD) (j : S1x1024.Idx) :
    (outsAt0 m c 7 (by decide)).2.2 j = ∑ p : Fin cfg0.N, k0_pay5 (F := Ideal) (iblk m c 0 p) (iblk m c 3 p) j := by
  rw [Pipeline.eq_sum_fin_of_reset_step_apply_last (fun n h => (outsAt0 m c n h).2.2) 8 (fun _ => (0 : EReal)) _
      (fun t h j => by rw [outsAt0_A m c t h (first t h)]; frame_out; exact (zero_add _).symm)
      (fun t h j => by rw [outsAt0_B m c t h (later t h)]; frame_out; pointwise [k0_pay1])
      (by decide) (⟨7, by decide⟩ : Fin cfg0.N) rfl j, zero_add]

/-- The kernel's frame at the machine's own formats: its text is its idealization's, whose run is over any floats. -/
theorem frame_kernel : Cert.quiescent_Kernel21 := by
  intro m ρ _
  have hb : (Cert.Kernel21.defs₀ (F := Bits)) = defs₀ := congrArg Defs.onTc (funext fun l => match l with | 0 => rfl)
  have hd : (Cert.Kernel21.defs (F := Bits)) = defs := by
    unfold Cert.Kernel21.defs Cert.Kernel21Ideal.defs
    rw [hb]
    rfl
  rw [hd, show (Cert.Kernel21.main (F := Bits)) = main from rfl]
  exact Gen.frame (F := Bits) m ρ

/-- The idealized kernel's frame. -/
theorem frame_ideal : Cert.quiescent_Kernel21Ideal := fun m ρ _ => Gen.frame (F := Ideal) m ρ

/-- The reference's frame: host operations only, and no semaphore declared. -/
theorem frame_reference : Cert.quiescent_Reference21Ideal := fun m ρ _ =>
  (θ_run Cert.Reference21Ideal.defs _ _).mono
    (fun _ h => ⟨fun c => (h c).2.2.2, funext fun s => by rcases s with ⟨_, s | s⟩ <;> exact s.elim0⟩)
    (Cert.Reference21Ideal.Value.run (F := Ideal) m ρ)

set_option maxRecDepth 65536 in
/-- Each block of the kernel's results is the block of the reference's. -/
theorem algebraic : Cert.algebraic_Kernel21Ideal_Reference21Ideal := by
  pair_intro
  · run_from Value.run_blocks (F := Ideal) m g & Gen.frame (F := Ideal) m g
  · -- the kernel's results by name, so that the reference's values are compared with them only further down
    obtain ⟨w4, h4⟩ : ∃ w : Dev nD → Vec Ideal S4096x1024 .f32, ∀ c, (dats m 0 c).arrAt 4 cfg0.N = w c := ⟨_, fun _ => rfl⟩
    obtain ⟨w5, h5⟩ : ∃ w : Dev nD → Vec Ideal S4096x1024 .bf16, ∀ c, (dats m 0 c).arrAt 5 cfg0.N = w c := ⟨_, fun _ => rfl⟩
    obtain ⟨w6, h6⟩ : ∃ w : Dev nD → Vec Ideal S1x1024 .f32, ∀ c, (dats m 0 c).arrAt 6 cfg0.N = w c := ⟨_, fun _ => rfl⟩
    simp only [h4, h5, h6]
    refine θ_run_mono (Cert.Reference21Ideal.Value.run (F := Ideal) m' g') fun r hr c => ?_
    have hc := hr c
    refine ⟨hc.1.trans ?_, hc.2.1.trans ?_, hc.2.2.1.trans ?_, hc.2.2.2⟩ <;> clear hc hr <;> simp only [hagree c]
    · rw [← h4]
      refine ((dats m 0 c).arrAt_eq_of_covers 4 _ (by decide +kernel) fun t hf y => ?_).symm
      blk_simp
      rw [after0_4, out4]
      pointwise [k0_pay2, k0_pay3, k0_pay4, k0_pay6]
      rw [Fin.sum_univ_one]
      refine Eq.trans ?_ (NormMath.grad_entry (m (c.tc.loc main_arg0)) (m (c.tc.loc main_arg3)) (m (c.tc.loc main_arg2))
        (((View.whole main_v0_0).slice (win0_4.rect t)).emb y) _ _ rfl)
      blk_point [iblk, V, (idx t).1, (idx t).2.1, (idx t).2.2.1, (idx t).2.2.2.1, (idx t).2.2.2.2.1, (idx t).2.2.2.2.2.1, (idx t).2.2.2.2.2.2]
    · rw [← h5]
      refine ((dats m 0 c).arrAt_eq_of_covers 5 _ (by decide +kernel) fun t hf y => ?_).symm
      blk_simp
      rw [after0_5, out5]
      pointwise [k0_pay2, k0_pay3, k0_pay4, k0_pay6]
      rw [Fin.sum_univ_one]
      refine Eq.trans ?_ (NormMath.grad_entry (m (c.tc.loc main_arg0)) (m (c.tc.loc main_arg3)) (m (c.tc.loc main_arg2))
        (((View.whole main_v0_1).slice (win0_5.rect t)).emb y) _ _ rfl)
      blk_point [iblk, V, (idx t).1, (idx t).2.1, (idx t).2.2.1, (idx t).2.2.2.1, (idx t).2.2.2.2.1, (idx t).2.2.2.2.2.1, (idx t).2.2.2.2.2.2]
    · rw [← h6]
      refine ((dats m 0 c).arrAt_eq_of_after_last 6 (⟨7, by decide⟩ : Fin cfg0.N) (by decide +kernel) _ fun y => ?_).symm
      rw [after0_6]
      refine (out6 m c _).trans ?_
      pointwise [k0_pay2, k0_pay3, k0_pay5]
      refine Fin.sum_mul_add_congr (S := 8) (n := 512) fun t k hl => ?_
      refine (mul_comm _ _).trans ?_
      blk_point [iblk, V, (idx t).1, (idx t).2.1, (idx t).2.2.1, (idx t).2.2.2.1, (idx t).2.2.2.2.1, (idx t).2.2.2.2.2.1, (idx t).2.2.2.2.2.2]

end Cert.Proof.NormBack
-- ==== Proof.LossHead.lean ====
module

public import proofs.«01_k».proof.Defs
public import proofs.«01_k».proof.Proof.Gen.Kernel24
public import proofs.«01_k».proof.Proof.Gen.Kernel24Ideal.Value
public import proofs.«01_k».proof.Proof.Gen.Reference24Ideal.Run
public import proofs.«01_k».proof.Proof.NormMath
public import Idealize.ShloMosaic.Lib.Claim
public import Idealize.ShloMosaic.Lib.Pipeline.ValueKit
public import Idealize.ShloMosaic.Lib.Pointwise

/-! The loss and its gradients. -/

@[expose] public section

namespace Cert.Proof.LossHead

open Idealize.ShloMosaic Idealize.ShloMosaic.TcCoe Idealize.ShloMosaic.Tactic Idealize.SL.Sem
open Cert.Kernel24Ideal Cert.Kernel24Ideal.Gen

/-- The blocks that grid point `t` works on. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![0, 0] := by decide +kernel

/-- The first point is the one whose number divides by the number of points. -/
theorem first (t : Fin cfg0.N) (h : t.val % 8 = 0) : ¬1 ≤ t.val := by
  have h8 : t.val < 8 := t.isLt
  omega

/-- Any later point. -/
theorem later (t : Fin cfg0.N) (h : ¬t.val % 8 = 0) : 1 ≤ t.val := by
  have h8 : t.val < 8 := t.isLt
  omega

/-- What a point leaves of the gradient of `x`. -/
theorem out3 (m : (ℓ : Loc nD τ sig) → Buf (Elt Ideal) ℓ) (c : Dev nD) (t : Fin cfg0.N) :
    (outsAt0 m c t.val t.isLt).1 = k0_pay9 (iblk m c 0 t) (iblk m c 1 t) (iblk m c 2 t) := by
  by_cases h : t.val % 8 = 0
  · rw [outsAt0_A m c t h (first t h)]; frame_out
  · rw [outsAt0_B m c t h (later t h)]; frame_out

/-- What a point leaves of its rounded copy. -/
theorem out4 (m : (ℓ : Loc nD τ sig) → Buf (Elt Ideal) ℓ) (c : Dev nD) (t : Fin cfg0.N) :
    (outsAt0 m c t.val t.isLt).2.1 = k0_pay2 (k0_pay9 (iblk m c 0 t) (iblk m c 1 t) (iblk m c 2 t)) := by
  by_cases h : t.val % 8 = 0
  · rw [outsAt0_A m c t h (first t h)]; frame_out
  · rw [outsAt0_B m c t h (later t h)]; frame_out

/-- The gradient of the scale after the last point: the points' parts, added. -/
theorem out5 (m : (ℓ : Loc nD τ sig) → Buf (Elt Ideal) ℓ) (c : Dev nD) (j : S1x1024.Idx) :
    (outsAt0 m c 7 (by decide)).2.2.1 j = ∑ p : Fin cfg0.N, k0_pay10 (F := Ideal) (iblk m c 0 p) (iblk m c 1 p) (iblk m c 2 p) j := by
  rw [Pipeline.eq_sum_fin_of_reset_step_apply_last (fun n h => (outsAt0 m c n h).2.2.1) 8 (fun _ => (0 : EReal)) _
      (fun t h j => by rw [outsAt0_A m c t h (first t h)]; frame_out; exact (zero_add _).symm)
      (fun t h j => by rw [outsAt0_B m c t h (later t h)]; frame_out; pointwise [k0_pay3])
      (by decide) (⟨7, by decide⟩ : Fin cfg0.N) rfl j, zero_add]

/-- The loss after the last point: the points' parts, added. -/
theorem out6 (m : (ℓ : Loc nD τ sig) → Buf (Elt Ideal) ℓ) (c : Dev nD) (j : S1x128.Idx) :
    (outsAt0 m c 7 (by decide)).2.2.2 j = ∑ p : Fin cfg0.N, k0_pay1 (F := Ideal) (k0_pay11 (iblk m c 0 p) (iblk m c 1 p) (iblk m c 2 p)) j := by
  rw [Pipeline.eq_sum_fin_of_reset_step_apply_last (fun n h => (outsAt0 m c n h).2.2.2) 8 (fun _ => (0 : EReal)) _
      (fun t h j => by rw [outsAt0_A m c t h (first t h)]; frame_out; exact (zero_add _).symm)
      (fun t h j => by rw [outsAt0_B m c t h (later t h)]; frame_out; pointwise [k0_pay4])
      (by decide) (⟨7, by decide⟩ : Fin cfg0.N) rfl j, zero_add]

/-- The kernel's frame at the machine's own formats: its text is its idealization's, whose run is over any floats. -/
theorem frame_kernel : Cert.quiescent_Kernel24 := by
  intro m ρ _
  have hb : (Cert.Kernel24.defs₀ (F := Bits)) = defs₀ := congrArg Defs.onTc (funext fun l => match l with | 0 => rfl)
  have hd : (Cert.Kernel24.defs (F := Bits)) = defs := by
    unfold Cert.Kernel24.defs Cert.Kernel24Ideal.defs
    rw [hb]
    rfl
  rw [hd, show (Cert.Kernel24.main (F := Bits)) = main from rfl]
  exact Gen.frame (F := Bits) m ρ

/-- The idealized kernel's frame. -/
theorem frame_ideal : Cert.quiescent_Kernel24Ideal := fun m ρ _ => Gen.frame (F := Ideal) m ρ

/-- The reference's frame: host operations only, and no semaphore declared. -/
theorem frame_reference : Cert.quiescent_Reference24Ideal := fun m ρ _ =>
  (θ_run Cert.Reference24Ideal.defs _ _).mono
    (fun _ h => ⟨fun c => (h c).2.2.2.2, funext fun s => by rcases s with ⟨_, s | s⟩ <;> exact s.elim0⟩)
    (Cert.Reference24Ideal.Value.run (F := Ideal) m ρ)

set_option maxRecDepth 65536 in
set_option maxHeartbeats 1000000 in
/-- Each block of the kernel's results is the block of the reference's. -/
theorem algebraic : Cert.algebraic_Kernel24Ideal_Reference24Ideal := by
  pair_intro
  · run_from Value.run_blocks (F := Ideal) m g & Gen.frame (F := Ideal) m g
  · -- the kernel's results by name, so that the reference's values are compared with them only further down
    obtain ⟨w3, h3⟩ : ∃ w : Dev nD → Vec Ideal S4096x1024 .f32, ∀ c, (dats m 0 c).arrAt 3 cfg0.N = w c := ⟨_, fun _ => rfl⟩
    obtain ⟨w4, h4⟩ : ∃ w : Dev nD → Vec Ideal S4096x1024 .bf16, ∀ c, (dats m 0 c).arrAt 4 cfg0.N = w c := ⟨_, fun _ => rfl⟩
    obtain ⟨w5, h5⟩ : ∃ w : Dev nD → Vec Ideal S1x1024 .f32, ∀ c, (dats m 0 c).arrAt 5 cfg0.N = w c := ⟨_, fun _ => rfl⟩
    obtain ⟨w6, h6⟩ : ∃ w : Dev nD → Vec Ideal S1x128 .f32, ∀ c, (dats m 0 c).arrAt 6 cfg0.N = w c := ⟨_, fun _ => rfl⟩
    simp only [h3, h4, h5, h6]
    refine θ_run_mono (Cert.Reference24Ideal.Value.run (F := Ideal) m' g') fun r hr c => ?_
    have hc := hr c
    refine ⟨hc.1.trans ?_, hc.2.1.trans ?_, hc.2.2.1.trans ?_, hc.2.2.2.1.trans ?_, hc.2.2.2.2⟩ <;> clear hc hr
      <;> simp only [Cert.Reference24Ideal.Value.res_main_v48, Cert.Reference24Ideal.Value.res_main_v49, hagree c]
    · rw [← h3]
      refine ((dats m 0 c).arrAt_eq_of_covers 3 _ (by decide +kernel) fun t hf y => ?_).symm
      blk_simp
      rw [after0_3, out3]
      pointwise [k0_pay5, k0_pay6, k0_pay7, k0_pay8, k0_pay9]
      simp only [NormMath.cotangent, Fin.sum_univ_one]
      refine Eq.trans ?_ (NormMath.grad_loss (m (c.tc.loc main_arg0)) (m (c.tc.loc main_arg2)) (m (c.tc.loc main_arg1))
        (((View.whole main_v0_0).slice (win0_3.rect t)).emb y) _ rfl)
      blk_point [iblk, V, (idx t).1, (idx t).2.1, (idx t).2.2.1, (idx t).2.2.2.1, (idx t).2.2.2.2.1, (idx t).2.2.2.2.2.1, (idx t).2.2.2.2.2.2]
    · rw [← h4]
      refine ((dats m 0 c).arrAt_eq_of_covers 4 _ (by decide +kernel) fun t hf y => ?_).symm
      blk_simp
      rw [after0_4, out4]
      pointwise [k0_pay5, k0_pay6, k0_pay7, k0_pay8, k0_pay9, k0_pay2]
      simp only [NormMath.cotangent, Fin.sum_univ_one]
      refine Eq.trans ?_ (NormMath.grad_loss (m (c.tc.loc main_arg0)) (m (c.tc.loc main_arg2)) (m (c.tc.loc main_arg1))
        (((View.whole main_v0_1).slice (win0_4.rect t)).emb y) _ rfl)
      blk_point [iblk, V, (idx t).1, (idx t).2.1, (idx t).2.2.1, (idx t).2.2.2.1, (idx t).2.2.2.2.1, (idx t).2.2.2.2.2.1, (idx t).2.2.2.2.2.2]
    · rw [← h5]
      refine ((dats m 0 c).arrAt_eq_of_after_last 5 (⟨7, by decide⟩ : Fin cfg0.N) (by decide +kernel) _ fun y => ?_).symm
      rw [after0_5]
      refine (out5 m c _).trans ?_
      pointwise [k0_pay5, k0_pay6, k0_pay7, k0_pay8, k0_pay10]
      refine Fin.sum_mul_add_congr (S := 8) (n := 512) fun t k hl => ?_
      rw [NormMath.cotangent, mul_comm]
      blk_point [iblk, V, (idx t).1, (idx t).2.1, (idx t).2.2.1, (idx t).2.2.2.1, (idx t).2.2.2.2.1, (idx t).2.2.2.2.2.1, (idx t).2.2.2.2.2.2]
    · rw [← h6]
      refine ((dats m 0 c).arrAt_eq_of_after_last 6 (⟨7, by decide⟩ : Fin cfg0.N) (by decide +kernel) _ fun y => ?_).symm
      rw [after0_6]
      refine (out6 m c _).trans ?_
      pointwise [k0_pay5, k0_pay6, k0_pay7, k0_pay8, k0_pay1, k0_pay11]
      refine (NormMath.half_sum _).trans (congrArg (Ideal.ofBits .f32 1056964608#32 * ·) ?_)
      refine Fin.sum_mul_add_congr (S := 8) (n := 512) fun t k hl => ?_
      blk_point [iblk, V, (idx t).1, (idx t).2.1, (idx t).2.2.1, (idx t).2.2.2.1, (idx t).2.2.2.2.1, (idx t).2.2.2.2.2.1, (idx t).2.2.2.2.2.2]

end Cert.Proof.LossHead
-- ==== Proof.NormForward.lean ====
module

public import proofs.«01_k».proof.Defs
public import proofs.«01_k».proof.Proof.Gen.Kernel25
public import proofs.«01_k».proof.Proof.Gen.Kernel25Ideal.Value
public import proofs.«01_k».proof.Proof.Gen.Reference25Ideal.Run
public import Idealize.ShloMosaic.Lib.Claim
public import Idealize.ShloMosaic.Lib.Pipeline.ValueKit
public import Idealize.ShloMosaic.Lib.Pointwise

/-! The root-mean-square norm, row by row. -/

@[expose] public section

namespace Cert.Proof.NormForward

open Idealize.ShloMosaic Idealize.ShloMosaic.TcCoe Idealize.ShloMosaic.Tactic Idealize.SL.Sem
open Cert.Kernel25Ideal Cert.Kernel25Ideal.Gen

/-- The blocks that grid point `t` works on. -/
theorem idx : ∀ t : Fin cfg0.N, win0_0.index t = ![t.val, 0]
    ∧ win0_1.index t = ![0, 0]
    ∧ win0_2.index t = ![t.val, 0] := by decide +kernel

/-- The kernel's frame at the machine's own formats: its text is its idealization's, whose run is over any floats. -/
theorem frame_kernel : Cert.quiescent_Kernel25 := by
  intro m ρ _
  have hb : (Cert.Kernel25.defs₀ (F := Bits)) = defs₀ := congrArg Defs.onTc (funext fun l => match l with | 0 => rfl)
  have hd : (Cert.Kernel25.defs (F := Bits)) = defs := by
    unfold Cert.Kernel25.defs Cert.Kernel25Ideal.defs
    rw [hb]
    rfl
  rw [hd, show (Cert.Kernel25.main (F := Bits)) = main from rfl]
  exact Gen.frame (F := Bits) m ρ

/-- The idealized kernel's frame. -/
theorem frame_ideal : Cert.quiescent_Kernel25Ideal := fun m ρ _ => Gen.frame (F := Ideal) m ρ

/-- The reference's frame: host operations only, and no semaphore declared. -/
theorem frame_reference : Cert.quiescent_Reference25Ideal := fun m ρ _ =>
  (θ_run Cert.Reference25Ideal.defs _ _).mono
    (fun _ h => ⟨fun c => (h c).2, funext fun s => by rcases s with ⟨_, s | s⟩ <;> exact s.elim0⟩)
    (Cert.Reference25Ideal.Value.run (F := Ideal) m ρ)

set_option maxRecDepth 65536 in
/-- Each block of the kernel's results is the block of the reference's. -/
theorem algebraic : Cert.algebraic_Kernel25Ideal_Reference25Ideal := by
  pair_intro
  · run_from Value.run_blocks (F := Ideal) m g & Gen.frame (F := Ideal) m g
  · run_from Cert.Reference25Ideal.Value.run (F := Ideal) m' g'
    refine ((dats m 0 c).arrAt_eq_of_covers 2 _ (by decide +kernel) fun t hf y => ?_).symm
    blk_simp
    rw [after0_2]
    frame_out
    pointwise [k0_pay1]
    blk_point [iblk, V, (idx t).1, (idx t).2.1, (idx t).2.2]

end Cert.Proof.NormForward
-- ==== Proof.GluForward.lean ====
module

public import proofs.«01_k».proof.Proof.Elementwise
public import proofs.«01_k».proof.Defs
public import proofs.«01_k».proof.Proof.Gen.Kernel26
public import proofs.«01_k».proof.Proof.Gen.Kernel26Ideal.Value
public import proofs.«01_k».proof.Proof.Gen.Reference26Ideal.Run
public import Idealize.ShloMosaic.Lib.Claim
public import Idealize.ShloMosaic.Lib.Pipeline.ValueKit
public import Idealize.ShloMosaic.Lib.Pointwise

/-! The gated output and its residual sum, row by row. -/

@[expose] public section

namespace Cert.Proof.GluForward

open Idealize.ShloMosaic Idealize.ShloMosaic.TcCoe Idealize.ShloMosaic.Tactic Idealize.SL.Sem
open Cert.Kernel26Ideal Cert.Kernel26Ideal.Gen

/-- The blocks that grid point `t` works on. -/
theorem idx : ∀ t : Fin cfg0.N, win0_0.index t = ![t.val, 0]
    ∧ win0_1.index t = ![t.val, 0]
    ∧ win0_2.index t = ![t.val, 0] := by decide +kernel

/-- The kernel's frame at the machine's own formats: its text is its idealization's, whose run is over any floats. -/
theorem frame_kernel : Cert.quiescent_Kernel26 := by
  intro m ρ _
  have hb : (Cert.Kernel26.defs₀ (F := Bits)) = defs₀ := congrArg Defs.onTc (funext fun l => match l with | 0 => rfl)
  have hd : (Cert.Kernel26.defs (F := Bits)) = defs := by
    unfold Cert.Kernel26.defs Cert.Kernel26Ideal.defs
    rw [hb]
    rfl
  rw [hd, show (Cert.Kernel26.main (F := Bits)) = main from rfl]
  exact Gen.frame (F := Bits) m ρ

/-- The idealized kernel's frame. -/
theorem frame_ideal : Cert.quiescent_Kernel26Ideal := fun m ρ _ => Gen.frame (F := Ideal) m ρ

/-- The reference's frame: host operations only, and no semaphore declared. -/
theorem frame_reference : Cert.quiescent_Reference26Ideal := fun m ρ _ =>
  (θ_run Cert.Reference26Ideal.defs _ _).mono
    (fun _ h => ⟨fun c => (h c).2, funext fun s => by rcases s with ⟨_, s | s⟩ <;> exact s.elim0⟩)
    (Cert.Reference26Ideal.Value.run (F := Ideal) m ρ)

set_option maxRecDepth 65536 in
/-- Each block of the kernel's results is the block of the reference's. -/
theorem algebraic : Cert.algebraic_Kernel26Ideal_Reference26Ideal := by
  pair_intro
  · run_from Value.run_blocks (F := Ideal) m g & Gen.frame (F := Ideal) m g
  · run_from Cert.Reference26Ideal.Value.run (F := Ideal) m' g'
    refine ((dats m 0 c).arrAt_eq_of_covers 2 _ (by decide +kernel) fun t hf y => ?_).symm
    blk_simp
    rw [after0_2]
    frame_out
    pointwise [k0_pay1]
    simp only [logistic_eq]
    blk_point [iblk, V, (idx t).1, (idx t).2.1, (idx t).2.2]

end Cert.Proof.GluForward
-- ==== Proof.GateForward.lean ====
module

public import proofs.«01_k».proof.Proof.Elementwise
public import proofs.«01_k».proof.Defs
public import proofs.«01_k».proof.Proof.Gen.Kernel27
public import proofs.«01_k».proof.Proof.Gen.Kernel27Ideal.Value
public import proofs.«01_k».proof.Proof.Gen.Reference27Ideal.Run
public import Idealize.ShloMosaic.Lib.Claim
public import Idealize.ShloMosaic.Lib.Pipeline.ValueKit
public import Idealize.ShloMosaic.Lib.Pointwise

/-! The gated convolution, row by row: each block of rows and the last rows of the block before it. -/

@[expose] public section

namespace Cert.Proof.GateForward

open Idealize.ShloMosaic Idealize.ShloMosaic.TcCoe Idealize.ShloMosaic.Tactic Idealize.SL.Sem
open Cert.Kernel27Ideal Cert.Kernel27Ideal.Gen

/-- The blocks that grid point `t` works on. -/
theorem idx : ∀ t : Fin cfg0.N, win0_0.index t = ![t.val, 0]
    ∧ win0_1.index t = ![t.val * 16 - 1, 0]
    ∧ win0_2.index t = ![0, 0]
    ∧ win0_3.index t = ![0, 0]
    ∧ win0_4.index t = ![t.val, 0] := by decide +kernel

/-- The grid point's coordinate is its number. -/
theorem coord : ∀ t : Fin cfg0.N, (grid0.coords t 0).val = t.val := by decide +kernel

/-- A row shifted down by `k`: the first `k` rows come from the block before, and are zero in the first block. -/
theorem shifted (k r t : ℕ) (hk : k ≤ 8) (hr : r < 256) (ht : t < 16) (a : r < 8 → EReal) (b : EReal) :
    Scalar.select (IntOp.cmpi .slt (BitVec.ofNat 32 r) (BitVec.ofNat 32 k))
      (if h : r < 8 then Scalar.select (Scalar.cmpi .eq (BitVec.ofNat 32 t) 0#32) 0 (a h) else 0) b
      = if h : r < k then (if t = 0 then 0 else a (by omega)) else b := by
  have h1 : IntOp.cmpi .slt (BitVec.ofNat 32 r) (BitVec.ofNat 32 k) = BitVec.ofBool (decide (r < k)) :=
    WordCmp.cmpi_slt_ofNat (by omega) (by omega)
  have h2 : Scalar.cmpi .eq (BitVec.ofNat 32 t) 0#32 = BitVec.ofBool (decide (t = 0)) :=
    WordCmp.cmpi_eq_ofNat (by omega) (by omega)
  rw [h1]
  by_cases h : r < k
  · rw [dif_pos h, dif_pos (by omega), h2, decide_eq_true h]
    by_cases h0 : t = 0
    · rw [if_pos h0, decide_eq_true h0]; rfl
    · rw [if_neg h0, decide_eq_false h0]; rfl
  · rw [dif_neg h, decide_eq_false h]; rfl

/-- The kernel's frame at the machine's own formats: its text is its idealization's, whose run is over any floats. -/
theorem frame_kernel : Cert.quiescent_Kernel27 := by
  intro m ρ _
  have hb : (Cert.Kernel27.defs₀ (F := Bits)) = defs₀ := congrArg Defs.onTc (funext fun l => match l with | 0 => rfl)
  have hd : (Cert.Kernel27.defs (F := Bits)) = defs := by
    unfold Cert.Kernel27.defs Cert.Kernel27Ideal.defs
    rw [hb]
    rfl
  rw [hd, show (Cert.Kernel27.main (F := Bits)) = main from rfl]
  exact Gen.frame (F := Bits) m ρ

/-- The idealized kernel's frame. -/
theorem frame_ideal : Cert.quiescent_Kernel27Ideal := fun m ρ _ => Gen.frame (F := Ideal) m ρ

/-- The reference's frame: host operations only, and no semaphore declared. -/
theorem frame_reference : Cert.quiescent_Reference27Ideal := fun m ρ _ =>
  (θ_run Cert.Reference27Ideal.defs _ _).mono
    (fun _ h => ⟨fun c => (h c).2, funext fun s => by rcases s with ⟨_, s | s⟩ <;> exact s.elim0⟩)
    (Cert.Reference27Ideal.Value.run (F := Ideal) m ρ)

set_option maxRecDepth 65536 in
set_option maxHeartbeats 4000000 in
/-- Each block of the kernel's results is the block of the reference's. -/
theorem algebraic : Cert.algebraic_Kernel27Ideal_Reference27Ideal := by
  pair_intro
  · run_from Value.run_blocks (F := Ideal) m g & Gen.frame (F := Ideal) m g
  · run_from Cert.Reference27Ideal.Value.run (F := Ideal) m' g'
    simp only [Cert.Reference27Ideal.Value.res_main_v23, hagree c]
    refine ((dats m 0 c).arrAt_eq_of_covers 4 _ (by decide +kernel) fun t hf y => ?_).symm
    blk_simp
    rw [after0_4]
    frame_out
    pointwise [k0_pay1, k0_pay2, k0_pay3, k0_pay4, k0_pay5, k0_pay6]
    simp only [logistic_eq]
    simp only [(hagree c).1]
    have hy : (((View.whole main_v0).slice (win0_4.rect t)).emb y 0).val = t.val * 256 + (y 0).val := by
      blk_point [(idx t).1, (idx t).2.1, (idx t).2.2.1, (idx t).2.2.2.1, (idx t).2.2.2.2]
    have hr : (y 0).val < 256 := (y 0).isLt
    have ht : t.val < 16 := t.isLt
    simp only [coord t, shifted 2 _ _ (by decide) hr ht, shifted 1 _ _ (by decide) hr ht]
    by_cases h1 : 1 + (((View.whole main_v0).slice (win0_4.rect t)).emb y 0).val < 2
    · have h2 : (((View.whole main_v0).slice (win0_4.rect t)).emb y 0).val < 2 := by omega
      have h3 : (y 0).val < 1 := by omega
      have h4 : (y 0).val < 2 := by omega
      have h5 : t.val = 0 := by omega
      simp only [dif_pos h1, dif_pos h2, dif_pos h3, dif_pos h4, if_pos h5]
      blk_point [iblk, V, (idx t).1, (idx t).2.1, (idx t).2.2.1, (idx t).2.2.2.1, (idx t).2.2.2.2]
    · simp only [dif_neg h1]
      by_cases h2 : (((View.whole main_v0).slice (win0_4.rect t)).emb y 0).val < 2
      · have h3 : ¬(y 0).val < 1 := by omega
        have h4 : (y 0).val < 2 := by omega
        have h5 : t.val = 0 := by omega
        simp only [dif_pos h2, dif_neg h3, dif_pos h4, if_pos h5]
        blk_point [iblk, V, (idx t).1, (idx t).2.1, (idx t).2.2.1, (idx t).2.2.2.1, (idx t).2.2.2.2]
      · simp only [dif_neg h2]
        by_cases h4 : (y 0).val < 2
        · have h5 : ¬t.val = 0 := by omega
          simp only [dif_pos h4, if_neg h5]
          by_cases h3 : (y 0).val < 1
          · simp only [dif_pos h3]
            blk_point [iblk, V, (idx t).1, (idx t).2.1, (idx t).2.2.1, (idx t).2.2.2.1, (idx t).2.2.2.2]
          · simp only [dif_neg h3]
            blk_point [iblk, V, (idx t).1, (idx t).2.1, (idx t).2.2.1, (idx t).2.2.2.1, (idx t).2.2.2.2]
        · have h3 : ¬(y 0).val < 1 := by omega
          simp only [dif_neg h3, dif_neg h4]
          blk_point [iblk, V, (idx t).1, (idx t).2.1, (idx t).2.2.1, (idx t).2.2.2.1, (idx t).2.2.2.2]

end Cert.Proof.GateForward
-- ==== Proof.AdamwPack.lean ====
module

public import proofs.«01_k».proof.Defs
public import proofs.«01_k».proof.Proof.Gen.Kernel28
public import proofs.«01_k».proof.Proof.Gen.Kernel28Ideal.Value
public import proofs.«01_k».proof.Proof.Gen.Reference28Ideal.Run
public import proofs.«01_k».proof.Proof.Elementwise
public import Idealize.ShloMosaic.Lib.Claim
public import Idealize.ShloMosaic.Lib.Pipeline.ValueKit
public import Idealize.ShloMosaic.Lib.Pointwise

/-! The optimiser's step on the packed arrays with 1024 columns. -/

@[expose] public section

namespace Cert.Proof.AdamwPack

open Idealize.ShloMosaic Idealize.ShloMosaic.TcCoe Idealize.ShloMosaic.Tactic Idealize.SL.Sem
open Cert.Kernel28Ideal Cert.Kernel28Ideal.Gen

/-- The blocks that grid point `t` works on. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0] := by decide +kernel

/-- The kernel's frame at the machine's own formats: its text is its idealization's, whose run is over any floats. -/
theorem frame_kernel : Cert.quiescent_Kernel28 := by
  intro m ρ _
  have hb : (Cert.Kernel28.defs₀ (F := Bits)) = defs₀ := congrArg Defs.onTc (funext fun l => match l with | 0 => rfl)
  have hd : (Cert.Kernel28.defs (F := Bits)) = defs := by
    unfold Cert.Kernel28.defs Cert.Kernel28Ideal.defs
    rw [hb]
    rfl
  rw [hd, show (Cert.Kernel28.main (F := Bits)) = main from rfl]
  exact Gen.frame (F := Bits) m ρ

/-- The idealized kernel's frame. -/
theorem frame_ideal : Cert.quiescent_Kernel28Ideal := fun m ρ _ => Gen.frame (F := Ideal) m ρ

/-- The reference's frame: host operations only, and no semaphore declared. -/
theorem frame_reference : Cert.quiescent_Reference28Ideal := fun m ρ _ =>
  (θ_run Cert.Reference28Ideal.defs _ _).mono
    (fun _ h => ⟨fun c => (h c).2.2.2.2, funext fun s => by rcases s with ⟨_, s | s⟩ <;> exact s.elim0⟩)
    (Cert.Reference28Ideal.Value.run (F := Ideal) m ρ)

set_option maxRecDepth 65536 in
/-- Each block of the kernel's results is the block of the reference's. -/
theorem algebraic : Cert.algebraic_Kernel28Ideal_Reference28Ideal := by
  pair_intro
  · run_from Value.run_blocks (F := Ideal) m g & Gen.frame (F := Ideal) m g
  · run_from Cert.Reference28Ideal.Value.run (F := Ideal) m' g'
    · refine ((dats m 0 c).arrAt_eq_of_covers 7 _ (by decide +kernel) fun t hf y => ?_).symm
      blk_simp
      rw [after0_7]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]
    · refine ((dats m 0 c).arrAt_eq_of_covers 8 _ (by decide +kernel) fun t hf y => ?_).symm
      blk_simp
      rw [after0_8]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]
    · refine ((dats m 0 c).arrAt_eq_of_covers 9 _ (by decide +kernel) fun t hf y => ?_).symm
      blk_simp
      rw [after0_9]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]
    · refine ((dats m 0 c).arrAt_eq_of_covers 10 _ (by decide +kernel) fun t hf y => ?_).symm
      blk_simp
      rw [after0_10]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]

end Cert.Proof.AdamwPack
-- ==== Proof.AdamwNarrow.lean ====
module

public import proofs.«01_k».proof.Defs
public import proofs.«01_k».proof.Proof.Gen.Kernel29
public import proofs.«01_k».proof.Proof.Gen.Kernel29Ideal.Value
public import proofs.«01_k».proof.Proof.Gen.Reference29Ideal.Run
public import proofs.«01_k».proof.Proof.Elementwise
public import Idealize.ShloMosaic.Lib.Claim
public import Idealize.ShloMosaic.Lib.Pipeline.ValueKit
public import Idealize.ShloMosaic.Lib.Pointwise

/-! The optimiser's step on the packed arrays with 256 columns. -/

@[expose] public section

namespace Cert.Proof.AdamwNarrow

open Idealize.ShloMosaic Idealize.ShloMosaic.TcCoe Idealize.ShloMosaic.Tactic Idealize.SL.Sem
open Cert.Kernel29Ideal Cert.Kernel29Ideal.Gen

/-- The blocks that grid point `t` works on. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0] := by decide +kernel

/-- The kernel's frame at the machine's own formats: its text is its idealization's, whose run is over any floats. -/
theorem frame_kernel : Cert.quiescent_Kernel29 := by
  intro m ρ _
  have hb : (Cert.Kernel29.defs₀ (F := Bits)) = defs₀ := congrArg Defs.onTc (funext fun l => match l with | 0 => rfl)
  have hd : (Cert.Kernel29.defs (F := Bits)) = defs := by
    unfold Cert.Kernel29.defs Cert.Kernel29Ideal.defs
    rw [hb]
    rfl
  rw [hd, show (Cert.Kernel29.main (F := Bits)) = main from rfl]
  exact Gen.frame (F := Bits) m ρ

/-- The idealized kernel's frame. -/
theorem frame_ideal : Cert.quiescent_Kernel29Ideal := fun m ρ _ => Gen.frame (F := Ideal) m ρ

/-- The reference's frame: host operations only, and no semaphore declared. -/
theorem frame_reference : Cert.quiescent_Reference29Ideal := fun m ρ _ =>
  (θ_run Cert.Reference29Ideal.defs _ _).mono
    (fun _ h => ⟨fun c => (h c).2.2.2.2, funext fun s => by rcases s with ⟨_, s | s⟩ <;> exact s.elim0⟩)
    (Cert.Reference29Ideal.Value.run (F := Ideal) m ρ)

set_option maxRecDepth 65536 in
/-- Each block of the kernel's results is the block of the reference's. -/
theorem algebraic : Cert.algebraic_Kernel29Ideal_Reference29Ideal := by
  pair_intro
  · run_from Value.run_blocks (F := Ideal) m g & Gen.frame (F := Ideal) m g
  · run_from Cert.Reference29Ideal.Value.run (F := Ideal) m' g'
    · refine ((dats m 0 c).arrAt_eq_of_covers 7 _ (by decide +kernel) fun t hf y => ?_).symm
      blk_simp
      rw [after0_7]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]
    · refine ((dats m 0 c).arrAt_eq_of_covers 8 _ (by decide +kernel) fun t hf y => ?_).symm
      blk_simp
      rw [after0_8]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]
    · refine ((dats m 0 c).arrAt_eq_of_covers 9 _ (by decide +kernel) fun t hf y => ?_).symm
      blk_simp
      rw [after0_9]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]
    · refine ((dats m 0 c).arrAt_eq_of_covers 10 _ (by decide +kernel) fun t hf y => ?_).symm
      blk_simp
      rw [after0_10]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]

end Cert.Proof.AdamwNarrow
-- ==== Proof.AdamwWide.lean ====
module

public import proofs.«01_k».proof.Defs
public import proofs.«01_k».proof.Proof.Gen.Kernel30
public import proofs.«01_k».proof.Proof.Gen.Kernel30Ideal.Value
public import proofs.«01_k».proof.Proof.Gen.Reference30Ideal.Run
public import proofs.«01_k».proof.Proof.Elementwise
public import Idealize.ShloMosaic.Lib.Claim
public import Idealize.ShloMosaic.Lib.Pipeline.ValueKit
public import Idealize.ShloMosaic.Lib.Pointwise

/-! The optimiser's step on the packed arrays with 704 columns. -/

@[expose] public section

namespace Cert.Proof.AdamwWide

open Idealize.ShloMosaic Idealize.ShloMosaic.TcCoe Idealize.ShloMosaic.Tactic Idealize.SL.Sem
open Cert.Kernel30Ideal Cert.Kernel30Ideal.Gen

/-- The blocks that grid point `t` works on. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0] := by decide +kernel

/-- The kernel's frame at the machine's own formats: its text is its idealization's, whose run is over any floats. -/
theorem frame_kernel : Cert.quiescent_Kernel30 := by
  intro m ρ _
  have hb : (Cert.Kernel30.defs₀ (F := Bits)) = defs₀ := congrArg Defs.onTc (funext fun l => match l with | 0 => rfl)
  have hd : (Cert.Kernel30.defs (F := Bits)) = defs := by
    unfold Cert.Kernel30.defs Cert.Kernel30Ideal.defs
    rw [hb]
    rfl
  rw [hd, show (Cert.Kernel30.main (F := Bits)) = main from rfl]
  exact Gen.frame (F := Bits) m ρ

/-- The idealized kernel's frame. -/
theorem frame_ideal : Cert.quiescent_Kernel30Ideal := fun m ρ _ => Gen.frame (F := Ideal) m ρ

/-- The reference's frame: host operations only, and no semaphore declared. -/
theorem frame_reference : Cert.quiescent_Reference30Ideal := fun m ρ _ =>
  (θ_run Cert.Reference30Ideal.defs _ _).mono
    (fun _ h => ⟨fun c => (h c).2.2.2.2, funext fun s => by rcases s with ⟨_, s | s⟩ <;> exact s.elim0⟩)
    (Cert.Reference30Ideal.Value.run (F := Ideal) m ρ)

set_option maxRecDepth 65536 in
/-- Each block of the kernel's results is the block of the reference's. -/
theorem algebraic : Cert.algebraic_Kernel30Ideal_Reference30Ideal := by
  pair_intro
  · run_from Value.run_blocks (F := Ideal) m g & Gen.frame (F := Ideal) m g
  · run_from Cert.Reference30Ideal.Value.run (F := Ideal) m' g'
    · refine ((dats m 0 c).arrAt_eq_of_covers 7 _ (by decide +kernel) fun t hf y => ?_).symm
      blk_simp
      rw [after0_7]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]
    · refine ((dats m 0 c).arrAt_eq_of_covers 8 _ (by decide +kernel) fun t hf y => ?_).symm
      blk_simp
      rw [after0_8]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]
    · refine ((dats m 0 c).arrAt_eq_of_covers 9 _ (by decide +kernel) fun t hf y => ?_).symm
      blk_simp
      rw [after0_9]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]
    · refine ((dats m 0 c).arrAt_eq_of_covers 10 _ (by decide +kernel) fun t hf y => ?_).symm
      blk_simp
      rw [after0_10]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]

end Cert.Proof.AdamwWide
-- ==== Proof.AdamwConv.lean ====
module

public import proofs.«01_k».proof.Defs
public import proofs.«01_k».proof.Proof.Gen.Kernel31
public import proofs.«01_k».proof.Proof.Gen.Kernel31Ideal.Value
public import proofs.«01_k».proof.Proof.Gen.Reference31Ideal.Run
public import proofs.«01_k».proof.Proof.Elementwise
public import Idealize.ShloMosaic.Lib.Claim
public import Idealize.ShloMosaic.Lib.Pipeline.ValueKit
public import Idealize.ShloMosaic.Lib.Pointwise

/-! The optimiser's step on the convolution weights. -/

@[expose] public section

namespace Cert.Proof.AdamwConv

open Idealize.ShloMosaic Idealize.ShloMosaic.TcCoe Idealize.ShloMosaic.Tactic Idealize.SL.Sem
open Cert.Kernel31Ideal Cert.Kernel31Ideal.Gen

/-- The blocks that grid point `t` works on. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0] := by decide +kernel

/-- The kernel's frame at the machine's own formats: its text is its idealization's, whose run is over any floats. -/
theorem frame_kernel : Cert.quiescent_Kernel31 := by
  intro m ρ _
  have hb : (Cert.Kernel31.defs₀ (F := Bits)) = defs₀ := congrArg Defs.onTc (funext fun l => match l with | 0 => rfl)
  have hd : (Cert.Kernel31.defs (F := Bits)) = defs := by
    unfold Cert.Kernel31.defs Cert.Kernel31Ideal.defs
    rw [hb]
    rfl
  rw [hd, show (Cert.Kernel31.main (F := Bits)) = main from rfl]
  exact Gen.frame (F := Bits) m ρ

/-- The idealized kernel's frame. -/
theorem frame_ideal : Cert.quiescent_Kernel31Ideal := fun m ρ _ => Gen.frame (F := Ideal) m ρ

/-- The reference's frame: host operations only, and no semaphore declared. -/
theorem frame_reference : Cert.quiescent_Reference31Ideal := fun m ρ _ =>
  (θ_run Cert.Reference31Ideal.defs _ _).mono
    (fun _ h => ⟨fun c => (h c).2.2.2.2, funext fun s => by rcases s with ⟨_, s | s⟩ <;> exact s.elim0⟩)
    (Cert.Reference31Ideal.Value.run (F := Ideal) m ρ)

set_option maxRecDepth 65536 in
/-- Each block of the kernel's results is the block of the reference's. -/
theorem algebraic : Cert.algebraic_Kernel31Ideal_Reference31Ideal := by
  pair_intro
  · run_from Value.run_blocks (F := Ideal) m g & Gen.frame (F := Ideal) m g
  · -- the kernel's results by name, so that the reference's values are compared with them only further down
    obtain ⟨w7, h7⟩ : ∃ w : Dev nD → Vec Ideal S6x352 .f32, ∀ c, (dats m 0 c).arrAt 7 cfg0.N = w c := ⟨_, fun _ => rfl⟩
    obtain ⟨w8, h8⟩ : ∃ w : Dev nD → Vec Ideal S6x352 .f32, ∀ c, (dats m 0 c).arrAt 8 cfg0.N = w c := ⟨_, fun _ => rfl⟩
    obtain ⟨w9, h9⟩ : ∃ w : Dev nD → Vec Ideal S6x352 .f32, ∀ c, (dats m 0 c).arrAt 9 cfg0.N = w c := ⟨_, fun _ => rfl⟩
    obtain ⟨w10, h10⟩ : ∃ w : Dev nD → Vec Ideal S6x352 .f32, ∀ c, (dats m 0 c).arrAt 10 cfg0.N = w c := ⟨_, fun _ => rfl⟩
    simp only [h7, h8, h9, h10]
    refine θ_run_mono (Cert.Reference31Ideal.Value.run (F := Ideal) m' g') fun r hr c => ?_
    have hc := hr c
    refine ⟨hc.1.trans ?_, hc.2.1.trans ?_, hc.2.2.1.trans ?_, hc.2.2.2.1.trans ?_, hc.2.2.2.2⟩ <;> clear hc hr <;> simp only [hagree c]
    · rw [← h7]
      refine ((dats m 0 c).arrAt_eq_of_covers 7 _ (by decide +kernel) fun t hf y => ?_).symm
      blk_simp
      rw [after0_7]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]
    · rw [← h8]
      refine ((dats m 0 c).arrAt_eq_of_covers 8 _ (by decide +kernel) fun t hf y => ?_).symm
      blk_simp
      rw [after0_8]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]
    · rw [← h9]
      refine ((dats m 0 c).arrAt_eq_of_covers 9 _ (by decide +kernel) fun t hf y => ?_).symm
      blk_simp
      rw [after0_9]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]
    · rw [← h10]
      refine ((dats m 0 c).arrAt_eq_of_covers 10 _ (by decide +kernel) fun t hf y => ?_).symm
      blk_simp
      rw [after0_10]
      frame_out
      pointwise [k0_pay1, k0_pay2, k0_pay3, k0_pay4, k0_pay5, k0_pay6]
      simp only [Fin.sum_univ_three, ← add_assoc]
      blk_point [iblk, V, (idx t).1, (idx t).2.1, (idx t).2.2.1, (idx t).2.2.2.1, (idx t).2.2.2.2.1, (idx t).2.2.2.2.2.1, (idx t).2.2.2.2.2.2.1, (idx t).2.2.2.2.2.2.2.1, (idx t).2.2.2.2.2.2.2.2.1, (idx t).2.2.2.2.2.2.2.2.2.1, (idx t).2.2.2.2.2.2.2.2.2.2]

end Cert.Proof.AdamwConv
-- ==== Proof.AdamwSmall.lean ====
module

public import proofs.«01_k».proof.Defs
public import proofs.«01_k».proof.Proof.Gen.Kernel32
public import proofs.«01_k».proof.Proof.Gen.Kernel32Ideal.Value
public import proofs.«01_k».proof.Proof.Gen.Reference32Ideal.Run
public import proofs.«01_k».proof.Proof.Elementwise
public import Idealize.ShloMosaic.Lib.Claim
public import Idealize.ShloMosaic.Lib.Pipeline.ValueKit
public import Idealize.ShloMosaic.Lib.Pointwise

/-! The optimiser's step on the small parameters. -/

@[expose] public section

namespace Cert.Proof.AdamwSmall

open Idealize.ShloMosaic Idealize.ShloMosaic.TcCoe Idealize.ShloMosaic.Tactic Idealize.SL.Sem
open Cert.Kernel32Ideal Cert.Kernel32Ideal.Gen

/-- The kernel's frame at the machine's own formats: its text is its idealization's, whose run is over any floats. -/
theorem frame_kernel : Cert.quiescent_Kernel32 := by
  intro m ρ _
  have hb : (Cert.Kernel32.defs₀ (F := Bits)) = defs₀ := congrArg Defs.onTc (funext fun l => match l with | 0 => rfl)
  have hd : (Cert.Kernel32.defs (F := Bits)) = defs := by
    unfold Cert.Kernel32.defs Cert.Kernel32Ideal.defs
    rw [hb]
    rfl
  rw [hd, show (Cert.Kernel32.main (F := Bits)) = main from rfl]
  exact Gen.frame (F := Bits) m ρ

/-- The idealized kernel's frame. -/
theorem frame_ideal : Cert.quiescent_Kernel32Ideal := fun m ρ _ => Gen.frame (F := Ideal) m ρ

/-- The reference's frame: host operations only, and no semaphore declared. -/
theorem frame_reference : Cert.quiescent_Reference32Ideal := fun m ρ _ =>
  (θ_run Cert.Reference32Ideal.defs _ _).mono
    (fun _ h => ⟨fun c => (h c).2.2.2.2, funext fun s => by rcases s with ⟨_, s | s⟩ <;> exact s.elim0⟩)
    (Cert.Reference32Ideal.Value.run (F := Ideal) m ρ)

set_option maxRecDepth 65536 in
/-- Each block of the kernel's results is the block of the reference's. -/
theorem algebraic : Cert.algebraic_Kernel32Ideal_Reference32Ideal := by
  pair_intro
  · run_from Value.run_blocks (F := Ideal) m g & Gen.frame (F := Ideal) m g
  · -- the kernel's results as names, so that the reference's values aren't compared with them yet
    obtain ⟨w4, h4⟩ : ∃ w : Dev nD → Vec Ideal S280x1024 .f32, ∀ c, (dats m 0 c).arrAt 4 cfg0.N = w c := ⟨_, fun _ => rfl⟩
    obtain ⟨w5, h5⟩ : ∃ w : Dev nD → Vec Ideal S280x1024 .f32, ∀ c, (dats m 0 c).arrAt 5 cfg0.N = w c := ⟨_, fun _ => rfl⟩
    obtain ⟨w6, h6⟩ : ∃ w : Dev nD → Vec Ideal S280x1024 .f32, ∀ c, (dats m 0 c).arrAt 6 cfg0.N = w c := ⟨_, fun _ => rfl⟩
    obtain ⟨w7, h7⟩ : ∃ w : Dev nD → Vec Ideal S280x1024 .f32, ∀ c, (dats m 0 c).arrAt 7 cfg0.N = w c := ⟨_, fun _ => rfl⟩
    simp only [h4, h5, h6, h7]
    refine θ_run_mono (Cert.Reference32Ideal.Value.run (F := Ideal) m' g') fun r hr c => ?_
    have hc := hr c
    refine ⟨hc.1.trans ?_, hc.2.1.trans ?_, hc.2.2.1.trans ?_, hc.2.2.2.1.trans ?_, hc.2.2.2.2⟩ <;> clear hc hr
    · simp only [hagree c]
      rw [← h4, Value.final4]
      unfold Value.G4
      funext y
      pointwise [k0_pay1, k0_pay2, k0_pay3, k0_pay4, k0_pay5, k0_pay6]
      simp only [Fin.sum_univ_eight]
    · simp only [hagree c]
      rw [← h5, Value.final5]
      unfold Value.G5
      funext y
      pointwise [k0_pay1, k0_pay2, k0_pay3, k0_pay4, k0_pay5, k0_pay6]
      simp only [Fin.sum_univ_eight]
    · simp only [hagree c]
      rw [← h6, Value.final6]
      unfold Value.G6
      funext y
      pointwise [k0_pay1, k0_pay2, k0_pay3, k0_pay4, k0_pay5, k0_pay6]
      simp only [Fin.sum_univ_eight]
    · simp only [hagree c]
      rw [← h7, Value.final7]
      unfold Value.G7
      funext y
      pointwise [k0_pay1, k0_pay2, k0_pay3, k0_pay4, k0_pay5, k0_pay6]
      simp only [Fin.sum_univ_eight]

end Cert.Proof.AdamwSmall
-- ==== Proof.PairRows.lean ====
module

public import proofs.«01_k».proof.Defs
public import proofs.«01_k».proof.Proof.Gen.Kernel33
public import proofs.«01_k».proof.Proof.Gen.Kernel33Ideal.Value
public import proofs.«01_k».proof.Proof.Gen.Reference33Ideal.Run
public import proofs.«01_k».proof.Proof.Elementwise
public import Idealize.ShloMosaic.Lib.Claim
public import Idealize.ShloMosaic.Lib.Pipeline.ValueKit
public import Idealize.ShloMosaic.Lib.Pointwise

/-! The sum of the two halves of a pair: 1024 columns. -/

@[expose] public section

namespace Cert.Proof.PairRows

open Idealize.ShloMosaic Idealize.ShloMosaic.TcCoe Idealize.ShloMosaic.Tactic Idealize.SL.Sem
open Cert.Kernel33Ideal Cert.Kernel33Ideal.Gen

/-- The blocks that grid point `t` works on. -/
theorem idx : ∀ t : Fin cfg0.N, win0_0.index t = ![t.val / 4, t.val % 4, 0]
    ∧ win0_1.index t = ![t.val / 4, t.val % 4, 0]
    ∧ win0_2.index t = ![t.val / 4, t.val % 4, 0]
    ∧ win0_3.index t = ![t.val / 4, t.val % 4, 0] := by decide +kernel

/-- The kernel's frame at the machine's own formats: its text is its idealization's, whose run is over any floats. -/
theorem frame_kernel : Cert.quiescent_Kernel33 := by
  intro m ρ _
  have hb : (Cert.Kernel33.defs₀ (F := Bits)) = defs₀ := congrArg Defs.onTc (funext fun l => match l with | 0 => rfl)
  have hd : (Cert.Kernel33.defs (F := Bits)) = defs := by
    unfold Cert.Kernel33.defs Cert.Kernel33Ideal.defs
    rw [hb]
    rfl
  rw [hd, show (Cert.Kernel33.main (F := Bits)) = main from rfl]
  exact Gen.frame (F := Bits) m ρ

/-- The idealized kernel's frame. -/
theorem frame_ideal : Cert.quiescent_Kernel33Ideal := fun m ρ _ => Gen.frame (F := Ideal) m ρ

/-- The reference's frame: host operations only, and no semaphore declared. -/
theorem frame_reference : Cert.quiescent_Reference33Ideal := fun m ρ _ =>
  (θ_run Cert.Reference33Ideal.defs _ _).mono
    (fun _ h => ⟨fun c => (h c).2.2, funext fun s => by rcases s with ⟨_, s | s⟩ <;> exact s.elim0⟩)
    (Cert.Reference33Ideal.Value.run (F := Ideal) m ρ)

set_option maxRecDepth 65536 in
/-- Each block of the kernel's results is the block of the reference's. -/
theorem algebraic : Cert.algebraic_Kernel33Ideal_Reference33Ideal := by
  pair_intro
  · run_from Value.run_blocks (F := Ideal) m g & Gen.frame (F := Ideal) m g
  · run_from Cert.Reference33Ideal.Value.run (F := Ideal) m' g'
    · refine ((dats m 0 c).arrAt_eq_of_covers 2 _ (by decide +kernel) fun t hf y => ?_).symm
      blk_simp
      rw [after0_2]
      frame_out
      pointwise [k0_pay1, k0_pay2]
      blk_point [iblk, V, (idx t).1, (idx t).2.1, (idx t).2.2.1, (idx t).2.2.2]
    · refine ((dats m 0 c).arrAt_eq_of_covers 3 _ (by decide +kernel) fun t hf y => ?_).symm
      blk_simp
      rw [after0_3]
      frame_out
      pointwise [k0_pay1, k0_pay2]
      blk_point [iblk, V, (idx t).1, (idx t).2.1, (idx t).2.2.1, (idx t).2.2.2]

end Cert.Proof.PairRows
-- ==== Proof.PairNarrow.lean ====
module

public import proofs.«01_k».proof.Defs
public import proofs.«01_k».proof.Proof.Gen.Kernel34
public import proofs.«01_k».proof.Proof.Gen.Kernel34Ideal.Value
public import proofs.«01_k».proof.Proof.Gen.Reference34Ideal.Run
public import proofs.«01_k».proof.Proof.Elementwise
public import Idealize.ShloMosaic.Lib.Claim
public import Idealize.ShloMosaic.Lib.Pipeline.ValueKit
public import Idealize.ShloMosaic.Lib.Pointwise

/-! The sum of the two halves of a pair: 256 columns. -/

@[expose] public section

namespace Cert.Proof.PairNarrow

open Idealize.ShloMosaic Idealize.ShloMosaic.TcCoe Idealize.ShloMosaic.Tactic Idealize.SL.Sem
open Cert.Kernel34Ideal Cert.Kernel34Ideal.Gen

/-- The blocks that grid point `t` works on. -/
theorem idx : ∀ t : Fin cfg0.N, win0_0.index t = ![t.val / 4, t.val % 4, 0]
    ∧ win0_1.index t = ![t.val / 4, t.val % 4, 0]
    ∧ win0_2.index t = ![t.val / 4, t.val % 4, 0]
    ∧ win0_3.index t = ![t.val / 4, t.val % 4, 0] := by decide +kernel

/-- The kernel's frame at the machine's own formats: its text is its idealization's, whose run is over any floats. -/
theorem frame_kernel : Cert.quiescent_Kernel34 := by
  intro m ρ _
  have hb : (Cert.Kernel34.defs₀ (F := Bits)) = defs₀ := congrArg Defs.onTc (funext fun l => match l with | 0 => rfl)
  have hd : (Cert.Kernel34.defs (F := Bits)) = defs := by
    unfold Cert.Kernel34.defs Cert.Kernel34Ideal.defs
    rw [hb]
    rfl
  rw [hd, show (Cert.Kernel34.main (F := Bits)) = main from rfl]
  exact Gen.frame (F := Bits) m ρ

/-- The idealized kernel's frame. -/
theorem frame_ideal : Cert.quiescent_Kernel34Ideal := fun m ρ _ => Gen.frame (F := Ideal) m ρ

/-- The reference's frame: host operations only, and no semaphore declared. -/
theorem frame_reference : Cert.quiescent_Reference34Ideal := fun m ρ _ =>
  (θ_run Cert.Reference34Ideal.defs _ _).mono
    (fun _ h => ⟨fun c => (h c).2.2, funext fun s => by rcases s with ⟨_, s | s⟩ <;> exact s.elim0⟩)
    (Cert.Reference34Ideal.Value.run (F := Ideal) m ρ)

set_option maxRecDepth 65536 in
/-- Each block of the kernel's results is the block of the reference's. -/
theorem algebraic : Cert.algebraic_Kernel34Ideal_Reference34Ideal := by
  pair_intro
  · run_from Value.run_blocks (F := Ideal) m g & Gen.frame (F := Ideal) m g
  · run_from Cert.Reference34Ideal.Value.run (F := Ideal) m' g'
    · refine ((dats m 0 c).arrAt_eq_of_covers 2 _ (by decide +kernel) fun t hf y => ?_).symm
      blk_simp
      rw [after0_2]
      frame_out
      pointwise [k0_pay1, k0_pay2]
      blk_point [iblk, V, (idx t).1, (idx t).2.1, (idx t).2.2.1, (idx t).2.2.2]
    · refine ((dats m 0 c).arrAt_eq_of_covers 3 _ (by decide +kernel) fun t hf y => ?_).symm
      blk_simp
      rw [after0_3]
      frame_out
      pointwise [k0_pay1, k0_pay2]
      blk_point [iblk, V, (idx t).1, (idx t).2.1, (idx t).2.2.1, (idx t).2.2.2]

end Cert.Proof.PairNarrow
-- ==== Proof.PairWide.lean ====
module

public import proofs.«01_k».proof.Defs
public import proofs.«01_k».proof.Proof.Gen.Kernel35
public import proofs.«01_k».proof.Proof.Gen.Kernel35Ideal.Value
public import proofs.«01_k».proof.Proof.Gen.Reference35Ideal.Run
public import proofs.«01_k».proof.Proof.Elementwise
public import Idealize.ShloMosaic.Lib.Claim
public import Idealize.ShloMosaic.Lib.Pipeline.ValueKit
public import Idealize.ShloMosaic.Lib.Pointwise

/-! The sum of the two halves of a pair: 704 columns. -/

@[expose] public section

namespace Cert.Proof.PairWide

open Idealize.ShloMosaic Idealize.ShloMosaic.TcCoe Idealize.ShloMosaic.Tactic Idealize.SL.Sem
open Cert.Kernel35Ideal Cert.Kernel35Ideal.Gen

/-- The blocks that grid point `t` works on. -/
theorem idx : ∀ t : Fin cfg0.N, win0_0.index t = ![t.val / 4, t.val % 4, 0]
    ∧ win0_1.index t = ![t.val / 4, t.val % 4, 0]
    ∧ win0_2.index t = ![t.val / 4, t.val % 4, 0]
    ∧ win0_3.index t = ![t.val / 4, t.val % 4, 0] := by decide +kernel

/-- The kernel's frame at the machine's own formats: its text is its idealization's, whose run is over any floats. -/
theorem frame_kernel : Cert.quiescent_Kernel35 := by
  intro m ρ _
  have hb : (Cert.Kernel35.defs₀ (F := Bits)) = defs₀ := congrArg Defs.onTc (funext fun l => match l with | 0 => rfl)
  have hd : (Cert.Kernel35.defs (F := Bits)) = defs := by
    unfold Cert.Kernel35.defs Cert.Kernel35Ideal.defs
    rw [hb]
    rfl
  rw [hd, show (Cert.Kernel35.main (F := Bits)) = main from rfl]
  exact Gen.frame (F := Bits) m ρ

/-- The idealized kernel's frame. -/
theorem frame_ideal : Cert.quiescent_Kernel35Ideal := fun m ρ _ => Gen.frame (F := Ideal) m ρ

/-- The reference's frame: host operations only, and no semaphore declared. -/
theorem frame_reference : Cert.quiescent_Reference35Ideal := fun m ρ _ =>
  (θ_run Cert.Reference35Ideal.defs _ _).mono
    (fun _ h => ⟨fun c => (h c).2.2, funext fun s => by rcases s with ⟨_, s | s⟩ <;> exact s.elim0⟩)
    (Cert.Reference35Ideal.Value.run (F := Ideal) m ρ)

set_option maxRecDepth 65536 in
/-- Each block of the kernel's results is the block of the reference's. -/
theorem algebraic : Cert.algebraic_Kernel35Ideal_Reference35Ideal := by
  pair_intro
  · run_from Value.run_blocks (F := Ideal) m g & Gen.frame (F := Ideal) m g
  · run_from Cert.Reference35Ideal.Value.run (F := Ideal) m' g'
    · refine ((dats m 0 c).arrAt_eq_of_covers 2 _ (by decide +kernel) fun t hf y => ?_).symm
      blk_simp
      rw [after0_2]
      frame_out
      pointwise [k0_pay1, k0_pay2]
      blk_point [iblk, V, (idx t).1, (idx t).2.1, (idx t).2.2.1, (idx t).2.2.2]
    · refine ((dats m 0 c).arrAt_eq_of_covers 3 _ (by decide +kernel) fun t hf y => ?_).symm
      blk_simp
      rw [after0_3]
      frame_out
      pointwise [k0_pay1, k0_pay2]
      blk_point [iblk, V, (idx t).1, (idx t).2.1, (idx t).2.2.1, (idx t).2.2.2]

end Cert.Proof.PairWide
-- ==== Proof.PairConv.lean ====
module

public import proofs.«01_k».proof.Defs
public import proofs.«01_k».proof.Proof.Gen.Kernel36
public import proofs.«01_k».proof.Proof.Gen.Kernel36Ideal.Value
public import proofs.«01_k».proof.Proof.Gen.Reference36Ideal.Run
public import proofs.«01_k».proof.Proof.Elementwise
public import Idealize.ShloMosaic.Lib.Claim
public import Idealize.ShloMosaic.Lib.Pipeline.ValueKit
public import Idealize.ShloMosaic.Lib.Pointwise

/-! The sum of the two halves of a pair: the convolution weights. -/

@[expose] public section

namespace Cert.Proof.PairConv

open Idealize.ShloMosaic Idealize.ShloMosaic.TcCoe Idealize.ShloMosaic.Tactic Idealize.SL.Sem
open Cert.Kernel36Ideal Cert.Kernel36Ideal.Gen

/-- The blocks that grid point `t` works on. -/
theorem idx : ∀ t : Fin cfg0.N, win0_0.index t = ![t.val, 0, 0]
    ∧ win0_1.index t = ![t.val, 0, 0]
    ∧ win0_2.index t = ![t.val, 0, 0]
    ∧ win0_3.index t = ![t.val, 0, 0] := by decide +kernel

/-- The kernel's frame at the machine's own formats: its text is its idealization's, whose run is over any floats. -/
theorem frame_kernel : Cert.quiescent_Kernel36 := by
  intro m ρ _
  have hb : (Cert.Kernel36.defs₀ (F := Bits)) = defs₀ := congrArg Defs.onTc (funext fun l => match l with | 0 => rfl)
  have hd : (Cert.Kernel36.defs (F := Bits)) = defs := by
    unfold Cert.Kernel36.defs Cert.Kernel36Ideal.defs
    rw [hb]
    rfl
  rw [hd, show (Cert.Kernel36.main (F := Bits)) = main from rfl]
  exact Gen.frame (F := Bits) m ρ

/-- The idealized kernel's frame. -/
theorem frame_ideal : Cert.quiescent_Kernel36Ideal := fun m ρ _ => Gen.frame (F := Ideal) m ρ

/-- The reference's frame: host operations only, and no semaphore declared. -/
theorem frame_reference : Cert.quiescent_Reference36Ideal := fun m ρ _ =>
  (θ_run Cert.Reference36Ideal.defs _ _).mono
    (fun _ h => ⟨fun c => (h c).2.2, funext fun s => by rcases s with ⟨_, s | s⟩ <;> exact s.elim0⟩)
    (Cert.Reference36Ideal.Value.run (F := Ideal) m ρ)

set_option maxRecDepth 65536 in
/-- Each block of the kernel's results is the block of the reference's. -/
theorem algebraic : Cert.algebraic_Kernel36Ideal_Reference36Ideal := by
  pair_intro
  · run_from Value.run_blocks (F := Ideal) m g & Gen.frame (F := Ideal) m g
  · run_from Cert.Reference36Ideal.Value.run (F := Ideal) m' g'
    · refine ((dats m 0 c).arrAt_eq_of_covers 2 _ (by decide +kernel) fun t hf y => ?_).symm
      blk_simp
      rw [after0_2]
      frame_out
      pointwise [k0_pay1]
      blk_point [iblk, V, (idx t).1, (idx t).2.1, (idx t).2.2.1, (idx t).2.2.2]
    · refine ((dats m 0 c).arrAt_eq_of_covers 3 _ (by decide +kernel) fun t hf y => ?_).symm
      blk_simp
      rw [after0_3]
      frame_out
      pointwise [k0_pay1]
      blk_point [iblk, V, (idx t).1, (idx t).2.1, (idx t).2.2.1, (idx t).2.2.2]

end Cert.Proof.PairConv
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Frame
public import proofs.«01_k».proof.Proof.SameText
public import proofs.«01_k».proof.Proof.HostValue
public import proofs.«01_k».proof.Proof.Finite
public import proofs.«01_k».proof.Proof.FfnDh
public import proofs.«01_k».proof.Proof.FfnDwUp
public import proofs.«01_k».proof.Proof.FfnDgate
public import proofs.«01_k».proof.Proof.FfnDwDown
public import proofs.«01_k».proof.Proof.AttnDo
public import proofs.«01_k».proof.Proof.SquareDw
public import proofs.«01_k».proof.Proof.SquareDh
public import proofs.«01_k».proof.Proof.KvDw
public import proofs.«01_k».proof.Proof.KvDh
public import proofs.«01_k».proof.Proof.GluDw
public import proofs.«01_k».proof.Proof.GluDy
public import proofs.«01_k».proof.Proof.FfnUp
public import proofs.«01_k».proof.Proof.FfnDown
public import proofs.«01_k».proof.Proof.S5In
public import proofs.«01_k».proof.Proof.S5Glu
public import proofs.«01_k».proof.Proof.KvProj
public import proofs.«01_k».proof.Proof.AttnQ
public import proofs.«01_k».proof.Proof.AttnOut
public import proofs.«01_k».proof.Proof.GluBack
public import proofs.«01_k».proof.Proof.NormBack
public import proofs.«01_k».proof.Proof.LossHead
public import proofs.«01_k».proof.Proof.NormForward
public import proofs.«01_k».proof.Proof.GluForward
public import proofs.«01_k».proof.Proof.GateForward
public import proofs.«01_k».proof.Proof.AdamwPack
public import proofs.«01_k».proof.Proof.AdamwNarrow
public import proofs.«01_k».proof.Proof.AdamwWide
public import proofs.«01_k».proof.Proof.AdamwConv
public import proofs.«01_k».proof.Proof.AdamwSmall
public import proofs.«01_k».proof.Proof.PairRows
public import proofs.«01_k».proof.Proof.PairNarrow
public import proofs.«01_k».proof.Proof.PairWide
public import proofs.«01_k».proof.Proof.PairConv
public import Idealize.ShloMosaic.Lib.Claim

/-! The certificate: the frames of the kernel and of the reference, and the equality of their results over the reals. -/

@[expose] public section

namespace Cert.Proof

open Idealize.ShloMosaic Idealize.ShloMosaic.TcCoe Idealize.SL.Sem
open Cert.Proof.RealMat Cert.Proof.Model
open Cert.Proof.ReferenceIdeal (qs)

attribute [local instance] Cert.Proof.Finite.facts

/-- The idealized kernel's frame. -/
theorem frame_kernelIdeal : Cert.quiescent_KernelIdeal := fun m ρ _ =>
  Cert.Proof.KernelIdeal.frame_main (F := Ideal) m ρ

/-- The same under the precondition. -/
theorem frame_kernelIdeal_finite : Cert.quiescent_KernelIdeal_pre_finite := fun m ρ _ =>
  Cert.Proof.KernelIdeal.frame_main (F := Ideal) m ρ

/-- The reference's frame: host operations only, and no semaphore declared. -/
theorem frame_referenceIdeal : Cert.quiescent_ReferenceIdeal := fun m ρ _ =>
  (θ_run Cert.ReferenceIdeal.defs _ _).mono
    (fun _ h => ⟨fun c => (h c).2.2, funext fun s => by rcases s with ⟨_, s | s⟩ <;> exact s.elim0⟩)
    (Cert.ReferenceIdeal.Value.run (F := Ideal) m ρ)

/-- The same under the precondition. -/
theorem frame_referenceIdeal_finite : Cert.quiescent_ReferenceIdeal_pre_finite := fun m ρ _ =>
  frame_referenceIdeal m ρ trivial

/-- The two results of both programs, from the same finite inputs: the two matrices of real numbers of `Model`. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (h0 : m' ((c.tc : Thread _ _).loc Cert.ReferenceIdeal.main_arg0) = m ((c.tc : Thread _ _).loc Cert.KernelIdeal.main_arg0))
    (h1 : m' ((c.tc : Thread _ _).loc Cert.ReferenceIdeal.main_arg1) = m ((c.tc : Thread _ _).loc Cert.KernelIdeal.main_arg1))
    (h2 : m' ((c.tc : Thread _ _).loc Cert.ReferenceIdeal.main_arg2) = m ((c.tc : Thread _ _).loc Cert.KernelIdeal.main_arg2)) :
    ∃ Q KV D : ℕ → ℕ → ℝ,
      (StableHlo.launchContents m' c (Proc.devRef .tc Cert.ReferenceIdeal.main_arg0) = (M2 Q : FVec Ideal Cert.ReferenceIdeal.S4096x1024 .f32))
      ∧ (StableHlo.launchContents m' c (Proc.devRef .tc Cert.ReferenceIdeal.main_arg1) = (M2 KV : FVec Ideal Cert.ReferenceIdeal.S4096x2048 .f32))
      ∧ (StableHlo.launchContents m' c (Proc.devRef .tc Cert.ReferenceIdeal.main_arg2) = (M2 D : FVec Ideal Cert.ReferenceIdeal.S4096x1024 .f32))
      ∧ ((Cert.Proof.KernelIdeal.dats m 0 c).arrAt 4 Cert.KernelIdeal.cfg0.N
        = (M2 (fun t l => dqk (qs Q) D KV (l / 64) 4096 t (l % 64) * 0.125) : FVec Ideal Cert.KernelIdeal.S4096x1024 .bf16))
      ∧ ((Cert.Proof.KernelIdeal.dats m 0 c).arrAt 5 Cert.KernelIdeal.cfg0.N
        = (M2 (fun s l => ∑ b ∈ Finset.range 32, cb (qs Q) D KV (128 * b) (l / 128) s (l % 128)) :
          FVec Ideal Cert.KernelIdeal.S4096x2048 .f32)) := by
  obtain ⟨⟨Q, hQ⟩, ⟨KV, hKV⟩, ⟨D, hD⟩⟩ := Cert.Proof.Finite.of_finite _ _ _ (hpre c)
  have e27 := Cert.Proof.KernelIdeal.V_v27 m c Q hQ
  have e28 := Cert.Proof.KernelIdeal.V_v28 m c KV hKV
  have e29 := Cert.Proof.KernelIdeal.V_v29 m c D hD
  have e24 := Cert.Proof.KernelIdeal.V_v24_M2 m c Q KV (StableHlo.launchContents m' c) h0 h1 hQ hKV
  exact ⟨Q, KV, D, h0.trans hQ, h1.trans hKV, h2.trans hD,
    Cert.Proof.KernelIdeal.arr4_M2 m c (qs Q) D KV e27 e28 e29 e24,
    Cert.Proof.KernelIdeal.arr5_M2 m c (qs Q) D KV e27 e28 e29 e24⟩

/-- The kernel's results over the reals are the reference's. -/
theorem algebraic : Cert.algebraic_KernelIdeal_ReferenceIdeal_pre_finite := by
  pair_intro
  · run_from Cert.Proof.KernelIdeal.run_main (F := Ideal) m g & (θ_run Cert.KernelIdeal.defs _ _).mono
      (fun _ h => h.1) (Cert.Proof.KernelIdeal.frame_main (F := Ideal) m g)
  · run_from Cert.ReferenceIdeal.Value.run (F := Ideal) m' g'
    · obtain ⟨h0, h1, h2⟩ := hagree c
      obtain ⟨Q, KV, D, e0, e1, e2, k4, k5⟩ := results m m' hpre c h0 h1 h2
      exact (Cert.Proof.ReferenceIdeal.ref_dq (StableHlo.launchContents m' c) Q KV D e0 e1 e2).trans k4.symm
    · obtain ⟨h0, h1, h2⟩ := hagree c
      obtain ⟨Q, KV, D, e0, e1, e2, k4, k5⟩ := results m m' hpre c h0 h1 h2
      exact (Cert.Proof.ReferenceIdeal.ref_dkv (StableHlo.launchContents m' c) Q KV D e0 e1 e2).trans k5.symm

/-- Everything claimed. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts, Cert.Kernel13.Gen.facts, Cert.Kernel13Ideal.Gen.facts,
    Cert.Reference13Ideal.Gen.facts, Cert.Kernel14.Gen.facts, Cert.Kernel14Ideal.Gen.facts,
    Cert.Reference14Ideal.Gen.facts, Cert.Kernel15.Gen.facts, Cert.Kernel15Ideal.Gen.facts,
    Cert.Reference15Ideal.Gen.facts, Cert.Kernel16.Gen.facts, Cert.Kernel16Ideal.Gen.facts,
    Cert.Reference16Ideal.Gen.facts, Cert.Kernel17.Gen.facts, Cert.Kernel17Ideal.Gen.facts,
    Cert.Reference17Ideal.Gen.facts, Cert.Kernel18.Gen.facts, Cert.Kernel18Ideal.Gen.facts,
    Cert.Reference18Ideal.Gen.facts, Cert.Kernel19.Gen.facts, Cert.Kernel19Ideal.Gen.facts,
    Cert.Reference19Ideal.Gen.facts, Cert.Kernel20.Gen.facts, Cert.Kernel20Ideal.Gen.facts,
    Cert.Reference20Ideal.Gen.facts, Cert.Kernel21.Gen.facts, Cert.Kernel21Ideal.Gen.facts,
    Cert.Reference21Ideal.Gen.facts, Cert.Kernel25.Gen.facts, Cert.Kernel25Ideal.Gen.facts,
    Cert.Reference25Ideal.Gen.facts, Cert.Kernel26.Gen.facts, Cert.Kernel26Ideal.Gen.facts,
    Cert.Reference26Ideal.Gen.facts, Cert.Kernel28.Gen.facts, Cert.Kernel28Ideal.Gen.facts,
    Cert.Reference28Ideal.Gen.facts, Cert.Kernel29.Gen.facts, Cert.Kernel29Ideal.Gen.facts,
    Cert.Reference29Ideal.Gen.facts, Cert.Kernel30.Gen.facts, Cert.Kernel30Ideal.Gen.facts,
    Cert.Reference30Ideal.Gen.facts, Cert.Kernel31.Gen.facts, Cert.Kernel31Ideal.Gen.facts,
    Cert.Reference31Ideal.Gen.facts, Cert.Kernel32.Gen.facts, Cert.Kernel32Ideal.Gen.facts,
    Cert.Reference32Ideal.Gen.facts, Cert.Kernel33.Gen.facts, Cert.Kernel33Ideal.Gen.facts,
    Cert.Reference33Ideal.Gen.facts, Cert.Kernel34.Gen.facts, Cert.Kernel34Ideal.Gen.facts,
    Cert.Reference34Ideal.Gen.facts, Cert.Kernel35.Gen.facts, Cert.Kernel35Ideal.Gen.facts,
    Cert.Reference35Ideal.Gen.facts, Cert.Kernel36.Gen.facts, Cert.Kernel36Ideal.Gen.facts,
    Cert.Reference36Ideal.Gen.facts, Cert.Kernel24.Gen.facts, Cert.Kernel24Ideal.Gen.facts,
    Cert.Reference24Ideal.Gen.facts, Cert.Kernel27.Gen.facts, Cert.Kernel27Ideal.Gen.facts,
    Cert.Reference27Ideal.Gen.facts, Finite.facts, frame_kernel, frame_kernelIdeal, frame_kernelIdeal_finite,
    frame_referenceIdeal, frame_referenceIdeal_finite, FfnDh.frame_kernel, FfnDh.frame_ideal, FfnDh.frame_reference,
    FfnDwUp.frame_kernel, FfnDwUp.frame_ideal, FfnDwUp.frame_reference, FfnDgate.frame_kernel, FfnDgate.frame_ideal,
    FfnDgate.frame_reference, FfnDwDown.frame_kernel, FfnDwDown.frame_ideal, FfnDwDown.frame_reference,
    AttnDo.frame_kernel, AttnDo.frame_ideal, AttnDo.frame_reference, SquareDw.frame_kernel, SquareDw.frame_ideal,
    SquareDw.frame_reference, SquareDh.frame_kernel, SquareDh.frame_ideal, SquareDh.frame_reference,
    KvDw.frame_kernel, KvDw.frame_ideal, KvDw.frame_reference, KvDh.frame_kernel, KvDh.frame_ideal,
    KvDh.frame_reference, GluDw.frame_kernel, GluDw.frame_ideal, GluDw.frame_reference, GluDy.frame_kernel,
    GluDy.frame_ideal, GluDy.frame_reference, FfnUp.frame_kernel, FfnUp.frame_ideal, FfnUp.frame_reference,
    FfnDown.frame_kernel, FfnDown.frame_ideal, FfnDown.frame_reference, S5In.frame_kernel, S5In.frame_ideal,
    S5In.frame_reference, S5Glu.frame_kernel, S5Glu.frame_ideal, S5Glu.frame_reference, KvProj.frame_kernel,
    KvProj.frame_ideal, KvProj.frame_reference, AttnQ.frame_kernel, AttnQ.frame_ideal, AttnQ.frame_reference,
    AttnOut.frame_kernel, AttnOut.frame_ideal, AttnOut.frame_reference, GluBack.frame_kernel, GluBack.frame_ideal,
    GluBack.frame_reference, NormBack.frame_kernel, NormBack.frame_ideal, NormBack.frame_reference,
    NormForward.frame_kernel, NormForward.frame_ideal, NormForward.frame_reference, GluForward.frame_kernel,
    GluForward.frame_ideal, GluForward.frame_reference, AdamwPack.frame_kernel, AdamwPack.frame_ideal,
    AdamwPack.frame_reference, AdamwNarrow.frame_kernel, AdamwNarrow.frame_ideal, AdamwNarrow.frame_reference,
    AdamwWide.frame_kernel, AdamwWide.frame_ideal, AdamwWide.frame_reference, AdamwConv.frame_kernel,
    AdamwConv.frame_ideal, AdamwConv.frame_reference, AdamwSmall.frame_kernel, AdamwSmall.frame_ideal,
    AdamwSmall.frame_reference, PairRows.frame_kernel, PairRows.frame_ideal, PairRows.frame_reference,
    PairNarrow.frame_kernel, PairNarrow.frame_ideal, PairNarrow.frame_reference, PairWide.frame_kernel,
    PairWide.frame_ideal, PairWide.frame_reference, PairConv.frame_kernel, PairConv.frame_ideal,
    PairConv.frame_reference, LossHead.frame_kernel, LossHead.frame_ideal, LossHead.frame_reference,
    GateForward.frame_kernel, GateForward.frame_ideal, GateForward.frame_reference, trivial, algebraic, trivial,
    FfnDh.algebraic, trivial, FfnDwUp.algebraic, trivial, FfnDgate.algebraic, trivial, FfnDwDown.algebraic, trivial,
    AttnDo.algebraic, trivial, SquareDw.algebraic, trivial, SquareDh.algebraic, trivial, KvDw.algebraic, trivial,
    KvDh.algebraic, trivial, GluDw.algebraic, trivial, GluDy.algebraic, trivial, FfnUp.algebraic, trivial,
    FfnDown.algebraic, trivial, S5In.algebraic, trivial, S5Glu.algebraic, trivial, KvProj.algebraic, trivial,
    AttnQ.algebraic, trivial, AttnOut.algebraic, trivial, GluBack.algebraic, trivial, NormBack.algebraic, trivial,
    NormForward.algebraic, trivial, GluForward.algebraic, trivial, AdamwPack.algebraic, trivial,
    AdamwNarrow.algebraic, trivial, AdamwWide.algebraic, trivial, AdamwConv.algebraic, trivial, AdamwSmall.algebraic,
    trivial, PairRows.algebraic, trivial, PairNarrow.algebraic, trivial, PairWide.algebraic, trivial,
    PairConv.algebraic, trivial, LossHead.algebraic, trivial, GateForward.algebraic⟩

end Cert.Proof
